-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite2 [hPre_finite2 : Cert.Pre_finite2.Facts] (m : (ℓ : Loc Cert.DiffIdeal.nD Cert.DiffIdeal.τ Cert.DiffIdeal.sig) → Buf (Elt Ideal) ℓ) : Prop :=
  ∀ c : Dev Cert.DiffIdeal.nD,
    (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite2 [hPre_finite2 : Cert.Pre_finite2.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite2.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite2 [hDiffIdeal : Cert.DiffIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite2 m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_DiffReferenceIdeal_pre_finite2 [hDiffReferenceIdeal : Cert.DiffReferenceIdeal.Facts] [hPre_finite2 : Cert.Pre_finite2.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite2 m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Diff_DiffIdeal : Prop :=
  IdealRules.named_const.Statement Cert.DiffIdeal.κ "minus_inf" .f32 0xF149F2CA#32 ⊥

def algebraic_DiffIdeal_DiffReferenceIdeal_pre_finite2 [hDiffIdeal : Cert.DiffIdeal.Facts] [hDiffReferenceIdeal : Cert.DiffReferenceIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_finite2 m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)
      ∧ m' ((c.tc : Thread Cert.DiffReferenceIdeal.nD Cert.DiffReferenceIdeal.τ).loc Cert.DiffReferenceIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v15)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v15) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v64) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5))

def preserves_Proj_ProjIdeal : Prop :=
  IdealRules.named_const.Statement Cert.ProjIdeal.κ "base_two_scale" .f32 0x3E8293EE#32 ((((Real.sqrt 32) * (Real.log 2))⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v79_0)) (v1 : (c : Dev Cert.ProjIdeal.nD) → Buf (Elt Ideal) ((c.tc : Thread Cert.ProjIdeal.nD Cert.ProjIdeal.τ).loc Cert.ProjIdeal.main_v79_1)) (v2 : (c : Dev Cert.ProjIdeal.nD) → Buf (Elt Ideal) ((c.tc : Thread Cert.ProjIdeal.nD Cert.ProjIdeal.τ).loc Cert.ProjIdeal.main_v79_2)) (v3 : (c : Dev Cert.ProjIdeal.nD) → Buf (Elt Ideal) ((c.tc : Thread Cert.ProjIdeal.nD Cert.ProjIdeal.τ).loc Cert.ProjIdeal.main_v79_3)) (v4 : (c : Dev Cert.ProjIdeal.nD) → Buf (Elt Ideal) ((c.tc : Thread Cert.ProjIdeal.nD Cert.ProjIdeal.τ).loc Cert.ProjIdeal.main_v79_4)) (v5 : (c : Dev Cert.ProjIdeal.nD) → Buf (Elt Ideal) ((c.tc : Thread Cert.ProjIdeal.nD Cert.ProjIdeal.τ).loc Cert.ProjIdeal.main_v79_5)) (v6 : (c : Dev Cert.ProjIdeal.nD) → Buf (Elt Ideal) ((c.tc : Thread Cert.ProjIdeal.nD Cert.ProjIdeal.τ).loc Cert.ProjIdeal.main_v79_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v79_0) = v0 c
          ∧ r.2.mem ((c.tc : Thread Cert.ProjIdeal.nD Cert.ProjIdeal.τ).loc Cert.ProjIdeal.main_v79_1) = v1 c
          ∧ r.2.mem ((c.tc : Thread Cert.ProjIdeal.nD Cert.ProjIdeal.τ).loc Cert.ProjIdeal.main_v79_2) = v2 c
          ∧ r.2.mem ((c.tc : Thread Cert.ProjIdeal.nD Cert.ProjIdeal.τ).loc Cert.ProjIdeal.main_v79_3) = v3 c
          ∧ r.2.mem ((c.tc : Thread Cert.ProjIdeal.nD Cert.ProjIdeal.τ).loc Cert.ProjIdeal.main_v79_4) = v4 c
          ∧ r.2.mem ((c.tc : Thread Cert.ProjIdeal.nD Cert.ProjIdeal.τ).loc Cert.ProjIdeal.main_v79_5) = v5 c
          ∧ r.2.mem ((c.tc : Thread Cert.ProjIdeal.nD Cert.ProjIdeal.τ).loc Cert.ProjIdeal.main_v79_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v233) = v0 c
          ∧ r.2.mem ((c.tc : Thread Cert.ProjReferenceIdeal.nD Cert.ProjReferenceIdeal.τ).loc Cert.ProjReferenceIdeal.main_v235) = v1 c
          ∧ r.2.mem ((c.tc : Thread Cert.ProjReferenceIdeal.nD Cert.ProjReferenceIdeal.τ).loc Cert.ProjReferenceIdeal.main_v236) = v2 c
          ∧ r.2.mem ((c.tc : Thread Cert.ProjReferenceIdeal.nD Cert.ProjReferenceIdeal.τ).loc Cert.ProjReferenceIdeal.main_v237) = v3 c
          ∧ r.2.mem ((c.tc : Thread Cert.ProjReferenceIdeal.nD Cert.ProjReferenceIdeal.τ).loc Cert.ProjReferenceIdeal.main_v239) = v4 c
          ∧ r.2.mem ((c.tc : Thread Cert.ProjReferenceIdeal.nD Cert.ProjReferenceIdeal.τ).loc Cert.ProjReferenceIdeal.main_v242) = v5 c
          ∧ r.2.mem ((c.tc : Thread Cert.ProjReferenceIdeal.nD Cert.ProjReferenceIdeal.τ).loc Cert.ProjReferenceIdeal.main_v243) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def Claim : Prop :=
  ∃ (hKernel : Cert.Kernel.Facts) (hKernelIdeal : Cert.KernelIdeal.Facts) (hReferenceIdeal : Cert.ReferenceIdeal.Facts) (hDiff : Cert.Diff.Facts) (hDiffIdeal : Cert.DiffIdeal.Facts) (hDiffReferenceIdeal : Cert.DiffReferenceIdeal.Facts) (hProj : Cert.Proj.Facts) (hProjIdeal : Cert.ProjIdeal.Facts) (hProjReferenceIdeal : Cert.ProjReferenceIdeal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Diff (hDiff := hDiff)
    ∧ quiescent_DiffIdeal (hDiffIdeal := hDiffIdeal)
    ∧ quiescent_DiffIdeal_pre_finite2 (hDiffIdeal := hDiffIdeal) (hPre_finite2 := hPre_finite2)
    ∧ quiescent_DiffReferenceIdeal (hDiffReferenceIdeal := hDiffReferenceIdeal)
    ∧ quiescent_DiffReferenceIdeal_pre_finite2 (hDiffReferenceIdeal := hDiffReferenceIdeal) (hPre_finite2 := hPre_finite2)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Diff_DiffIdeal
    ∧ algebraic_DiffIdeal_DiffReferenceIdeal_pre_finite2 (hDiffIdeal := hDiffIdeal) (hDiffReferenceIdeal := hDiffReferenceIdeal) (hPre_finite2 := hPre_finite2)
    ∧ preserves_Proj_ProjIdeal
    ∧ algebraic_ProjIdeal_ProjReferenceIdeal (hProjIdeal := hProjIdeal) (hProjReferenceIdeal := hProjReferenceIdeal)
-- ==== Pre_finite2.lean ====
abbrev S4x32 : Shape := ⟨2, ![4, 32]⟩
abbrev S2x8192x256 : Shape := ⟨3, ![2, 8192, 256]⟩
abbrev S2x256x256 : Shape := ⟨3, ![2, 256, 256]⟩
abbrev S_ : Shape := ⟨0, ![]⟩

class Facts : Prop where
  bcast_S_S4x32 : S_.BroadcastsInDim S4x32 (![] : Fin 0 → Fin S4x32.rank)
  reducesTo_S4x32_S_d0_1 : S4x32.ReducesTo [0, 1] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_

variable [Facts]

def fn_part1 {F : FTy → Type} [FloatOps F] (main_arg4 : FVec F S2x256x256 .f32) (main_arg5 : FVec F S2x256x256 .f32) (main_v13 : IVec S_ 1) (main_v16 : IVec S2x8192x256 1) : IVec S_ 1 :=
  let main_c_5 : IVec S_ 1 := constantI S_ 1 1#1
  let main_v17 : IVec S_ 1 := (fun x v => Host.reduce IntOp.andi x v reducesTo_S2x8192x256_S_d0_1_2 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256x256 .f32 := Host.absf main_arg5
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  main_v28

def fn {F : FTy → Type} [FloatOps F] (main_arg0 : FVec F S4x32 .f32) (main_arg1 : FVec F S2x8192x256 .f32) (main_arg2 : FVec F S2x8192x256 .f32) (main_arg3 : FVec F S2x8192x256 .f32) (main_arg4 : FVec F S2x256x256 .f32) (main_arg5 : FVec F S2x256x256 .f32) : IVec S_ 1 :=
  let main_v0 : FVec F S4x32 .f32 := Host.absf main_arg0
  let main_cst : FVec F S_ .f32 := constant S_ .f32 0x7F800000#32
  let main_v1 : FVec F S4x32 .f32 := broadcastInDim S4x32 ![] bcast_S_S4x32 main_cst
  let main_v2 : IVec S4x32 1 := cmpf .olt main_v0 main_v1
  let main_c : IVec S_ 1 := constantI S_ 1 1#1
  let main_v3 : IVec S_ 1 := (fun x v => Host.reduce IntOp.andi x v reducesTo_S4x32_S_d0_1 h_S_) main_v2 main_c
  let main_v4 : FVec F S2x8192x256 .f32 := Host.absf main_arg1
  let main_cst_0 : FVec F S_ .f32 := constant S_ .f32 0x7F800000#32
  let main_v5 : FVec F S2x8192x256 .f32 := broadcastInDim S2x8192x256 ![] bcast_S_S2x8192x256 main_cst_0
  let main_v6 : IVec S2x8192x256 1 := cmpf .olt main_v4 main_v5
  let main_c_1 : IVec S_ 1 := constantI S_ 1 1#1
  let main_v7 : IVec S_ 1 := (fun x v => Host.reduce IntOp.andi x v reducesTo_S2x8192x256_S_d0_1_2 h_S_) main_v6 main_c_1
  let main_v8 : IVec S_ 1 := andi main_v3 main_v7
  let main_v9 : FVec F S2x8192x256 .f32 := Host.absf main_arg2
  let main_cst_2 : FVec F S_ .f32 := constant S_ .f32 0x7F800000#32
  let main_v10 : FVec F S2x8192x256 .f32 := broadcastInDim S2x8192x256 ![] bcast_S_S2x8192x256 main_cst_2
  let main_v11 : IVec S2x8192x256 1 := cmpf .olt main_v9 main_v10
  let main_c_3 : IVec S_ 1 := constantI S_ 1 1#1
  let main_v12 : IVec S_ 1 := (fun x v => Host.reduce IntOp.andi x v reducesTo_S2x8192x256_S_d0_1_2 h_S_) main_v11 main_c_3
  let main_v13 : IVec S_ 1 := andi main_v8 main_v12
  let main_v14 : FVec F S2x8192x256 .f32 := Host.absf main_arg3
  let main_cst_4 : FVec F S_ .f32 := constant S_ .f32 0x7F800000#32
  let main_v15 : FVec F S2x8192x256 .f32 := broadcastInDim S2x8192x256 ![] bcast_S_S2x8192x256 main_cst_4
  let main_v16 : IVec S2x8192x256 1 := cmpf .olt main_v14 main_v15
  fn_part1 (F := F) main_arg4 main_arg5 main_v13 main_v16
-- ==== Kernel.lean ====
abbrev S2x8192x1024 : Shape := ⟨3, ![2, 8192, 1024]⟩
abbrev S2x1x1024 : Shape := ⟨3, ![2, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x16x1024 : Shape := ⟨3, ![1, 16, 1024]⟩
abbrev S1x1024x1024 : Shape := ⟨3, ![1, 1024, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S1x1x1024 : Shape := ⟨3, ![1, 1, 1024]⟩
abbrev S1056x1024 : Shape := ⟨2, ![1056, 1024]⟩
abbrev S1024x1024 : Shape := ⟨2, ![1024, 1024]⟩
abbrev S16x1024 : Shape := ⟨2, ![16, 1024]⟩
abbrev S1056x256 : Shape := ⟨2, ![1056, 256]⟩
abbrev S1x1024 : Shape := ⟨2, ![1, 1024]⟩

abbrev nBuf : Space → Nat
  | .hbm => 11
  | .vmem => 28
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1x1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S1x5632, .f32⟩
  | .hbm, ⟨10, _⟩ => ⟨S2x8192x1024, .f32⟩
  | .local _ .vmem, ⟨0, _⟩ => ⟨S1x16x1024, .bf16⟩
  | .local _ .vmem, ⟨1, _⟩ => ⟨S1x16x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x1024, .bf16⟩
  | .local _ .vmem, ⟨19, _⟩ => ⟨S256x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1056x1024, .bf16⟩
  | .local _ .vmem, ⟨27, _⟩ => ⟨S1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v70 : BitVec 1 := Scalar.cmpi .eq arg2 c10_i32
  let v71 : BitVec 32 := Scalar.extui v70
  let c0_i32_27 : BitVec 32 := 0#32
  let v72 : BitVec 1 := Scalar.cmpi .ne v71 c0_i32_27
  v72

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S2x8192x1024 : Shape := ⟨3, ![2, 8192, 1024]⟩
abbrev S2x1x1024 : Shape := ⟨3, ![2, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1x1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S2x8192x1024, .f32⟩
  | .hbm, ⟨8, _⟩ => ⟨S2x8192x5632, .f32⟩
  | .hbm, ⟨9, _⟩ => ⟨S_, .i32⟩
  | .hbm, ⟨10, _⟩ => ⟨S_, .f32⟩
  | .hbm, ⟨11, _⟩ => ⟨S2x8194x5632, .f32⟩
  | .hbm, ⟨12, _⟩ => ⟨S2x8192x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S2x8192x5632, .f32⟩
  | .hbm, ⟨17, _⟩ => ⟨S2x8192x5632, .f32⟩
  | .hbm, ⟨18, _⟩ => ⟨S2x8192x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S2x8192x5632, .f32⟩
  | .hbm, ⟨23, _⟩ => ⟨S2x8192x5632, .f32⟩
  | .hbm, ⟨24, _⟩ => ⟨S2x8192x5632, .f32⟩
  | .hbm, ⟨25, _⟩ => ⟨S2x8192x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x8192x5632, .f32⟩
  | .hbm, ⟨30, _⟩ => ⟨S2x8192x5632, .f32⟩
  | .hbm, ⟨31, _⟩ => ⟨S2x8192x5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Diff.lean ====
abbrev S4x32 : Shape := ⟨2, ![4, 32]⟩
abbrev S2x8192x256 : Shape := ⟨3, ![2, 8192, 256]⟩
abbrev S2x256x256 : Shape := ⟨3, ![2, 256, 256]⟩
abbrev S_ : Shape := ⟨0, ![]⟩
abbrev S2x256x8192 : Shape := ⟨3, ![2, 256, 8192]⟩
abbrev S2x16x512x256 : Shape := ⟨4, ![2, 16, 512, 256]⟩
abbrev S2x16x256x512 : Shape := ⟨4, ![2, 16, 256, 512]⟩
abbrev S1x256x128 : Shape := ⟨3, ![1, 256, 128]⟩
abbrev S1x8192x256 : Shape := ⟨3, ![1, 8192, 256]⟩
abbrev S1x16x256x512 : Shape := ⟨4, ![1, 16, 256, 512]⟩
abbrev S1x256x256 : Shape := ⟨3, ![1, 256, 256]⟩
abbrev S1x128x256 : Shape := ⟨3, ![1, 128, 256]⟩
abbrev S256x1024 : Shape := ⟨2, ![256, 1024]⟩
abbrev S512x1024 : Shape := ⟨2, ![512, 1024]⟩
abbrev S1x1024 : Shape := ⟨2, ![1, 1024]⟩
abbrev S256x256 : Shape := ⟨2, ![256, 256]⟩
abbrev S256x128 : Shape := ⟨2, ![256, 128]⟩
abbrev S1x512x256 : Shape := ⟨3, ![1, 512, 256]⟩
abbrev S512x256 : Shape := ⟨2, ![512, 256]⟩
abbrev S256x512 : Shape := ⟨2, ![256, 512]⟩
abbrev S512x512 : Shape := ⟨2, ![512, 512]⟩
abbrev S1x512 : Shape := ⟨2, ![1, 512]⟩
abbrev S512 : Shape := ⟨1, ![512]⟩
abbrev S64x256 : Shape := ⟨2, ![64, 256]⟩
abbrev S1x256 : Shape := ⟨2, ![1, 256]⟩
abbrev S1x1x64x512 : Shape := ⟨4, ![1, 1, 64, 512]⟩
abbrev S64x512 : Shape := ⟨2, ![64, 512]⟩
abbrev S1x64x256 : Shape := ⟨3, ![1, 64, 256]⟩
abbrev S1x32 : Shape := ⟨2, ![1, 32]⟩
abbrev S1 : Shape := ⟨1, ![1]⟩
abbrev S1x1 : Shape := ⟨2, ![1, 1]⟩
abbrev S64x128 : Shape := ⟨2, ![64, 128]⟩
abbrev S1x128 : Shape := ⟨2, ![1, 128]⟩
abbrev S128x256 : Shape := ⟨2, ![128, 256]⟩

abbrev nBuf : Space → Nat
  | .hbm => 25
  | .vmem => 19
  | .smem => 0
  | _ => 0

abbrev bufTy : (tb : Table) → Fin (tcTables nBuf tb) → BufTy
  | .hbm, ⟨0, _⟩ => ⟨S4x32, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x256x256, .f32⟩
  | .hbm, ⟨5, _⟩ => ⟨S2x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x256, .f32⟩
  | .hbm, ⟨14, _⟩ => ⟨S2x8192x256, .f32⟩
  | .hbm, ⟨15, _⟩ => ⟨S2x256x8192, .f32⟩
  | .hbm, ⟨16, _⟩ => ⟨S2x256x8192, .bf16⟩
  | .hbm, ⟨17, _⟩ => ⟨S2x16x512x256, .f32⟩
  | .hbm, ⟨18, _⟩ => ⟨S2x16x256x512, .f32⟩
  | .hbm, ⟨19, _⟩ => ⟨S2x16x256x512, .bf16⟩
  | .hbm, ⟨20, _⟩ => ⟨S2x256x256, .f32⟩
  | .hbm, ⟨21, _⟩ => ⟨S2x256x256, .bf16⟩
  | .hbm, ⟨22, _⟩ => ⟨S2x8192x256, .bf16⟩
  | .hbm, ⟨23, _⟩ => ⟨S2x256x256, .bf16⟩
  | .hbm, ⟨24, _⟩ => ⟨S2x8192x256, .f32⟩
  | .local _ .vmem, ⟨0, _⟩ => ⟨S4x32, .f32⟩
  | .local _ .vmem, ⟨1, _⟩ => ⟨S1x256x128, .bf16⟩
  | .local _ .vmem, ⟨2, _⟩ => ⟨S1x256x128, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x16x256x512, .bf16⟩
  | .local _ .vmem, ⟨6, _⟩ => ⟨S1x16x256x512, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x128x256, .f32⟩
  | .local _ .vmem, ⟨12, _⟩ => ⟨S1x128x256, .f32⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S256x256, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_46 : BitVec 32 := 0#32
  let c7_i32_47 : BitVec 32 := 7#32
  let v107 : BitVec 32 := Scalar.addi c0_i32_46 c7_i32_47
  let c1_i32_48 : BitVec 32 := 1#32
  ⟨c0_i32_46, v107, c1_i32_48⟩
def k0_mult1 (k0_t1 : Fin k0_t1_loop.trips) : BitVec 32 :=
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let c1_i32_275 : BitVec 32 := 1#32
  let v477 : BitVec 32 := Scalar.addi v476 c1_i32_275
  let c512_i32 : BitVec 32 := 512#32
  let v478 : BitVec 32 := Scalar.muli v477 c512_i32
  v478
def k0_off1 (k0_t1 : Fin k0_t1_loop.trips) (c1_i32_275 : BitVec 32) : Fin 3 → Nat :=
  let c0_276 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let v477 : BitVec 32 := Scalar.addi v476 c1_i32_275
  let c512_i32 : BitVec 32 := 512#32
  let v478 : BitVec 32 := Scalar.muli v477 c512_i32
  let v479 : BitVec 32 := v478
  let v480 : Index := Scalar.indexCast v479
  let c0_277 : Index := 0#32
  ![0, v480.toNat, 0]
def k0_off2 (k0_t1 : Fin k0_t1_loop.trips) : Fin 4 → Nat :=
  let c0_302 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let v519 : Index := Scalar.indexCast v476
  let c0_303 : Index := 0#32
  let c0_304 : Index := 0#32
  ![0, v519.toNat, 0, 0]
def k0_off3 (k0_t1 : Fin k0_t1_loop.trips) : Fin 4 → Nat :=
  let c0_310 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let v532 : Index := Scalar.indexCast v476
  let c64_311 : Index := 64#32
  let c0_312 : Index := 0#32
  ![0, v532.toNat, 64, 0]
def k0_off4 (k0_t1 : Fin k0_t1_loop.trips) : Fin 4 → Nat :=
  let c0_330 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let v567 : Index := Scalar.indexCast v476
  let c128_331 : Index := 128#32
  let c0_332 : Index := 0#32
  ![0, v567.toNat, 128, 0]
def k0_off5 (k0_t1 : Fin k0_t1_loop.trips) : Fin 4 → Nat :=
  let c0_338 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let v580 : Index := Scalar.indexCast v476
  let c192_339 : Index := 192#32
  let c0_340 : Index := 0#32
  ![0, v580.toNat, 192, 0]
def k0_mult2 (k0_t1 : Fin k0_t1_loop.trips) : BitVec 32 :=
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let c2_i32_344 : BitVec 32 := 2#32
  let v589 : BitVec 32 := Scalar.addi v476 c2_i32_344
  let c512_i32_345 : BitVec 32 := 512#32
  let v590 : BitVec 32 := Scalar.muli v589 c512_i32_345
  v590
def k0_off6 (k0_t1 : Fin k0_t1_loop.trips) : Fin 4 → Nat :=
  let c0_373 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let c1_i32_358 : BitVec 32 := 1#32
  let v605 : BitVec 32 := Scalar.addi v476 c1_i32_358
  let v632 : Index := Scalar.indexCast v605
  let c0_374 : Index := 0#32
  let c0_375 : Index := 0#32
  ![0, v632.toNat, 0, 0]
def k0_off7 (k0_t1 : Fin k0_t1_loop.trips) : Fin 4 → Nat :=
  let c0_381 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let c1_i32_358 : BitVec 32 := 1#32
  let v605 : BitVec 32 := Scalar.addi v476 c1_i32_358
  let v645 : Index := Scalar.indexCast v605
  let c64_382 : Index := 64#32
  let c0_383 : Index := 0#32
  ![0, v645.toNat, 64, 0]
def k0_off8 (k0_t1 : Fin k0_t1_loop.trips) : Fin 4 → Nat :=
  let c0_401 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let c1_i32_358 : BitVec 32 := 1#32
  let v605 : BitVec 32 := Scalar.addi v476 c1_i32_358
  let v680 : Index := Scalar.indexCast v605
  let c128_402 : Index := 128#32
  let c0_403 : Index := 0#32
  ![0, v680.toNat, 128, 0]
def k0_off9 (k0_t1 : Fin k0_t1_loop.trips) : Fin 4 → Nat :=
  let c0_409 : Index := 0#32
  let c2_i32_274 : BitVec 32 := 2#32
  let c0_i32_46 : BitVec 32 := 0#32
  let c1_i32_48 : BitVec 32 := 1#32
  let arg15 : BitVec 32 := Scf.iv c0_i32_46 c1_i32_48 k0_t1
  let v476 : BitVec 32 := Scalar.muli c2_i32_274 arg15
  let c1_i32_358 : BitVec 32 := 1#32
  let v605 : BitVec 32 := Scalar.addi v476 c1_i32_358
  let v693 : Index := Scalar.indexCast v605
  let c192_410 : Index := 192#32
  let c0_411 : Index := 0#32
  ![0, v693.toNat, 192, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DiffIdeal.lean ====
variable {F : FTy → Type} [FloatOps F] [Named F]
def κ : String → Option EReal := fun
  | "minus_inf" => some ⊥
  | _ => none
-- ==== DiffReferenceIdeal.lean ====
abbrev S4x32 : Shape := ⟨2, ![4, 32]⟩
abbrev S2x8192x256 : Shape := ⟨3, ![2, 8192, 256]⟩
abbrev S2x256x256 : Shape := ⟨3, ![2, 256, 256]⟩
abbrev S1x32 : Shape := ⟨2, ![1, 32]⟩
abbrev S32 : Shape := ⟨1, ![32]⟩
abbrev S_ : Shape := ⟨0, ![]⟩
abbrev S2x8448x256 : Shape := ⟨3, ![2, 8448, 256]⟩
abbrev S2x8448x4x64 : Shape := ⟨4, ![2, 8448, 4, 64]⟩
abbrev S2x8192x4x2x32 : Shape := ⟨5, ![2, 8192, 4, 2, 32]⟩
abbrev S2x8448x4x2x32 : Shape := ⟨5, ![2, 8448, 4, 2, 32]⟩
abbrev S2x8192x4x1x32 : Shape := ⟨5, ![2, 8192, 4, 1, 32]⟩
abbrev S2x8192x4x32 : Shape := ⟨4, ![2, 8192, 4, 32]⟩
abbrev S2x8448x4x1x32 : Shape := ⟨5, ![2, 8448, 4, 1, 32]⟩
abbrev S2x8448x4x32 : Shape := ⟨4, ![2, 8448, 4, 32]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩

abbrev nBuf : Space → Nat
  | .hbm => 82
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x256x256, .f32⟩
  | .hbm, ⟨5, _⟩ => ⟨S2x256x256, .f32⟩
  | .hbm, ⟨6, _⟩ => ⟨S1x32, .f32⟩
  | .hbm, ⟨7, _⟩ => ⟨S32, .f32⟩
  | .hbm, ⟨8, _⟩ => ⟨S1x32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x8448x256, .f32⟩
  | .hbm, ⟨26, _⟩ => ⟨S2x8448x256, .f32⟩
  | .hbm, ⟨27, _⟩ => ⟨S2x8448x4x64, .f32⟩
  | .hbm, ⟨28, _⟩ => ⟨S2x8192x4x2x32, .f32⟩
  | .hbm, ⟨29, _⟩ => ⟨S2x8448x4x2x32, .f32⟩
  | .hbm, ⟨30, _⟩ => ⟨S2x8192x4x1x32, .f32⟩
  | .hbm, ⟨31, _⟩ => ⟨S2x8192x4x32, .f32⟩
  | .hbm, ⟨32, _⟩ => ⟨S2x8448x4x1x32, .f32⟩
  | .hbm, ⟨33, _⟩ => ⟨S2x8448x4x32, .f32⟩
  | .hbm, ⟨34, _⟩ => ⟨S2x4x8192x8448, .f32⟩
  | .hbm, ⟨35, _⟩ => ⟨S_, .f32⟩
  | .hbm, ⟨36, _⟩ => ⟨S_, .f32⟩
  | .hbm, ⟨37, _⟩ => ⟨S2x4x8192x8448, .f32⟩
  | .hbm, ⟨38, _⟩ => ⟨S2x4x8192x8448, .f32⟩
  | .hbm, ⟨39, _⟩ => ⟨S2x8192x4x1x32, .f32⟩
  | .hbm, ⟨40, _⟩ => ⟨S2x8192x4x32, .f32⟩
  | .hbm, ⟨41, _⟩ => ⟨S2x8448x4x1x32, .f32⟩
  | .hbm, ⟨42, _⟩ => ⟨S2x8448x4x32, .f32⟩
  | .hbm, ⟨43, _⟩ => ⟨S2x4x8192x8448, .f32⟩
  | .hbm, ⟨44, _⟩ => ⟨S_, .f32⟩
  | .hbm, ⟨45, _⟩ => ⟨S_, .f32⟩
  | .hbm, ⟨46, _⟩ => ⟨S2x4x8192x8448, .f32⟩
  | .hbm, ⟨47, _⟩ => ⟨S2x4x8192x8448, .f32⟩
  | .hbm, ⟨48, _⟩ => ⟨S_, .f32⟩
  | .hbm, ⟨49, _⟩ => ⟨S2x4x8192, .f32⟩
  | .hbm, ⟨50, _⟩ => ⟨S_, .f32⟩
  | .hbm, ⟨51, _⟩ => ⟨S2x4x8192, .f32⟩
  | .hbm, ⟨52, _⟩ => ⟨S2x4x8192, .f32⟩
  | .hbm, ⟨53, _⟩ => ⟨S2x4x8192x1, .f32⟩
  | .hbm, ⟨54, _⟩ => ⟨S2x4x8192x8448, .f32⟩
  | .hbm, ⟨55, _⟩ => ⟨S2x4x8192x8448, .f32⟩
  | .hbm, ⟨56, _⟩ => ⟨S2x4x8192x8448, .f32⟩
  | .hbm, ⟨57, _⟩ => ⟨S_, .f32⟩
  | .hbm, ⟨58, _⟩ => ⟨S2x4x8192, .f32⟩
  | .hbm, ⟨59, _⟩ => ⟨S2x4x8192x1, .f32⟩
  | .hbm, ⟨60, _⟩ => ⟨S2x4x8192x8448, .f32⟩
  | .hbm, ⟨61, _⟩ => ⟨S2x4x8192x8448, .f32⟩
  | .hbm, ⟨62, _⟩ => ⟨S_, .f32⟩
  | .hbm, ⟨63, _⟩ => ⟨S2x4x8192, .f32⟩
  | .hbm, ⟨64, _⟩ => ⟨S_, .f32⟩
  | .hbm, ⟨65, _⟩ => ⟨S2x4x8192, .f32⟩
  | .hbm, ⟨66, _⟩ => ⟨S2x4x8192, .f32⟩
  | .hbm, ⟨67, _⟩ => ⟨S2x4x8192x1, .f32⟩
  | .hbm, ⟨68, _⟩ => ⟨S2x4x8192x8448, .f32⟩
  | .hbm, ⟨69, _⟩ => ⟨S2x4x8192x8448, .f32⟩
  | .hbm, ⟨70, _⟩ => ⟨S2x4x8192x8448, .f32⟩
  | .hbm, ⟨71, _⟩ => ⟨S_, .f32⟩
  | .hbm, ⟨72, _⟩ => ⟨S2x4x8192, .f32⟩
  | .hbm, ⟨73, _⟩ => ⟨S2x4x8192x1, .f32⟩
  | .hbm, ⟨74, _⟩ => ⟨S2x4x8192x8448, .f32⟩
  | .hbm, ⟨75, _⟩ => ⟨S2x4x8192x8448, .f32⟩
  | .hbm, ⟨76, _⟩ => ⟨S2x4x8192x8448, .f32⟩
  | .hbm, ⟨77, _⟩ => ⟨S2x4x8192x8448, .f32⟩
  | .hbm, ⟨78, _⟩ => ⟨S2x4x8192x8448, .f32⟩
  | .hbm, ⟨79, _⟩ => ⟨S2x4x64x8192, .f32⟩
  | .hbm, ⟨80, _⟩ => ⟨S2x8192x4x64, .f32⟩
  | .hbm, ⟨81, _⟩ => ⟨S2x8192x256, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Proj.lean ====
abbrev S2x8192x1024 : Shape := ⟨3, ![2, 8192, 1024]⟩
abbrev S2x1x1024 : Shape := ⟨3, ![2, 1, 1024]⟩
abbrev S1024 : Shape := ⟨1, ![1024]⟩
abbrev S1024x2560 : Shape := ⟨2, ![1024, 2560]⟩
abbrev S64 : Shape := ⟨1, ![64]⟩
abbrev S32 : Shape := ⟨1, ![32]⟩
abbrev S8192 : Shape := ⟨1, ![8192]⟩
abbrev S_ : Shape := ⟨0, ![]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x32 : Shape := ⟨2, ![8192, 32]⟩
abbrev S1x32 : Shape := ⟨2, ![1, 32]⟩
abbrev S1x8192x1x32 : Shape := ⟨4, ![1, 8192, 1, 32]⟩
abbrev S1x8192x8x32 : Shape := ⟨4, ![1, 8192, 8, 32]⟩
abbrev S8192x256 : Shape := ⟨2, ![8192, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x32 : Shape := ⟨2, ![8, 32]⟩
abbrev S256 : Shape := ⟨1, ![256]⟩
abbrev S1x256 : Shape := ⟨2, ![1, 256]⟩
abbrev S1x1024 : Shape := ⟨2, ![1, 1024]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S8x32x8x32 : Shape := ⟨4, ![8, 32, 8, 32]⟩
abbrev S256x256 : Shape := ⟨2, ![256, 256]⟩
abbrev S2x8192x512 : Shape := ⟨3, ![2, 8192, 512]⟩
abbrev S2x256x8192 : Shape := ⟨3, ![2, 256, 8192]⟩
abbrev S2x8192x256 : Shape := ⟨3, ![2, 8192, 256]⟩
abbrev S2x16x256x512 : Shape := ⟨4, ![2, 16, 256, 512]⟩
abbrev S1x512x1024 : Shape := ⟨3, ![1, 512, 1024]⟩
abbrev S1x1x1024 : Shape := ⟨3, ![1, 1, 1024]⟩
abbrev S512x256 : Shape := ⟨2, ![512, 256]⟩
abbrev S1x512x512 : Shape := ⟨3, ![1, 512, 512]⟩
abbrev S1x256x512 : Shape := ⟨3, ![1, 256, 512]⟩
abbrev S1x512x256 : Shape := ⟨3, ![1, 512, 256]⟩
abbrev S1x1x256x512 : Shape := ⟨4, ![1, 1, 256, 512]⟩
abbrev S512x1024 : Shape := ⟨2, ![512, 1024]⟩
abbrev S512x1 : Shape := ⟨2, ![512, 1]⟩
abbrev S1024x512 : Shape := ⟨2, ![1024, 512]⟩
abbrev S1024x256 : Shape := ⟨2, ![1024, 256]⟩
abbrev S256x512 : Shape := ⟨2, ![256, 512]⟩

abbrev nBuf : Space → Nat
  | .hbm => 142
  | .vmem => 32
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S1024x2560, .f32⟩
  | 5 => ⟨S64, .f32⟩
  | 6 => ⟨S64, .f32⟩
  | 7 => ⟨S32, .f32⟩
  | 8 => ⟨S32, .f32⟩
  | 9 => ⟨S32, .f32⟩
  | 10 => ⟨S8192, .i32⟩
  | 11 => ⟨S_, .i32⟩
  | 12 => ⟨S_, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i1⟩
  | 19 => ⟨S8192, .i32⟩
  | 20 => ⟨S8192, .i32⟩
  | 21 => ⟨S_, .i32⟩
  | 22 => ⟨S8192, .i32⟩
  | 23 => ⟨S8192, .i1⟩
  | 24 => ⟨S8192, .i1⟩
  | 25 => ⟨S_, .i32⟩
  | 26 => ⟨S8192, .i32⟩
  | 27 => ⟨S8192, .i32⟩
  | 28 => ⟨S8192, .i32⟩
  | 29 => ⟨S8192, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i1⟩
  | 44 => ⟨S_, .i32⟩
  | 45 => ⟨S_, .i1⟩
  | 46 => ⟨S8192, .i1⟩
  | 47 => ⟨S8192, .i1⟩
  | 48 => ⟨S8192, .i1⟩
  | 49 => ⟨S8192, .i32⟩
  | 50 => ⟨S8192, .i32⟩
  | 51 => ⟨S8192, .i32⟩
  | 52 => ⟨S8192, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8192x1, .f32⟩
  | 68 => ⟨S1x8, .f32⟩
  | 69 => ⟨S8192x8, .f32⟩
  | 70 => ⟨S8192x8, .f32⟩
  | 71 => ⟨S8192x8, .f32⟩
  | 72 => ⟨S8192x1, .f32⟩
  | 73 => ⟨S1x8, .f32⟩
  | 74 => ⟨S8192x8, .f32⟩
  | 75 => ⟨S8192x8, .f32⟩
  | 76 => ⟨S8192x8, .f32⟩
  | 77 => ⟨S8192x32, .f32⟩
  | 78 => ⟨S8192x32, .f32⟩
  | 79 => ⟨S8192x32, .f32⟩
  | 80 => ⟨S1x32, .f32⟩
  | 81 => ⟨S8192x32, .f32⟩
  | 82 => ⟨S8192x32, .f32⟩
  | 83 => ⟨S1x8192x1x32, .f32⟩
  | 84 => ⟨S1x8192x8x32, .f32⟩
  | 85 => ⟨S8192x256, .f32⟩
  | 86 => ⟨S1x8192x1x32, .f32⟩
  | 87 => ⟨S1x8192x8x32, .f32⟩
  | 88 => ⟨S8192x256, .f32⟩
  | 89 => ⟨S1x64, .f32⟩
  | 90 => ⟨S8x64, .f32⟩
  | 91 => ⟨S512, .f32⟩
  | 92 => ⟨S1x512, .f32⟩
  | 93 => ⟨S1x64, .f32⟩
  | 94 => ⟨S8x64, .f32⟩
  | 95 => ⟨S512, .f32⟩
  | 96 => ⟨S1x512, .f32⟩
  | 97 => ⟨S1x32, .f32⟩
  | 98 => ⟨S8x32, .f32⟩
  | 99 => ⟨S256, .f32⟩
  | 100 => ⟨S1x256, .f32⟩
  | 101 => ⟨S1x32, .f32⟩
  | 102 => ⟨S8x32, .f32⟩
  | 103 => ⟨S256, .f32⟩
  | 104 => ⟨S1x256, .f32⟩
  | 105 => ⟨S1x1024, .f32⟩
  | 106 => ⟨S1024x2560, .bf16⟩
  | 107 => ⟨S8x8, .i32⟩
  | 108 => ⟨S8x8, .i32⟩
  | 109 => ⟨S_, .i32⟩
  | 110 => ⟨S8x8, .i32⟩
  | 111 => ⟨S8x8, .i32⟩
  | 112 => ⟨S8x8, .i1⟩
  | 113 => ⟨S8x8, .f32⟩
  | 114 => ⟨S8x1x8x1, .f32⟩
  | 115 => ⟨S8x64x8x64, .f32⟩
  | 116 => ⟨S512x512, .f32⟩
  | 117 => ⟨S_, .f32⟩
  | 118 => ⟨S512x512, .f32⟩
  | 119 => ⟨S512x512, .f32⟩
  | 120 => ⟨S512x512, .bf16⟩
  | 121 => ⟨S8x8, .i32⟩
  | 122 => ⟨S8x8, .i32⟩
  | 123 => ⟨S_, .i32⟩
  | 124 => ⟨S8x8, .i32⟩
  | 125 => ⟨S8x8, .i32⟩
  | 126 => ⟨S8x8, .i1⟩
  | 127 => ⟨S8x8, .f32⟩
  | _ => ⟨S2x8192x1024, .f32⟩

abbrev hbmTy0_1 (i : Nat) : BufTy := match i % 128 with
  | 0 => ⟨S8x1x8x1, .f32⟩
  | 1 => ⟨S8x32x8x32, .f32⟩
  | 2 => ⟨S256x256, .f32⟩
  | 3 => ⟨S_, .f32⟩
  | 4 => ⟨S256x256, .f32⟩
  | 5 => ⟨S256x256, .f32⟩
  | 6 => ⟨S256x256, .bf16⟩
  | 7 => ⟨S2x8192x512, .bf16⟩
  | 8 => ⟨S2x8192x512, .bf16⟩
  | 9 => ⟨S2x8192x512, .bf16⟩
  | 10 => ⟨S2x256x8192, .bf16⟩
  | 11 => ⟨S2x8192x256, .bf16⟩
  | 12 => ⟨S2x16x256x512, .bf16⟩
  | 13 => ⟨S2x8192x256, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S1x512, .f32⟩
  | .local _ .vmem, ⟨9, _⟩ => ⟨S1x512, .f32⟩
  | .local _ .vmem, ⟨10, _⟩ => ⟨S1x256, .f32⟩
  | .local _ .vmem, ⟨11, _⟩ => ⟨S1x256, .f32⟩
  | .local _ .vmem, ⟨12, _⟩ => ⟨S512x512, .bf16⟩
  | .local _ .vmem, ⟨13, _⟩ => ⟨S256x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x512x256, .bf16⟩
  | .local _ .vmem, ⟨27, _⟩ => ⟨S1x512x256, .bf16⟩
  | .local _ .vmem, ⟨28, _⟩ => ⟨S1x1x256x512, .bf16⟩
  | .local _ .vmem, ⟨29, _⟩ => ⟨S1x1x256x512, .bf16⟩
  | .local _ .vmem, ⟨30, _⟩ => ⟨S1x512x256, .f32⟩
  | .local _ .vmem, ⟨31, _⟩ => ⟨S1x512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_1 : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_3 : Ref sig .tc := ⟨.hbm, 61, rfl⟩
abbrev main_v11 : Ref sig .tc := ⟨.hbm, 62, rfl⟩
abbrev main_v12 : Ref sig .tc := ⟨.hbm, 63, rfl⟩
abbrev main_cst_4 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_c_5 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_6 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_c_7 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_8 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79_0 : Ref sig .tc := ⟨.hbm, 135, rfl⟩
abbrev main_v79_1 : Ref sig .tc := ⟨.hbm, 136, rfl⟩
abbrev main_v79_2 : Ref sig .tc := ⟨.hbm, 137, rfl⟩
abbrev main_v79_3 : Ref sig .tc := ⟨.hbm, 138, rfl⟩
abbrev main_v79_4 : Ref sig .tc := ⟨.hbm, 139, rfl⟩
abbrev main_v79_5 : Ref sig .tc := ⟨.hbm, 140, rfl⟩
abbrev main_v79_6 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjIdeal.lean ====
variable {F : FTy → Type} [FloatOps F] [Named F]
def κ : String → Option EReal := fun
  | "base_two_scale" => some ((((Real.sqrt 32) * (Real.log 2))⁻¹ : ℝ) : EReal)
  | _ => none
-- ==== ProjReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x2560 : Shape := ⟨2, ![1024, 2560]⟩
abbrev S64 : Shape := ⟨1, ![64]⟩
abbrev S32 : Shape := ⟨1, ![32]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x256 : Shape := ⟨3, ![2, 8192, 256]⟩
abbrev S2x8192x8x32 : Shape := ⟨4, ![2, 8192, 8, 32]⟩
abbrev S1x1x1x32 : Shape := ⟨4, ![1, 1, 1, 32]⟩
abbrev S2x8192x8x16 : Shape := ⟨4, ![2, 8192, 8, 16]⟩
abbrev S8192x1 : Shape := ⟨2, ![8192, 1]⟩
abbrev S8 : Shape := ⟨1, ![8]⟩
abbrev S1x8 : Shape := ⟨2, ![1, 8]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x256x8192 : Shape := ⟨3, ![2, 256, 8192]⟩
abbrev S2x16x512x256 : Shape := ⟨4, ![2, 16, 512, 256]⟩
abbrev S2x16x256x512 : Shape := ⟨4, ![2, 16, 256, 512]⟩

abbrev nBuf : Space → Nat
  | .hbm => 326
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S1024x2560, .f32⟩
  | 5 => ⟨S64, .f32⟩
  | 6 => ⟨S64, .f32⟩
  | 7 => ⟨S32, .f32⟩
  | 8 => ⟨S32, .f32⟩
  | 9 => ⟨S8192, .i32⟩
  | 10 => ⟨S_, .i32⟩
  | 11 => ⟨S_, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i1⟩
  | 18 => ⟨S8192, .i32⟩
  | 19 => ⟨S8192, .i32⟩
  | 20 => ⟨S_, .i32⟩
  | 21 => ⟨S8192, .i32⟩
  | 22 => ⟨S8192, .i1⟩
  | 23 => ⟨S8192, .i1⟩
  | 24 => ⟨S_, .i32⟩
  | 25 => ⟨S8192, .i32⟩
  | 26 => ⟨S8192, .i32⟩
  | 27 => ⟨S8192, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i1⟩
  | 42 => ⟨S_, .i32⟩
  | 43 => ⟨S_, .i1⟩
  | 44 => ⟨S8192, .i1⟩
  | 45 => ⟨S8192, .i1⟩
  | 46 => ⟨S8192, .i1⟩
  | 47 => ⟨S8192, .i32⟩
  | 48 => ⟨S8192, .i32⟩
  | 49 => ⟨S8192, .i32⟩
  | 50 => ⟨S2x8192x1024, .f32⟩
  | 51 => ⟨S_, .f32⟩
  | 52 => ⟨S2x8192, .f32⟩
  | 53 => ⟨S2x8192x1, .f32⟩
  | 54 => ⟨S_, .f32⟩
  | 55 => ⟨S2x8192x1, .f32⟩
  | 56 => ⟨S2x8192x1, .f32⟩
  | 57 => ⟨S_, .f32⟩
  | 58 => ⟨S2x8192x1, .f32⟩
  | 59 => ⟨S2x8192x1, .f32⟩
  | 60 => ⟨S2x8192x1, .f32⟩
  | 61 => ⟨S2x8192x1024, .f32⟩
  | 62 => ⟨S2x8192x1024, .f32⟩
  | 63 => ⟨S1x1x1024, .f32⟩
  | 64 => ⟨S2x8192x1024, .f32⟩
  | 65 => ⟨S2x8192x1024, .f32⟩
  | 66 => ⟨S_, .f32⟩
  | 67 => ⟨S2x1x1024, .f32⟩
  | 68 => ⟨S2x1x1024, .f32⟩
  | 69 => ⟨S2x8192x1024, .f32⟩
  | 70 => ⟨S2x8192x1024, .f32⟩
  | 71 => ⟨S2x8192x1024, .f32⟩
  | 72 => ⟨S2x8192x1024, .f32⟩
  | 73 => ⟨S2x8192x2560, .f32⟩
  | 74 => ⟨S2x8192x512, .f32⟩
  | 75 => ⟨S2x8192x8x64, .f32⟩
  | 76 => ⟨S2x8192x8x64, .f32⟩
  | 77 => ⟨S_, .f32⟩
  | 78 => ⟨S2x8192x8, .f32⟩
  | 79 => ⟨S2x8192x8x1, .f32⟩
  | 80 => ⟨S_, .f32⟩
  | 81 => ⟨S2x8192x8x1, .f32⟩
  | 82 => ⟨S2x8192x8x1, .f32⟩
  | 83 => ⟨S_, .f32⟩
  | 84 => ⟨S2x8192x8x1, .f32⟩
  | 85 => ⟨S2x8192x8x1, .f32⟩
  | 86 => ⟨S2x8192x8x1, .f32⟩
  | 87 => ⟨S2x8192x8x64, .f32⟩
  | 88 => ⟨S2x8192x8x64, .f32⟩
  | 89 => ⟨S1x1x1x64, .f32⟩
  | 90 => ⟨S2x8192x8x64, .f32⟩
  | 91 => ⟨S2x8192x8x64, .f32⟩
  | 92 => ⟨S_, .f32⟩
  | 93 => ⟨S2x8192x8x64, .f32⟩
  | 94 => ⟨S2x8192x8x64, .f32⟩
  | 95 => ⟨S2x8192x512, .f32⟩
  | 96 => ⟨S2x8192x8x64, .f32⟩
  | 97 => ⟨S2x8192x8x64, .f32⟩
  | 98 => ⟨S_, .f32⟩
  | 99 => ⟨S2x8192x8, .f32⟩
  | 100 => ⟨S2x8192x8x1, .f32⟩
  | 101 => ⟨S_, .f32⟩
  | 102 => ⟨S2x8192x8x1, .f32⟩
  | 103 => ⟨S2x8192x8x1, .f32⟩
  | 104 => ⟨S_, .f32⟩
  | 105 => ⟨S2x8192x8x1, .f32⟩
  | 106 => ⟨S2x8192x8x1, .f32⟩
  | 107 => ⟨S2x8192x8x1, .f32⟩
  | 108 => ⟨S2x8192x8x64, .f32⟩
  | 109 => ⟨S2x8192x8x64, .f32⟩
  | 110 => ⟨S1x1x1x64, .f32⟩
  | 111 => ⟨S2x8192x8x64, .f32⟩
  | 112 => ⟨S2x8192x8x64, .f32⟩
  | 113 => ⟨S2x8192x512, .f32⟩
  | 114 => ⟨S2x8192x256, .f32⟩
  | 115 => ⟨S2x8192x8x32, .f32⟩
  | 116 => ⟨S2x8192x8x32, .f32⟩
  | 117 => ⟨S_, .f32⟩
  | 118 => ⟨S2x8192x8, .f32⟩
  | 119 => ⟨S2x8192x8x1, .f32⟩
  | 120 => ⟨S_, .f32⟩
  | 121 => ⟨S2x8192x8x1, .f32⟩
  | 122 => ⟨S2x8192x8x1, .f32⟩
  | 123 => ⟨S_, .f32⟩
  | 124 => ⟨S2x8192x8x1, .f32⟩
  | 125 => ⟨S2x8192x8x1, .f32⟩
  | 126 => ⟨S2x8192x8x1, .f32⟩
  | 127 => ⟨S2x8192x8x32, .f32⟩
  | _ => ⟨S2x8192x1024, .f32⟩

abbrev hbmTy0_1 (i : Nat) : BufTy := match i % 128 with
  | 0 => ⟨S2x8192x8x32, .f32⟩
  | 1 => ⟨S1x1x1x32, .f32⟩
  | 2 => ⟨S2x8192x8x32, .f32⟩
  | 3 => ⟨S2x8192x8x32, .f32⟩
  | 4 => ⟨S2x8192x8x16, .f32⟩
  | 5 => ⟨S8192, .f32⟩
  | 6 => ⟨S8192x1, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S1x8, .f32⟩
  | 22 => ⟨S8192x8, .f32⟩
  | 23 => ⟨S8192x8, .f32⟩
  | 24 => ⟨S8192x8, .f32⟩
  | 25 => ⟨S8192x8, .f32⟩
  | 26 => ⟨S1x8192x1x8, .f32⟩
  | 27 => ⟨S8192x8, .f32⟩
  | 28 => ⟨S1x8192x1x8, .f32⟩
  | 29 => ⟨S2x8192x8x8, .f32⟩
  | 30 => ⟨S2x8192x8x8, .f32⟩
  | 31 => ⟨S2x8192x8x8, .f32⟩
  | 32 => ⟨S2x8192x8x8, .f32⟩
  | 33 => ⟨S2x8192x8x8, .f32⟩
  | 34 => ⟨S2x8192x8x8, .f32⟩
  | 35 => ⟨S2x8192x8x8, .f32⟩
  | 36 => ⟨S2x8192x8x8, .f32⟩
  | 37 => ⟨S2x8192x8x8, .f32⟩
  | 38 => ⟨S2x8192x8x8, .f32⟩
  | 39 => ⟨S2x8192x8x8, .f32⟩
  | 40 => ⟨S2x8192x8x8, .f32⟩
  | 41 => ⟨S2x8192x8x16, .f32⟩
  | 42 => ⟨S2x8192x8x16, .f32⟩
  | 43 => ⟨S8192, .f32⟩
  | 44 => ⟨S8192x1, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S1x8, .f32⟩
  | 60 => ⟨S8192x8, .f32⟩
  | 61 => ⟨S8192x8, .f32⟩
  | 62 => ⟨S8192x8, .f32⟩
  | 63 => ⟨S8192x8, .f32⟩
  | 64 => ⟨S1x8192x1x8, .f32⟩
  | 65 => ⟨S8192x8, .f32⟩
  | 66 => ⟨S1x8192x1x8, .f32⟩
  | 67 => ⟨S2x8192x8x8, .f32⟩
  | 68 => ⟨S2x8192x8x8, .f32⟩
  | 69 => ⟨S2x8192x8x8, .f32⟩
  | 70 => ⟨S2x8192x8x8, .f32⟩
  | 71 => ⟨S2x8192x8x8, .f32⟩
  | 72 => ⟨S2x8192x8x8, .f32⟩
  | 73 => ⟨S2x8192x8x8, .f32⟩
  | 74 => ⟨S2x8192x8x8, .f32⟩
  | 75 => ⟨S2x8192x8x8, .f32⟩
  | 76 => ⟨S2x8192x8x8, .f32⟩
  | 77 => ⟨S2x8192x8x8, .f32⟩
  | 78 => ⟨S2x8192x8x8, .f32⟩
  | 79 => ⟨S2x8192x8x16, .f32⟩
  | 80 => ⟨S2x8192x8x32, .f32⟩
  | 81 => ⟨S2x8192x256, .f32⟩
  | 82 => ⟨S2x8192x8x32, .f32⟩
  | 83 => ⟨S2x8192x8x32, .f32⟩
  | 84 => ⟨S_, .f32⟩
  | 85 => ⟨S2x8192x8, .f32⟩
  | 86 => ⟨S2x8192x8x1, .f32⟩
  | 87 => ⟨S_, .f32⟩
  | 88 => ⟨S2x8192x8x1, .f32⟩
  | 89 => ⟨S2x8192x8x1, .f32⟩
  | 90 => ⟨S_, .f32⟩
  | 91 => ⟨S2x8192x8x1, .f32⟩
  | 92 => ⟨S2x8192x8x1, .f32⟩
  | 93 => ⟨S2x8192x8x1, .f32⟩
  | 94 => ⟨S2x8192x8x32, .f32⟩
  | 95 => ⟨S2x8192x8x32, .f32⟩
  | 96 => ⟨S1x1x1x32, .f32⟩
  | 97 => ⟨S2x8192x8x32, .f32⟩
  | 98 => ⟨S2x8192x8x32, .f32⟩
  | 99 => ⟨S2x8192x8x16, .f32⟩
  | 100 => ⟨S8192, .f32⟩
  | 101 => ⟨S8192x1, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S1x8, .f32⟩
  | 117 => ⟨S8192x8, .f32⟩
  | 118 => ⟨S8192x8, .f32⟩
  | 119 => ⟨S8192x8, .f32⟩
  | 120 => ⟨S8192x8, .f32⟩
  | 121 => ⟨S1x8192x1x8, .f32⟩
  | 122 => ⟨S8192x8, .f32⟩
  | 123 => ⟨S1x8192x1x8, .f32⟩
  | 124 => ⟨S2x8192x8x8, .f32⟩
  | 125 => ⟨S2x8192x8x8, .f32⟩
  | 126 => ⟨S2x8192x8x8, .f32⟩
  | 127 => ⟨S2x8192x8x8, .f32⟩
  | _ => ⟨S2x8192x1024, .f32⟩

abbrev hbmTy0_2 (i : Nat) : BufTy := match i % 128 with
  | 0 => ⟨S2x8192x8x8, .f32⟩
  | 1 => ⟨S2x8192x8x8, .f32⟩
  | 2 => ⟨S2x8192x8x8, .f32⟩
  | 3 => ⟨S2x8192x8x8, .f32⟩
  | 4 => ⟨S2x8192x8x8, .f32⟩
  | 5 => ⟨S2x8192x8x8, .f32⟩
  | 6 => ⟨S2x8192x8x8, .f32⟩
  | 7 => ⟨S2x8192x8x8, .f32⟩
  | 8 => ⟨S2x8192x8x16, .f32⟩
  | 9 => ⟨S2x8192x8x16, .f32⟩
  | 10 => ⟨S8192, .f32⟩
  | 11 => ⟨S8192x1, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S1x8, .f32⟩
  | 27 => ⟨S8192x8, .f32⟩
  | 28 => ⟨S8192x8, .f32⟩
  | 29 => ⟨S8192x8, .f32⟩
  | 30 => ⟨S8192x8, .f32⟩
  | 31 => ⟨S1x8192x1x8, .f32⟩
  | 32 => ⟨S8192x8, .f32⟩
  | 33 => ⟨S1x8192x1x8, .f32⟩
  | 34 => ⟨S2x8192x8x8, .f32⟩
  | 35 => ⟨S2x8192x8x8, .f32⟩
  | 36 => ⟨S2x8192x8x8, .f32⟩
  | 37 => ⟨S2x8192x8x8, .f32⟩
  | 38 => ⟨S2x8192x8x8, .f32⟩
  | 39 => ⟨S2x8192x8x8, .f32⟩
  | 40 => ⟨S2x8192x8x8, .f32⟩
  | 41 => ⟨S2x8192x8x8, .f32⟩
  | 42 => ⟨S2x8192x8x8, .f32⟩
  | 43 => ⟨S2x8192x8x8, .f32⟩
  | 44 => ⟨S2x8192x8x8, .f32⟩
  | 45 => ⟨S2x8192x8x8, .f32⟩
  | 46 => ⟨S2x8192x8x16, .f32⟩
  | 47 => ⟨S2x8192x8x32, .f32⟩
  | 48 => ⟨S2x8192x256, .f32⟩
  | 49 => ⟨S2x8192x256, .f32⟩
  | 50 => ⟨S_, .f32⟩
  | 51 => ⟨S_, .f32⟩
  | 52 => ⟨S_, .f32⟩
  | 53 => ⟨S_, .f32⟩
  | 54 => ⟨S_, .f32⟩
  | 55 => ⟨S2x8192x256, .f32⟩
  | 56 => ⟨S2x8192x256, .f32⟩
  | 57 => ⟨S2x256x8192, .f32⟩
  | 58 => ⟨S2x8192x512, .f32⟩
  | 59 => ⟨S2x8192x512, .bf16⟩
  | 60 => ⟨S2x8192x512, .f32⟩
  | 61 => ⟨S2x8192x512, .bf16⟩
  | 62 => ⟨S2x8192x512, .bf16⟩
  | 63 => ⟨S2x256x8192, .bf16⟩
  | 64 => ⟨S2x8192x256, .f32⟩
  | 65 => ⟨S2x8192x256, .bf16⟩
  | 66 => ⟨S2x16x512x256, .f32⟩
  | 67 => ⟨S2x16x256x512, .f32⟩
  | 68 => ⟨S2x16x256x512, .bf16⟩
  | 69 => ⟨S2x8192x256, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_cst_1 : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_3 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_4 : Ref sig .tc := ⟨.hbm, 77, rfl⟩
abbrev main_v26 : Ref sig .tc := ⟨.hbm, 78, rfl⟩
abbrev main_v27 : Ref sig .tc := ⟨.hbm, 79, rfl⟩
abbrev main_cst_5 : Ref sig .tc := ⟨.hbm, 80, rfl⟩
abbrev main_v28 : Ref sig .tc := ⟨.hbm, 81, rfl⟩
abbrev main_v29 : Ref sig .tc := ⟨.hbm, 82, rfl⟩
abbrev main_cst_6 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_cst_7 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_8 : Ref sig .tc := ⟨.hbm, 98, rfl⟩
abbrev main_v43 : Ref sig .tc := ⟨.hbm, 99, rfl⟩
abbrev main_v44 : Ref sig .tc := ⟨.hbm, 100, rfl⟩
abbrev main_cst_9 : Ref sig .tc := ⟨.hbm, 101, rfl⟩
abbrev main_v45 : Ref sig .tc := ⟨.hbm, 102, rfl⟩
abbrev main_v46 : Ref sig .tc := ⟨.hbm, 103, rfl⟩
abbrev main_cst_10 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_11 : Ref sig .tc := ⟨.hbm, 117, rfl⟩
abbrev main_v59 : Ref sig .tc := ⟨.hbm, 118, rfl⟩
abbrev main_v60 : Ref sig .tc := ⟨.hbm, 119, rfl⟩
abbrev main_cst_12 : Ref sig .tc := ⟨.hbm, 120, rfl⟩
abbrev main_v61 : Ref sig .tc := ⟨.hbm, 121, rfl⟩
abbrev main_v62 : Ref sig .tc := ⟨.hbm, 122, rfl⟩
abbrev main_cst_13 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_14 : Ref sig .tc := ⟨.hbm, 136, rfl⟩
abbrev main_v75 : Ref sig .tc := ⟨.hbm, 137, rfl⟩
abbrev main_v76 : Ref sig .tc := ⟨.hbm, 138, rfl⟩
abbrev main_cst_15 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_16 : Ref sig .tc := ⟨.hbm, 143, rfl⟩
abbrev main_v80 : Ref sig .tc := ⟨.hbm, 144, rfl⟩
abbrev main_v81 : Ref sig .tc := ⟨.hbm, 145, rfl⟩
abbrev main_cst_17 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_18 : Ref sig .tc := ⟨.hbm, 174, rfl⟩
abbrev main_v109 : Ref sig .tc := ⟨.hbm, 175, rfl⟩
abbrev main_v110 : Ref sig .tc := ⟨.hbm, 176, rfl⟩
abbrev main_cst_19 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_20 : Ref sig .tc := ⟨.hbm, 181, rfl⟩
abbrev main_v114 : Ref sig .tc := ⟨.hbm, 182, rfl⟩
abbrev main_v115 : Ref sig .tc := ⟨.hbm, 183, rfl⟩
abbrev main_cst_21 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_cst_22 : Ref sig .tc := ⟨.hbm, 212, rfl⟩
abbrev main_v143 : Ref sig .tc := ⟨.hbm, 213, rfl⟩
abbrev main_v144 : Ref sig .tc := ⟨.hbm, 214, rfl⟩
abbrev main_cst_23 : Ref sig .tc := ⟨.hbm, 215, rfl⟩
abbrev main_v145 : Ref sig .tc := ⟨.hbm, 216, rfl⟩
abbrev main_v146 : Ref sig .tc := ⟨.hbm, 217, rfl⟩
abbrev main_cst_24 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_cst_25 : Ref sig .tc := ⟨.hbm, 231, rfl⟩
abbrev main_v159 : Ref sig .tc := ⟨.hbm, 232, rfl⟩
abbrev main_v160 : Ref sig .tc := ⟨.hbm, 233, rfl⟩
abbrev main_cst_26 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_cst_27 : Ref sig .tc := ⟨.hbm, 238, rfl⟩
abbrev main_v164 : Ref sig .tc := ⟨.hbm, 239, rfl⟩
abbrev main_v165 : Ref sig .tc := ⟨.hbm, 240, rfl⟩
abbrev main_cst_28 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_cst_29 : Ref sig .tc := ⟨.hbm, 269, rfl⟩
abbrev main_v193 : Ref sig .tc := ⟨.hbm, 270, rfl⟩
abbrev main_v194 : Ref sig .tc := ⟨.hbm, 271, rfl⟩
abbrev main_cst_30 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_cst_31 : Ref sig .tc := ⟨.hbm, 276, rfl⟩
abbrev main_v198 : Ref sig .tc := ⟨.hbm, 277, rfl⟩
abbrev main_v199 : Ref sig .tc := ⟨.hbm, 278, rfl⟩
abbrev main_cst_32 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_cst_33 : Ref sig .tc := ⟨.hbm, 306, rfl⟩
abbrev main_v226 : Ref sig .tc := ⟨.hbm, 307, rfl⟩
abbrev main_cst_34 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩

abbrev nD : Nat := 1
abbrev τ : Topo := Topo.v7x

variable {F : FTy → Type} [FloatOps F]
-- ==== Proof.FfnRef.lean ====
/- The reference of the convolutional feed-forward call, read at one index: a residual plus a gate times one sum over the
   2816 hidden channels, each the gated product of two channels of a three-row convolution along the sequence. -/
module

public import proofs.«01_k».proof.Proof.Gen.KernelIdeal.Skeleton
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.KernelIdeal.Ffn

open Cert.KernelIdeal

/-- Row `q` of batch `b` of the hidden state with sixteen zero rows before it and zeros after it (row `q` of the padded
    array is row `q - 16` of `h`). -/
def hrow (h : FVec Ideal S2x8192x1024 .bf16) (b : Fin 2) (q : ℕ) (k : Fin 1024) : EReal :=
  if hq : 16 ≤ q ∧ q < 8208 then h (ix3 b ⟨q - 16, by omega⟩ k) else 0

/-- Channel `o` of the up-projection at padded row `q`. -/
def up (h : FVec Ideal S2x8192x1024 .bf16) (w : FVec Ideal S1024x5632 .f32) (b : Fin 2) (q : ℕ) (o : Fin 5632) : EReal :=
  ∑ k : Fin 1024, hrow h b q k * w (ix2 k o)

/-- Channel `o` of the three-row convolution at sequence position `s`. -/
def conv (h : FVec Ideal S2x8192x1024 .bf16) (w : FVec Ideal S1024x5632 .f32) (cw : FVec Ideal S3x5632 .f32)
    (cb : FVec Ideal S5632 .f32) (b : Fin 2) (s : ℕ) (o : Fin 5632) : EReal :=
  up h w b (s + 15) o * cw (ix2 0 o) + up h w b (s + 16) o * cw (ix2 1 o) + up h w b (s + 17) o * cw (ix2 2 o) + cb (ix1 o)

/-- The gated hidden channel from the gate's and the value's convolved channels. -/
def gated (g v : EReal) : EReal := g * Ideal.div 1 (1 + Ideal.exp (-g)) * v

/-- Hidden channel `f` at sequence position `s`. -/
def act (h : FVec Ideal S2x8192x1024 .bf16) (w : FVec Ideal S1024x5632 .f32) (cw : FVec Ideal S3x5632 .f32)
    (cb : FVec Ideal S5632 .f32) (b : Fin 2) (s : ℕ) (f : Fin 2816) : EReal :=
  gated (conv h w cw cb b s ⟨f, by omega⟩) (conv h w cw cb b s ⟨2816 + f, by omega⟩)

theorem up_of_lt (h : FVec Ideal S2x8192x1024 .bf16) (w : FVec Ideal S1024x5632 .f32) (b : Fin 2) (q : ℕ) (o : Fin 5632)
    (hq : ¬(16 ≤ q ∧ q < 8208)) : up h w b q o = 0 := by
  unfold up
  exact Finset.sum_eq_zero fun k _ => by rw [hrow, dif_neg hq, zero_mul]

theorem up_of_mem (h : FVec Ideal S2x8192x1024 .bf16) (w : FVec Ideal S1024x5632 .f32) (b : Fin 2) (s : Fin 8192) (o : Fin 5632) :
    up h w b (s + 16) o = ∑ k : Fin 1024, h (ix3 b s k) * w (ix2 k o) := by
  unfold up
  refine Finset.sum_congr rfl fun k _ => ?_
  rw [hrow, dif_pos ⟨by omega, by omega⟩]
  exact congrArg₂ (· * ·) (congrArg h ((ix3_inj ..).2 ⟨rfl, Fin.ext (by simp), rfl⟩)) rfl

theorem gated_congr {g g' v v' : EReal} (hg : g = g') (hv : v = v') :
    g * Ideal.div 1 (1 + Ideal.exp (-g)) * v = gated g' v' := by subst hg hv; rfl

theorem zero_halo : FloatOps.sitofp (F := Ideal) .f32 (0#32 : BitVec 32) = (0 : EReal) := by
  simp [FloatOps.sitofp]

/-- The reference's convolution at one channel: three reads of the zero-padded up-projection. -/
theorem conv_eq (h : FVec Ideal S2x8192x1024 .bf16) (w : FVec Ideal S1024x5632 .f32) (cw : FVec Ideal S3x5632 .f32)
    (cb : FVec Ideal S5632 .f32) (b : Fin 2) (s : Fin 8192) (o : ℕ) (ho : o < 5632) :
    (if hh : (1 ≤ (s : ℕ) ∧ (s : ℕ) - 1 < 8192) ∧ o < 5632 then
        ∑ k : Fin 1024, h (ix3 b ⟨(s : ℕ) - 1, hh.1.2⟩ k) * w (ix2 k ⟨o, hh.2⟩) else FloatOps.sitofp (F := Ideal) .f32 (0#32 : BitVec 32)) * cw (ix2 0 ⟨o, ho⟩)
      + (if hh : o < 5632 then ∑ k : Fin 1024, h (ix3 b s k) * w (ix2 k ⟨o, hh⟩) else FloatOps.sitofp (F := Ideal) .f32 (0#32 : BitVec 32)) * cw (ix2 1 ⟨o, ho⟩)
      + (if hh : (1 ≤ 2 + (s : ℕ) ∧ 2 + (s : ℕ) - 1 < 8192) ∧ o < 5632 then
        ∑ k : Fin 1024, h (ix3 b ⟨2 + (s : ℕ) - 1, hh.1.2⟩ k) * w (ix2 k ⟨o, hh.2⟩) else FloatOps.sitofp (F := Ideal) .f32 (0#32 : BitVec 32)) * cw (ix2 2 ⟨o, ho⟩)
      + cb (ix1 ⟨o, ho⟩) = conv h w cw cb b s ⟨o, ho⟩ := by
  unfold conv
  refine congrArg₂ (· + ·) (congrArg₂ (· + ·) (congrArg₂ (· + ·) (congrArg₂ (· * ·) ?_ rfl) (congrArg₂ (· * ·) ?_ rfl)) (congrArg₂ (· * ·) ?_ rfl)) rfl
  · by_cases h1 : 1 ≤ (s : ℕ)
    · rw [dif_pos ⟨⟨h1, by omega⟩, ho⟩, show (s : ℕ) + 15 = ((⟨(s : ℕ) - 1, by omega⟩ : Fin 8192) : ℕ) + 16 from by simp only; omega, up_of_mem]
    · rw [dif_neg (fun hh => h1 hh.1.1), up_of_lt _ _ _ _ _ (by omega), zero_halo]
  · rw [dif_pos ho, up_of_mem]
  · by_cases h1 : (s : ℕ) < 8191
    · rw [dif_pos ⟨⟨by omega, by omega⟩, ho⟩, show (s : ℕ) + 17 = ((⟨2 + (s : ℕ) - 1, by omega⟩ : Fin 8192) : ℕ) + 16 from by simp only; omega, up_of_mem]
    · rw [dif_neg (fun hh => h1 (by omega)), up_of_lt _ _ _ _ _ (by omega), zero_halo]

end Cert.KernelIdeal.Ffn

namespace Cert.ReferenceIdeal.Ffn

open Cert.ReferenceIdeal Cert.KernelIdeal.Ffn

variable (m : (ℓ : Loc nD τ sig) → Buf (Elt Ideal) ℓ)

/-- The reference's result at one index. -/
theorem ref_at (c : Dev nD) (b : Fin 2) (s : Fin 8192) (n : Fin 1024) :
    Cert.ReferenceIdeal.Value.res_main_v33 m c (ix3 b s n)
      = (show EReal from m ((c.tc : Thread nD τ).loc main_arg1) (ix3 b s n)) + (show EReal from m ((c.tc : Thread nD τ).loc main_arg2) (ix3 b 0 n))
        * ∑ f : Fin 2816, act (m ((c.tc : Thread nD τ).loc main_arg0)) (m ((c.tc : Thread nD τ).loc main_arg3)) (m ((c.tc : Thread nD τ).loc main_arg4))
            (m ((c.tc : Thread nD τ).loc main_arg5)) b s f * (show EReal from m ((c.tc : Thread nD τ).loc main_arg6) (ix2 f n)) := by
  pointwise [Cert.ReferenceIdeal.Value.res_main_v33]
  refine Ideal.add_congr rfl (Ideal.mul_congr rfl (Finset.sum_congr rfl fun x _ => Ideal.mul_congr ?_ rfl))
  exact gated_congr (conv_eq _ _ _ _ b s x (by omega)) (conv_eq _ _ _ _ b s (2816 + x) (by omega))

end Cert.ReferenceIdeal.Ffn

end
-- ==== Proof.FfnPay.lean ====
/- What the feed-forward kernel's stored values are, read at one index. -/
module

public import proofs.«01_k».proof.Proof.FfnRef
public import Idealize.ShloMosaic.Lib.Pipeline.ValueKit

@[expose] public section

set_option maxRecDepth 16384

noncomputable section

open Idealize.ShloMosaic Idealize.ShloMosaic.TcCoe Idealize.SL.Sem
open scoped BigOperators

namespace Cert.KernelIdeal.Ffn

open Cert.KernelIdeal Cert.KernelIdeal.Gen

/-- One step of the accumulation: the block of 256 hidden channels `256 j ..` adds its part of the down projection. The
    scratch `H` holds rows `1024 i ..` of the padded hidden state, the other operands are the step's blocks. -/
theorem step_at (h : FVec Ideal S2x8192x1024 .bf16) (w : FVec Ideal S1024x5632 .f32) (cw : FVec Ideal S3x5632 .f32)
    (cb : FVec Ideal S5632 .f32) (b : Fin 2) (i j : ℕ) (hj : j < 11)
    (H : FVec Ideal S1056x1024 .bf16) (wg wv : FVec Ideal S1024x256 .bf16) (cwg cwv : FVec Ideal S3x256 .f32)
    (cbg cbv : FVec Ideal S1x256 .f32) (acc : FVec Ideal S1024x1024 .f32) (wd : FVec Ideal S256x1024 .bf16)
    (hH : ∀ (q : Fin 1056) (k : Fin 1024), H (ix2 q k) = hrow h b (1024 * i + q) k)
    (hwg : ∀ (k : Fin 1024) (f : Fin 256), wg (ix2 k f) = w (ix2 k ⟨256 * j + f, by omega⟩))
    (hwv : ∀ (k : Fin 1024) (f : Fin 256), wv (ix2 k f) = w (ix2 k ⟨2816 + (256 * j + f), by omega⟩))
    (hcwg : ∀ (k : Fin 3) (f : Fin 256), cwg (ix2 k f) = cw (ix2 k ⟨256 * j + f, by omega⟩))
    (hcwv : ∀ (k : Fin 3) (f : Fin 256), cwv (ix2 k f) = cw (ix2 k ⟨2816 + (256 * j + f), by omega⟩))
    (hcbg : ∀ f : Fin 256, cbg (ix2 0 f) = cb (ix1 ⟨256 * j + f, by omega⟩))
    (hcbv : ∀ f : Fin 256, cbv (ix2 0 f) = cb (ix1 ⟨2816 + (256 * j + f), by omega⟩))
    (r n : Fin 1024) :
    k0_pay1 (F := Ideal) (k0_pay7 H wg cwg cbg) (k0_pay9 H wv) (k0_pay10 H wv) (k0_pay11 H wv) cwv cbv acc wd (ix2 r n)
      = acc (ix2 r n) + ∑ f : Fin 256, act h w cw cb b (1024 * i + r) ⟨256 * j + f, by omega⟩ * wd (ix2 f n) := by
  have e1 : ∀ hlt, (⟨(16 + (r : ℕ) + 1056 - 1) % 1056, hlt⟩ : Fin 1056) = ⟨15 + r, by omega⟩ := fun _ => Fin.ext (by simp only; omega)
  have e2 : ∀ hlt, (⟨(16 + (r : ℕ) + 1056 - 1055) % 1056, hlt⟩ : Fin 1056) = ⟨17 + r, by omega⟩ := fun _ => Fin.ext (by simp only; omega)
  have eu : ∀ (d : ℕ) (hd : d + (r : ℕ) < 1056) (w' : FVec Ideal S1024x256 .bf16) (f : Fin 256) (o : Fin 5632)
      (hw : ∀ k : Fin 1024, w' (ix2 k f) = w (ix2 k o)),
      ∑ k : Fin 1024, H (ix2 ⟨d + r, hd⟩ k) * w' (ix2 k f) = up h w b (1024 * i + r + d) o := fun d hd w' f o hw => by
    unfold up
    refine Finset.sum_congr rfl fun k _ => ?_
    rw [hH, hw, show 1024 * i + (r : ℕ) + d = 1024 * i + (d + r) from by omega]
  pointwise [k0_pay1, k0_pay7, k0_pay8, k0_pay9, k0_pay10, k0_pay11]
  refine congrArg₂ (· + ·) rfl (Finset.sum_congr rfl fun f _ => congrArg₂ (· * ·) ?_ rfl)
  simp only [e1, e2, eu 15 _ wg f _ (fun k => hwg k f), eu 16 _ wg f _ (fun k => hwg k f), eu 17 _ wg f _ (fun k => hwg k f),
    eu 15 _ wv f _ (fun k => hwv k f), eu 16 _ wv f _ (fun k => hwv k f), eu 17 _ wv f _ (fun k => hwv k f),
    hcwg, hcwv, hcbg, hcbv, zero_sub]
  rfl

end Cert.KernelIdeal.Ffn

end
-- ==== Proof.FfnRun.lean ====
/- The feed-forward kernel run point by point. -/
module

public import proofs.«01_k».proof.Proof.FfnPay
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelIdeal.Ffn

open Cert.KernelIdeal Cert.KernelIdeal.Gen

variable (m : (ℓ : Loc nD τ sig) → Buf (Elt Ideal) ℓ)

/-- Every window's block index at every grid point. -/
theorem idx_val : ∀ t : Fin cfg0.N, win0_0.index t = ![t.val / 88, t.val / 11 % 8 * 64 - 1, 0]
    ∧ win0_1.index t = ![t.val / 88, t.val / 11 % 8, 0]
    ∧ win0_2.index t = ![t.val / 88, min (t.val / 11 % 8 * 64 + 64) 511, 0]
    ∧ win0_3.index t = ![0, t.val % 11]
    ∧ win0_4.index t = ![0, 11 + (t.val % 11)]
    ∧ win0_5.index t = ![0, t.val % 11]
    ∧ win0_6.index t = ![0, 11 + (t.val % 11)]
    ∧ win0_7.index t = ![0, t.val % 11]
    ∧ win0_8.index t = ![0, 11 + (t.val % 11)]
    ∧ win0_9.index t = ![t.val % 11, 0]
    ∧ win0_10.index t = ![t.val / 88, t.val / 11 % 8, 0]
    ∧ win0_11.index t = ![t.val / 88, 0, 0]
    ∧ win0_12.index t = ![t.val / 88, t.val / 11 % 8, 0]
    ∧ t.val / 88 < 2 :=
  (by decide +kernel : ∀ t : Fin grid0.N, _)

/-- The batch of a grid point. -/
def bOf (t : Fin cfg0.N) : Fin 2 := ⟨t.val / 88, (idx_val t).2.2.2.2.2.2.2.2.2.2.2.2.2⟩

theorem cond_lo : ∀ t : Fin cfg0.N, Scalar.cmpi .sgt (BitVec.ofNat 32 (grid0.coords t 1).val) 0#32 = if 0 < t.val / 11 % 8 then 1#1 else 0#1 :=
  (by decide +kernel : ∀ t : Fin grid0.N, _)
theorem cond_hi : ∀ t : Fin cfg0.N, Scalar.cmpi .slt (BitVec.ofNat 32 (grid0.coords t 1).val) 7#32 = if t.val / 11 % 8 < 7 then 1#1 else 0#1 :=
  (by decide +kernel : ∀ t : Fin grid0.N, _)

/-- What the first scratch is filled with at the first point of a run: rows `1024 i ..` of the padded hidden state. -/
theorem fill_at (c : Dev nD) (t : Fin cfg0.N) (hA : t.val % 11 = 0) (hB : ¬t.val % 11 = 10) (q : Fin 1056) (k : Fin 1024) :
    (outsAt0 m c t.val t.isLt).2.1 (ix2 q k) = hrow (m ((c : Thread nD τ).loc main_arg0)) (bOf t) (1024 * (t.val / 11 % 8) + q) k := by
  rw [outsAt0_A m c t hA hB]
  frame_out
  canon_tiles x h using (View.cover_of_tiledBy (s := S1056x1024) _ ![16, 1024] (by sl_kernel_rfl) _)
  all_goals (pointwise [k0_pay3, k0_pay4, k0_pay5])
  all_goals simp only [ix2_0, ix2_1] at h0 h1
  · rw [cond_hi]
    by_cases hc : t.val / 11 % 8 < 7
    · rw [if_pos hc]
      unfold hrow
      rw [dif_pos ⟨by omega, by omega⟩]
      show iblk m c 2 t (ix3 0 (x 0) (x 1)) = _
      blk_ext [iblk, V, idx_val t, bOf]
    · rw [if_neg hc]
      unfold hrow
      rw [dif_neg (by omega)]
      rfl
  · unfold hrow
    rw [dif_pos ⟨by omega, by omega⟩]
    blk_ext [iblk, V, idx_val t, bOf]
  · rw [cond_lo]
    by_cases hc : 0 < t.val / 11 % 8
    · rw [if_pos hc]
      unfold hrow
      rw [dif_pos ⟨by omega, by omega⟩]
      show iblk m c 0 t (ix3 0 (x 0) (x 1)) = _
      blk_ext [iblk, V, idx_val t, bOf]
    · rw [if_neg hc]
      unfold hrow
      rw [dif_neg (by omega)]
      rfl

/-- The accumulation step at a point, over the scratch contents `H` and the running sum `acc`. -/
abbrev stepT (c : Dev nD) (t : Fin cfg0.N) (H : FVec Ideal S1056x1024 .bf16) (acc : FVec Ideal S1024x1024 .f32) : FVec Ideal S1024x1024 .f32 :=
  k0_pay1 (F := Ideal) (k0_pay7 H (iblk m c 3 t) (iblk m c 5 t) (iblk m c 7 t)) (k0_pay9 H (iblk m c 4 t)) (k0_pay10 H (iblk m c 4 t))
    (k0_pay11 H (iblk m c 4 t)) (iblk m c 6 t) (iblk m c 8 t) acc (iblk m c 9 t)

theorem acc_A (c : Dev nD) (t : Fin cfg0.N) (h0 : t.val % 11 = 0) (h1 : ¬t.val % 11 = 10) :
    (outsAt0 m c t.val t.isLt).2.2 = stepT m c t (outsAt0 m c t.val t.isLt).2.1 (k0_pay6 (F := Ideal)) := by
  rw [outsAt0_A m c t h0 h1]
  frame_out
  simp only [View.readCov_eq_canon']
  have e : ∀ j : S1056x1024.Idx, (Rect.unit (s := S1056x1024) ![0, 0] ![1056, 1024] inb_S1056x1024_S1056x1024_0_0).idx j = j := fun j =>
    funext fun a => Fin.ext (by fin_cases a <;> (show 0 + 1 * _ = _; omega))
  simp only [e]

theorem keep_B (c : Dev nD) (t : Fin cfg0.N) (h0 : ¬ t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]
  rfl

theorem acc_B (c : Dev nD) (t : Fin cfg0.N) (h0 : ¬ t.val % 11 = 0) (h1 : ¬t.val % 11 = 10) :
    (outsAt0 m c t.val t.isLt).2.2 = stepT m c t (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0 h1]
  frame_out
  rw [show ∀ x, View.read (Elt Ideal) (View.whole cc0_scratch0) ((Memref.isWhole_whole cc0_scratch0).unread x) = x from fun x => (Memref.isWhole_whole cc0_scratch0).read_unread x,
    show ∀ x, View.read (Elt Ideal) (View.whole cc0_scratch1) ((Memref.isWhole_whole cc0_scratch1).unread x) = x from fun x => (Memref.isWhole_whole cc0_scratch1).read_unread x]

theorem keep_C (c : Dev nD) (t : Fin cfg0.N) (h0 : ¬ t.val % 11 = 0) (h1 : t.val % 11 = 10) :
    (outsAt0 m c t.val t.isLt).2.1 = (outsAt0 m c (t.val - 1) (Nat.lt_of_le_of_lt (Nat.sub_le _ _) t.isLt)).2.1 := by
  rw [outsAt0_C m c t h0 h1]
  rfl

theorem acc_C (c : Dev nD) (t : Fin cfg0.N) (h0 : ¬ t.val % 11 = 0) (h1 : t.val % 11 = 10) :
    (outsAt0 m c t.val t.isLt).2.2 = stepT m c t (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_C m c t h0 h1]
  frame_out
  rw [show ∀ x, View.read (Elt Ideal) (View.whole cc0_scratch0) ((Memref.isWhole_whole cc0_scratch0).unread x) = x from fun x => (Memref.isWhole_whole cc0_scratch0).read_unread x,
    show ∀ x, View.read (Elt Ideal) (View.whole cc0_scratch1) ((Memref.isWhole_whole cc0_scratch1).unread x) = x from fun x => (Memref.isWhole_whole cc0_scratch1).read_unread x]

theorem out_C (c : Dev nD) (t : Fin cfg0.N) (h0 : ¬ t.val % 11 = 0) (h1 : t.val % 11 = 10) :
    (outsAt0 m c t.val t.isLt).1 = k0_pay2 (F := Ideal) (iblk m c 10 t) (iblk m c 11 t) (outsAt0 m c t.val t.isLt).2.2 := by
  rw [outsAt0_C m c t h0 h1]
  frame_out

/-- The first scratch after every point: rows `1024 i ..` of the padded hidden state of the point's batch. -/
theorem hcat_at (c : Dev nD) : ∀ (n : ℕ) (hn : n < cfg0.N) (q : Fin 1056) (k : Fin 1024),
    (outsAt0 m c n hn).2.1 (ix2 q k) = hrow (m ((c : Thread nD τ).loc main_arg0)) (bOf ⟨n, hn⟩) (1024 * (n / 11 % 8) + q) k
  | 0, hn, q, k => fill_at m c ⟨0, hn⟩ rfl (by simp) q k
  | n + 1, hn, q, k => by
    by_cases hA : (n + 1) % 11 = 0
    · exact fill_at m c ⟨n + 1, hn⟩ hA (by simp only; omega) q k
    · have hk : (outsAt0 m c (n + 1) hn).2.1 = (outsAt0 m c n (Nat.lt_of_succ_lt hn)).2.1 := by
        by_cases hC : (n + 1) % 11 = 10
        · exact keep_C m c ⟨n + 1, hn⟩ hA hC
        · exact keep_B m c ⟨n + 1, hn⟩ hA hC
      rw [hk, hcat_at c n _ q k]
      have e1 : n / 11 = (n + 1) / 11 := by omega
      have e2 : n / 88 = (n + 1) / 88 := by omega
      have e3 : bOf ⟨n, Nat.lt_of_succ_lt hn⟩ = bOf ⟨n + 1, hn⟩ := Fin.ext e2
      rw [e1, e3]

/-- One hidden channel's part of the down projection. -/
def term (c : Dev nD) (b : Fin 2) (s : ℕ) (n : Fin 1024) (f : Fin 2816) : EReal :=
  act (m ((c : Thread nD τ).loc main_arg0)) (m ((c : Thread nD τ).loc main_arg3)) (m ((c : Thread nD τ).loc main_arg4))
    (m ((c : Thread nD τ).loc main_arg5)) b s f * (show EReal from m ((c : Thread nD τ).loc main_arg6) (ix2 f n))

theorem term_congr (c : Dev nD) {b b' : Fin 2} {s s' : ℕ} {n n' : Fin 1024} (f : Fin 2816) (hb : b = b') (hs : s = s') (hn : n = n') :
    term m c b s n f = term m c b' s' n' f := by subst hb hs hn; rfl

/-- The part of the 256 channels of step `j`. -/
def part (c : Dev nD) (b : Fin 2) (s : ℕ) (n : Fin 1024) (j : ℕ) : EReal :=
  if hj : j < 11 then ∑ f : Fin 256, term m c b s n ⟨256 * j + f, by omega⟩ else 0

theorem step_point (c : Dev nD) (t : Fin cfg0.N) (H : FVec Ideal S1056x1024 .bf16) (acc : FVec Ideal S1024x1024 .f32)
    (hH : ∀ (q : Fin 1056) (k : Fin 1024), H (ix2 q k) = hrow (m ((c : Thread nD τ).loc main_arg0)) (bOf t) (1024 * (t.val / 11 % 8) + q) k)
    (r n : Fin 1024) :
    stepT m c t H acc (ix2 r n) = acc (ix2 r n) + part m c (bOf t) (1024 * (t.val / 11 % 8) + r) n (t.val % 11) := by
  have hj : t.val % 11 < 11 := Nat.mod_lt _ (by decide)
  refine (step_at (m ((c : Thread nD τ).loc main_arg0)) (m ((c : Thread nD τ).loc main_arg3)) (m ((c : Thread nD τ).loc main_arg4))
    (m ((c : Thread nD τ).loc main_arg5)) (bOf t) (t.val / 11 % 8) (t.val % 11) hj H _ _ _ _ _ _ acc _ hH ?_ ?_ ?_ ?_ ?_ ?_ r n).trans ?_
  · intro k f; blk_ext [iblk, V, idx_val t]
  · intro k f; blk_ext [iblk, V, idx_val t]
  · intro k f; blk_ext [iblk, V, idx_val t]
  · intro k f; blk_ext [iblk, V, idx_val t]
  · intro f; blk_point [iblk, V, idx_val t]
  · intro f; blk_point [iblk, V, idx_val t]
  · rw [part, dif_pos hj]
    refine congrArg _ (Finset.sum_congr rfl fun f _ => congrArg (act _ _ _ _ _ _ _ * ·) ?_)
    blk_ext [iblk, V, idx_val t]

/-- The running sum after every point. -/
theorem acc_at (c : Dev nD) (r n : Fin 1024) : ∀ (p : ℕ) (hp : p < cfg0.N),
    (outsAt0 m c p hp).2.2 (ix2 r n) = ∑ j ∈ Finset.range (p % 11 + 1), part m c (bOf ⟨p, hp⟩) (1024 * (p / 11 % 8) + r) n j
  | 0, hp => by
    rw [acc_A m c ⟨0, hp⟩ rfl (by simp), step_point m c ⟨0, hp⟩ _ _ (hcat_at m c 0 hp)]
    rw [show k0_pay6 (F := Ideal) (ix2 r n) = 0 from by pointwise [k0_pay6]]
    simp
  | p + 1, hp => by
    by_cases hA : (p + 1) % 11 = 0
    · rw [acc_A m c ⟨p + 1, hp⟩ hA (by simp only; omega), step_point m c ⟨p + 1, hp⟩ _ _ (hcat_at m c (p + 1) hp)]
      rw [show k0_pay6 (F := Ideal) (ix2 r n) = 0 from by pointwise [k0_pay6]]
      simp [hA]
    · have e1 : p / 11 = (p + 1) / 11 := by omega
      have e2 : p / 88 = (p + 1) / 88 := by omega
      have e3 : bOf ⟨p, Nat.lt_of_succ_lt hp⟩ = bOf ⟨p + 1, hp⟩ := Fin.ext e2
      have hk : (outsAt0 m c (p + 1) hp).2.2 = stepT m c ⟨p + 1, hp⟩ (outsAt0 m c p (Nat.lt_of_succ_lt hp)).2.1 (outsAt0 m c p (Nat.lt_of_succ_lt hp)).2.2 := by
        by_cases hC : (p + 1) % 11 = 10
        · exact acc_C m c ⟨p + 1, hp⟩ hA hC
        · exact acc_B m c ⟨p + 1, hp⟩ hA hC
      rw [hk, step_point m c ⟨p + 1, hp⟩ _ _ (fun q k => by rw [hcat_at m c p _ q k, e1, e3]), acc_at c r n p _, e1, e3,
        show (p + 1) % 11 = p % 11 + 1 from by omega, Finset.sum_range_succ _ (p % 11 + 1)]

/-- The sum over the eleven steps is the sum over all 2816 channels. -/
theorem sum_parts (c : Dev nD) (b : Fin 2) (s : ℕ) (n : Fin 1024) :
    ∑ j ∈ Finset.range 11, part m c b s n j = ∑ f : Fin 2816, term m c b s n f := by
  rw [Finset.sum_range, show (∑ f : Fin 2816, term m c b s n f) = ∑ f : Fin (11 * 256), term m c b s n f from rfl,
    Fin.sum_univ_tiles 11 256 rfl]
  refine Finset.sum_congr rfl fun j _ => ?_
  rw [part, dif_pos j.isLt]
  exact Finset.sum_congr rfl fun f _ => congrArg _ (Fin.ext (by simp only; omega))

/-- What the kernel leaves in its result array, read at one index. -/
def RES (c : Dev nD) : FVec Ideal S2x8192x1024 .f32 := fun y =>
  (show EReal from m ((c : Thread nD τ).loc main_arg1) (ix3 (y 0) (y 1) (y 2))) + (show EReal from m ((c : Thread nD τ).loc main_arg2) (ix3 (y 0) 0 (y 2)))
    * ∑ f : Fin 2816, term m c (y 0) (y 1).val (y 2) f

theorem final (c : Dev nD) : (dats m 0 c).arrAt 12 (cfgs 0).N = RES m c := by
  refine (dats m 0 c).arrAt_eq_of_covers 12 _ (by decide +kernel) fun t hf y => ?_
  blk_simp
  rw [after0_12]
  have hC : t.val % 11 = 10 := (flush0_12 t).mp hf
  rw [out_C m c t (by omega) hC]
  pointwise [k0_pay2]
  unfold RES
  refine Ideal.add_congr ?_ (Ideal.mul_congr ?_ ((acc_at m c (y 1) (y 2) t.val t.isLt).trans ?_))
  · blk_ext [iblk, V, idx_val t]
  · blk_ext [iblk, V, idx_val t]
  · rw [hC]
    refine (sum_parts m c _ _ _).trans (Finset.sum_congr rfl fun f _ => term_congr m c f ?_ ?_ ?_)
    · refine Fin.ext ?_
      blk_simp [idx_val t, bOf]
    · blk_simp [idx_val t]
      try omega
    · refine Fin.ext ?_
      blk_simp [idx_val t]

end Cert.KernelIdeal.Ffn

end
-- ==== Proof.FfnClaim.lean ====
/- The claims about the feed-forward call. -/
module

public import proofs.«01_k».proof.Defs
public import proofs.«01_k».proof.Proof.FfnRun
public import Idealize.ShloMosaic.Lib.Claim

@[expose] public section

set_option maxRecDepth 16384

noncomputable section

open Idealize.ShloMosaic Idealize.ShloMosaic.TcCoe Idealize.SL.Sem
open scoped BigOperators

namespace Cert.Ffn

/-- The two result arrays agree where the arguments do. -/
theorem res_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v33 m' c = Cert.KernelIdeal.Ffn.RES m c := by
  funext y
  refine (congrArg (Cert.ReferenceIdeal.Value.res_main_v33 m' c) (eq_ix3 y)).trans ((Cert.ReferenceIdeal.Ffn.ref_at m' c (y 0) (y 1) (y 2)).trans ?_)
  rw [h0, h1, h2, h3, h4, h5, h6]
  rfl

theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    obtain ⟨h0, h1, h2, h3, h4, h5, h6⟩ := hagree c
    exact (res_eq m c m' h0 h1 h2 h3 h4 h5 h6).trans (Cert.KernelIdeal.Ffn.final m c).symm

theorem frame_reference : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

end Cert.Ffn

end
-- ==== Proof.DiffRun.lean ====
/- One execution of the attention kernel: which pieces of its result block it stores, by running the body once. -/
module

public import proofs.«01_k».proof.Proof.Gen.DiffIdeal.Frame.Runs

@[expose] public section

-- membership in a rectangle of production extents (`View.cover_of_tiled`): the elaborator's structural look
-- recurses once per coordinate of the long axes
set_option maxRecDepth 16384

noncomputable section

namespace Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body, run from buffers holding `x0 .. x5`, ends with the six operands unchanged and with the listed pieces stored in
    the result block. -/
noncomputable def bodyRun (c : Dev nD) (i : grid0.Coords) (arg2 : Memref sig .tc .vmem S4x32 .f32) (harg2 : arg2.IsWhole) (arg3 : Memref sig .tc .vmem S1x256x128 .bf16) (harg3 : arg3.IsWhole) (arg4 : Memref sig .tc .vmem S1x8192x256 .bf16) (harg4 : arg4.IsWhole) (arg5 : Memref sig .tc .vmem S1x16x256x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x128x256 .f32) (harg8 : arg8.IsWhole) (arg9 : Memref sig .tc .vmem S256x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x256 .f32) (harg14 : arg14.IsWhole)
    (x0 : Vec F S4x32 .f32) (x1 : Vec F S1x256x128 .bf16) (x2 : Vec F S1x8192x256 .bf16) (x3 : Vec F S1x16x256x512 .bf16) (x4 : Vec F S1x256x256 .bf16) (x5 : Vec F S1x256x256 .bf16) :
    { L6 : BufTy.Contents (Elt F) arg11.view.ty → List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f g, arg8.view.loc (c : Thread nD τ) ↦[arg8.view.set]{fullShare} arg8.view.writes (Elt F) f (L6 g)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_differential_attention i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_differential_attention_eq_skeleton]; unfold cc0_differential_attention_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists f6, fs2; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl
end Cert.DiffIdeal.Gen

end
-- ==== Proof.DiffMath.lean ====
/- The running softmax over the reals: what the three accumulators of one column hold after the first scores, and how a
   further chunk of scores changes them. -/
module

public import Idealize.ShloMosaic.Lib.Pipeline.ValueKit

@[expose] public section

noncomputable section

open Idealize.ShloMosaic
open scoped BigOperators

namespace Cert.DiffMath

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The accumulators `m`, `l`, `a` of one column after its first `N` scores `σ` and values `v`: untouched at `N = 0`; later
    some real `μ` is subtracted from every exponent (the running maximum, but nothing here depends on that), `l` is the sum
    of the powers and `a` the sum of the powers times the values. -/
def St (σ v : ℕ → ℝ) (N : ℕ) (m l a : EReal) : Prop :=
  (N = 0 ∧ m = ⊥ ∧ l = 0 ∧ a = 0) ∨
    ∃ μ : ℝ, m = (μ : EReal) ∧ l = ((∑ i ∈ Finset.range N, Real.rpow 2 (σ i - μ) : ℝ) : EReal) ∧
      a = ((∑ i ∈ Finset.range N, Real.rpow 2 (σ i - μ) * v i : ℝ) : EReal)

theorem exp2_sub (x μ : ℝ) : Ideal.exp2 ((x : EReal) - (μ : EReal)) = ((Real.rpow 2 (x - μ) : ℝ) : EReal) := by
  rw [← EReal.coe_sub]; exact Ideal.exp2_coe _

theorem exp2_bot_sub (μ : ℝ) : Ideal.exp2 ((⊥ : EReal) - (μ : EReal)) = 0 := by
  have h : (⊥ : EReal) - (μ : EReal) = ⊥ := by simp [sub_eq_add_neg]
  rw [h]; exact Ideal.exp2_bot

theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- The maximum of a nonempty family of reals is a real. -/
theorem fold_max_real {n : ℕ} (s : Fin n → EReal) (hs : ∀ j, ∃ r : ℝ, s j = (r : EReal)) :
    (n = 0 ∧ Finset.univ.fold max (⊥ : EReal) s = ⊥) ∨ ∃ μ : ℝ, Finset.univ.fold max (⊥ : EReal) s = (μ : EReal) := by
  classical
  have key : ∀ t : Finset (Fin n), (t = ∅) ∨ ∃ μ : ℝ, t.fold max (⊥ : EReal) s = (μ : EReal) := by
    intro t
    induction t using Finset.induction_on with
    | empty => left; rfl
    | insert a t h ih =>
      right
      rw [Finset.fold_insert h]
      obtain ⟨r, hr⟩ := hs a
      rcases ih with rfl | ⟨μ, hμ⟩
      · exact ⟨r, by rw [hr]; simp⟩
      · exact ⟨max r μ, by rw [hr, hμ]; exact (coe_max r μ).symm⟩
  rcases key Finset.univ with h | h
  · left
    refine ⟨?_, by rw [h]; rfl⟩
    rcases Nat.eq_zero_or_pos n with h0 | h0
    · exact h0
    · exact absurd (h ▸ Finset.mem_univ (⟨0, h0⟩ : Fin n)) (Finset.notMem_empty _)
  · right; exact h

/-- One chunk of `n` scores `s` and values `u` absorbed: the new maximum is `m'`, the old accumulators are scaled by
    `2 ^ (m − m')` and the new powers are added. -/
theorem St.absorb {σ v : ℕ → ℝ} {N : ℕ} {m l a : EReal} (h : St σ v N m l a) {n : ℕ} (hn : 0 < n)
    (s u : Fin n → EReal) (hs : ∀ j, s j = (σ (N + j.val) : EReal)) (hu : ∀ j, u j = (v (N + j.val) : EReal))
    (m' : EReal) (hm' : m' = max m (Finset.univ.fold max (⊥ : EReal) s)) :
    St σ v (N + n) m'
      (Ideal.exp2 (m - m') * l + ∑ j, Ideal.exp2 (s j - m'))
      (a * Ideal.exp2 (m - m') + ∑ j, u j * Ideal.exp2 (s j - m')) := by
  have hreal : ∃ μ' : ℝ, m' = (μ' : EReal) := by
    rcases fold_max_real s (fun j => ⟨_, hs j⟩) with ⟨h0, _⟩ | ⟨μ, hμ⟩
    · omega
    · rcases h with ⟨_, rfl, _, _⟩ | ⟨μ0, rfl, _, _⟩
      · exact ⟨μ, by rw [hm', hμ]; simp⟩
      · exact ⟨max μ0 μ, by rw [hm', hμ]; exact (coe_max _ _).symm⟩
  obtain ⟨μ', rfl⟩ := hreal
  clear hm'
  have e1 : ∀ j, Ideal.exp2 (s j - (μ' : EReal)) = ((Real.rpow 2 (σ (N + j.val) - μ') : ℝ) : EReal) := by
    intro j; rw [hs j]; exact exp2_sub _ _
  have s1 : (∑ j, Ideal.exp2 (s j - (μ' : EReal))) = ((∑ j : Fin n, Real.rpow 2 (σ (N + j.val) - μ') : ℝ) : EReal) := by
    rw [coe_sum]; exact Finset.sum_congr rfl (fun j _ => e1 j)
  have s2 : (∑ j, u j * Ideal.exp2 (s j - (μ' : EReal)))
      = ((∑ j : Fin n, Real.rpow 2 (σ (N + j.val) - μ') * v (N + j.val) : ℝ) : EReal) := by
    rw [coe_sum]
    exact Finset.sum_congr rfl (fun j _ => by rw [e1 j, hu j, ← EReal.coe_mul, mul_comm])
  right
  refine ⟨μ', rfl, ?_, ?_⟩
  · rw [s1, Finset.sum_range_add, Finset.sum_range (fun x => Real.rpow 2 (σ (N + x) - μ')), EReal.coe_add]
    congr 1
    rcases h with ⟨rfl, rfl, rfl, rfl⟩ | ⟨μ, rfl, rfl, rfl⟩
    · simp
    · rw [exp2_sub, ← EReal.coe_mul, Finset.mul_sum]
      congr 1
      refine Finset.sum_congr rfl (fun i _ => ?_)
      have := Real.rpow_add (show (0:ℝ) < 2 by norm_num) (μ - μ') (σ i - μ)
      simp only [Real.rpow_eq_pow]
      rw [← this]; congr 1; ring
  · rw [s2, Finset.sum_range_add, Finset.sum_range (fun x => Real.rpow 2 (σ (N + x) - μ') * v (N + x)), EReal.coe_add]
    congr 1
    rcases h with ⟨rfl, rfl, rfl, rfl⟩ | ⟨μ, rfl, rfl, rfl⟩
    · simp
    · rw [exp2_sub, ← EReal.coe_mul, Finset.sum_mul]
      congr 1
      refine Finset.sum_congr rfl (fun i _ => ?_)
      have := Real.rpow_add (show (0:ℝ) < 2 by norm_num) (σ i - μ) (μ - μ')
      simp only [Real.rpow_eq_pow]
      rw [mul_right_comm, ← this]; congr 2; ring

/-- The quotient of the accumulators does not depend on `μ`. -/
theorem St.ratio {σ v : ℕ → ℝ} {N : ℕ} {m l a : EReal} (h : St σ v N m l a) (hN : 0 < N) :
    a * Ideal.div 1 l
      = (((∑ i ∈ Finset.range N, Real.rpow 2 (σ i) * v i) / (∑ i ∈ Finset.range N, Real.rpow 2 (σ i)) : ℝ) : EReal) := by
  rcases h with ⟨h0, _⟩ | ⟨μ, rfl, rfl, rfl⟩
  · omega
  have pos : ∀ (w : ℝ), 0 < Real.rpow 2 w := fun w => Real.rpow_pos_of_pos (by norm_num) w
  have e : ∀ i, Real.rpow 2 (σ i - μ) = Real.rpow 2 (σ i) * Real.rpow 2 (-μ) := fun i => by
    have := Real.rpow_add (show (0:ℝ) < 2 by norm_num) (σ i) (-μ)
    simp only [Real.rpow_eq_pow]; rw [← this]; rfl
  have p0 : 0 < ∑ i ∈ Finset.range N, Real.rpow 2 (σ i) :=
    Finset.sum_pos (fun i _ => pos _) ⟨0, Finset.mem_range.mpr hN⟩
  have hl : (∑ i ∈ Finset.range N, Real.rpow 2 (σ i - μ)) = (∑ i ∈ Finset.range N, Real.rpow 2 (σ i)) * Real.rpow 2 (-μ) := by
    rw [Finset.sum_mul]; exact Finset.sum_congr rfl (fun i _ => e i)
  have ha : (∑ i ∈ Finset.range N, Real.rpow 2 (σ i - μ) * v i)
      = (∑ i ∈ Finset.range N, Real.rpow 2 (σ i) * v i) * Real.rpow 2 (-μ) := by
    rw [Finset.sum_mul]; exact Finset.sum_congr rfl (fun i _ => by rw [e i]; ring)
  rw [hl, ha]
  have hne : (∑ i ∈ Finset.range N, Real.rpow 2 (σ i)) * Real.rpow 2 (-μ) ≠ 0 := (mul_pos p0 (pos _)).ne'
  unfold Ideal.div
  rw [if_neg (by exact_mod_cast hne), one_mul, ← EReal.coe_inv, ← EReal.coe_mul]
  congr 1
  have := (pos (-μ)).ne'
  field_simp

end Cert.DiffMath

end
-- ==== Proof.DiffStep.lean ====
/- What one chunk of scores does to the accumulators of the attention kernel: the stored values, read at one index. -/
module

public import proofs.«01_k».proof.Proof.Gen.DiffIdeal.Skeleton
public import proofs.«01_k».proof.Proof.DiffMath
public import Idealize.ShloMosaic.Lib.Pipeline.ValueKit

@[expose] public section

set_option maxRecDepth 16384

noncomputable section

open Idealize.ShloMosaic Idealize.ShloMosaic.TcCoe Idealize.SL.Sem
open scoped BigOperators

namespace Cert.DiffIdeal.Att

open Cert.DiffIdeal Cert.DiffIdeal.Gen Cert.DiffMath

theorem neg_inf_word : Ideal.ofBits .f32 0xFF800000#32 = (⊥ : EReal) := by simp [Ideal.ofBits, Ideal.ieee]

/-- The new maximum of a column. -/
theorem max_at (S : FVec Ideal S512x512 .f32) (M : FVec Ideal S1x512 .f32) (c : Fin 512) :
    k0_pay84 (F := Ideal) S M (ix2 0 c) = max (M (ix2 0 c)) (Finset.univ.fold max (⊥ : EReal) (fun j : Fin 512 => S (ix2 j c))) := by
  rw [← neg_inf_word]
  pointwise [k0_pay84, k0_pay80]

theorem max_at' (S : FVec Ideal S512x512 .f32) (M : FVec Ideal S1x512 .f32) (c : Fin 512) :
    k0_pay80 (F := Ideal) S M (ix2 0 c) = k0_pay84 (F := Ideal) S M (ix2 0 c) := by
  pointwise [k0_pay84, k0_pay80]

theorem sum_at (S : FVec Ideal S512x512 .f32) (M L : FVec Ideal S1x512 .f32) (c : Fin 512) :
    k0_pay83 (F := Ideal) S M L (ix2 0 c)
      = Ideal.exp2 (M (ix2 0 c) - k0_pay80 (F := Ideal) S M (ix2 0 c)) * L (ix2 0 c)
        + ∑ j : Fin 512, Ideal.exp2 (S (ix2 j c) - k0_pay80 (F := Ideal) S M (ix2 0 c)) := by
  generalize hm : k0_pay80 (F := Ideal) S M = m'
  pointwise [k0_pay83, k0_pay81, k0_pay82, hm]
  rfl

theorem acc0_at (S : FVec Ideal S512x512 .f32) (M : FVec Ideal S1x512 .f32) (A : FVec Ideal S64x256 .f32)
    (V : FVec Ideal S1x1x64x512 .bf16) (r : Fin 64) (w : Fin 256) :
    k0_pay86 (F := Ideal) S M A V (ix2 r w)
      = A (ix2 r w) * Ideal.exp2 (M (ix2 0 ⟨w.val, by omega⟩) - k0_pay80 (F := Ideal) S M (ix2 0 ⟨w.val, by omega⟩))
        + ∑ j : Fin 512, V (ix4 0 0 r j) * Ideal.exp2 (S (ix2 j ⟨w.val, by omega⟩) - k0_pay80 (F := Ideal) S M (ix2 0 ⟨w.val, by omega⟩)) := by
  generalize hm : k0_pay80 (F := Ideal) S M = m'
  pointwise [k0_pay86, k0_pay81, k0_pay82, k0_pay85, hm]
  rfl

theorem acc1_at (S : FVec Ideal S512x512 .f32) (M : FVec Ideal S1x512 .f32) (A : FVec Ideal S64x256 .f32)
    (V : FVec Ideal S1x1x64x512 .bf16) (r : Fin 64) (w : Fin 256) :
    k0_pay87 (F := Ideal) (k0_pay81 (F := Ideal) S M) (k0_pay85 (F := Ideal) S M) A V (ix2 r w)
      = A (ix2 r w) * Ideal.exp2 (M (ix2 0 ⟨256 + w.val, by omega⟩) - k0_pay80 (F := Ideal) S M (ix2 0 ⟨256 + w.val, by omega⟩))
        + ∑ j : Fin 512, V (ix4 0 0 r j) * Ideal.exp2 (S (ix2 j ⟨256 + w.val, by omega⟩) - k0_pay80 (F := Ideal) S M (ix2 0 ⟨256 + w.val, by omega⟩)) := by
  generalize hm : k0_pay80 (F := Ideal) S M = m'
  pointwise [k0_pay87, k0_pay81, k0_pay82, k0_pay85, hm]
  rfl

theorem score_at (K : FVec Ideal S1x512x256 .bf16) (Q : FVec Ideal S256x512 .bf16) (j c : Fin 512) :
    k0_pay62 (F := Ideal) K Q (ix2 j c) = (∑ d : Fin 256, (K (ix3 0 j d) : EReal) * (Q (ix2 d c) : EReal) : EReal) := by
  pointwise [k0_pay62, k0_pay61]

theorem ctx_max_at (S : FVec Ideal S256x512 .f32) (M : FVec Ideal S1x512 .f32) (c : Fin 512) :
    k0_pay114 (F := Ideal) S M (ix2 0 c) = max (M (ix2 0 c)) (Finset.univ.fold max (⊥ : EReal) (fun j : Fin 256 => S (ix2 j c))) := by
  rw [← neg_inf_word]
  pointwise [k0_pay114, k0_pay110]

theorem ctx_max_at' (S : FVec Ideal S256x512 .f32) (M : FVec Ideal S1x512 .f32) (c : Fin 512) :
    k0_pay110 (F := Ideal) S M (ix2 0 c) = k0_pay114 (F := Ideal) S M (ix2 0 c) := by
  pointwise [k0_pay114, k0_pay110]

theorem ctx_sum_at (S : FVec Ideal S256x512 .f32) (M L : FVec Ideal S1x512 .f32) (c : Fin 512) :
    k0_pay113 (F := Ideal) S M L (ix2 0 c)
      = Ideal.exp2 (M (ix2 0 c) - k0_pay110 (F := Ideal) S M (ix2 0 c)) * L (ix2 0 c)
        + ∑ j : Fin 256, Ideal.exp2 (S (ix2 j c) - k0_pay110 (F := Ideal) S M (ix2 0 c)) := by
  generalize hm : k0_pay110 (F := Ideal) S M = m'
  pointwise [k0_pay113, k0_pay111, k0_pay112, hm]
  rfl

theorem ctx_acc0_at (S : FVec Ideal S256x512 .f32) (M : FVec Ideal S1x512 .f32) (A : FVec Ideal S64x256 .f32)
    (V : FVec Ideal S1x64x256 .bf16) (r : Fin 64) (w : Fin 256) :
    k0_pay116 (F := Ideal) (k0_pay111 (F := Ideal) S M) (k0_pay112 (F := Ideal) S M) A V (ix2 r w)
      = A (ix2 r w) * Ideal.exp2 (M (ix2 0 ⟨w.val, by omega⟩) - k0_pay110 (F := Ideal) S M (ix2 0 ⟨w.val, by omega⟩))
        + ∑ j : Fin 256, V (ix3 0 r j) * Ideal.exp2 (S (ix2 j ⟨w.val, by omega⟩) - k0_pay110 (F := Ideal) S M (ix2 0 ⟨w.val, by omega⟩)) := by
  generalize hm : k0_pay110 (F := Ideal) S M = m'
  pointwise [k0_pay116, k0_pay111, k0_pay112, k0_pay115, hm]
  rfl

theorem ctx_acc1_at (S : FVec Ideal S256x512 .f32) (M : FVec Ideal S1x512 .f32) (A : FVec Ideal S64x256 .f32)
    (V : FVec Ideal S1x64x256 .bf16) (r : Fin 64) (w : Fin 256) :
    k0_pay117 (F := Ideal) (k0_pay111 (F := Ideal) S M) (k0_pay112 (F := Ideal) S M) A V (ix2 r w)
      = A (ix2 r w) * Ideal.exp2 (M (ix2 0 ⟨256 + w.val, by omega⟩) - k0_pay110 (F := Ideal) S M (ix2 0 ⟨256 + w.val, by omega⟩))
        + ∑ j : Fin 256, V (ix3 0 r j) * Ideal.exp2 (S (ix2 j ⟨256 + w.val, by omega⟩) - k0_pay110 (F := Ideal) S M (ix2 0 ⟨256 + w.val, by omega⟩)) := by
  generalize hm : k0_pay110 (F := Ideal) S M = m'
  pointwise [k0_pay117, k0_pay111, k0_pay112, k0_pay115, hm]
  rfl

theorem ctx_score_at (K : FVec Ideal S1x256x256 .bf16) (Q : FVec Ideal S256x512 .bf16) (j : Fin 256) (c : Fin 512) :
    k0_pay89 (F := Ideal) K Q (ix2 j c) = (∑ d : Fin 256, (K (ix3 0 j d) : EReal) * (Q (ix2 d c) : EReal) : EReal) := by
  pointwise [k0_pay89, k0_pay88]

/-- The accumulators of the columns `512 p ..` after the first `N` keys: `M` and `L` for the 512 columns, `A0` and `A1` the
    weighted sums of the value rows `128 p ..` and `128 p + 64 ..` for their first and second 256 columns. -/
def Half (σ v : ℕ → ℕ → ℝ) (N p : ℕ) (M L : FVec Ideal S1x512 .f32) (A0 A1 : FVec Ideal S64x256 .f32) : Prop :=
  (∀ (r : Fin 64) (w : Fin 256), St (σ (512 * p + w.val)) (v (128 * p + r.val)) N
      (M (ix2 0 ⟨w.val, by omega⟩)) (L (ix2 0 ⟨w.val, by omega⟩)) (A0 (ix2 r w))) ∧
  (∀ (r : Fin 64) (w : Fin 256), St (σ (512 * p + (256 + w.val))) (v (128 * p + 64 + r.val)) N
      (M (ix2 0 ⟨256 + w.val, by omega⟩)) (L (ix2 0 ⟨256 + w.val, by omega⟩)) (A1 (ix2 r w)))

/-- The scores of the 512 keys `N ..` in the columns `512 p ..`. -/
def ScoreIs (σ : ℕ → ℕ → ℝ) (N p : ℕ) (S : FVec Ideal S512x512 .f32) : Prop :=
  ∀ (j c : Fin 512), S (ix2 j c) = ((σ (512 * p + c.val) (N + j.val) : ℝ) : EReal)

/-- Value rows `R ..` of the 512 keys `N ..`. -/
def ValIs (v : ℕ → ℕ → ℝ) (N R : ℕ) (V : FVec Ideal S1x1x64x512 .bf16) : Prop :=
  ∀ (r : Fin 64) (j : Fin 512), V (ix4 0 0 r j) = ((v (R + r.val) (N + j.val) : ℝ) : EReal)

def CtxScoreIs (σ : ℕ → ℕ → ℝ) (N p : ℕ) (S : FVec Ideal S256x512 .f32) : Prop :=
  ∀ (j : Fin 256) (c : Fin 512), S (ix2 j c) = ((σ (512 * p + c.val) (N + j.val) : ℝ) : EReal)

def CtxValIs (v : ℕ → ℕ → ℝ) (N R : ℕ) (V : FVec Ideal S1x64x256 .bf16) : Prop :=
  ∀ (r : Fin 64) (j : Fin 256), V (ix3 0 r j) = ((v (R + r.val) (N + j.val) : ℝ) : EReal)

theorem Half.absorb {σ v : ℕ → ℕ → ℝ} {N p : ℕ} {M L : FVec Ideal S1x512 .f32} {A0 A1 : FVec Ideal S64x256 .f32}
    (h : Half σ v N p M L A0 A1) {S : FVec Ideal S512x512 .f32} (hS : ScoreIs σ N p S)
    {V0 V1 : FVec Ideal S1x1x64x512 .bf16} (h0 : ValIs v N (128 * p) V0) (h1 : ValIs v N (128 * p + 64) V1) :
    Half σ v (N + 512) p (k0_pay84 (F := Ideal) S M) (k0_pay83 (F := Ideal) S M L) (k0_pay86 (F := Ideal) S M A0 V0)
      (k0_pay87 (F := Ideal) (k0_pay81 (F := Ideal) S M) (k0_pay85 (F := Ideal) S M) A1 V1) := by
  refine ⟨fun r w => ?_, fun r w => ?_⟩
  · have e := (h.1 r w).absorb (n := 512) (by norm_num) (fun j => S (ix2 j ⟨w.val, by omega⟩)) (fun j => V0 (ix4 0 0 r j))
      (fun j => hS j _) (fun j => h0 r j) _ (max_at S M ⟨w.val, by omega⟩)
    rw [sum_at, acc0_at, max_at']
    exact e
  · have e := (h.2 r w).absorb (n := 512) (by norm_num) (fun j => S (ix2 j ⟨256 + w.val, by omega⟩)) (fun j => V1 (ix4 0 0 r j))
      (fun j => hS j _) (fun j => h1 r j) _ (max_at S M ⟨256 + w.val, by omega⟩)
    rw [sum_at, acc1_at, max_at']
    exact e

theorem Half.absorb_ctx {σ v : ℕ → ℕ → ℝ} {N p : ℕ} {M L : FVec Ideal S1x512 .f32} {A0 A1 : FVec Ideal S64x256 .f32}
    (h : Half σ v N p M L A0 A1) {S : FVec Ideal S256x512 .f32} (hS : CtxScoreIs σ N p S)
    {V0 V1 : FVec Ideal S1x64x256 .bf16} (h0 : CtxValIs v N (128 * p) V0) (h1 : CtxValIs v N (128 * p + 64) V1) :
    Half σ v (N + 256) p (k0_pay114 (F := Ideal) S M) (k0_pay113 (F := Ideal) S M L) (k0_pay116 (F := Ideal) (k0_pay111 (F := Ideal) S M) (k0_pay112 (F := Ideal) S M) A0 V0)
      (k0_pay117 (F := Ideal) (k0_pay111 (F := Ideal) S M) (k0_pay112 (F := Ideal) S M) A1 V1) := by
  refine ⟨fun r w => ?_, fun r w => ?_⟩
  · have e := (h.1 r w).absorb (n := 256) (by norm_num) (fun j => S (ix2 j ⟨w.val, by omega⟩)) (fun j => V0 (ix3 0 r j))
      (fun j => hS j _) (fun j => h0 r j) _ (ctx_max_at S M ⟨w.val, by omega⟩)
    rw [ctx_sum_at, ctx_acc0_at, ctx_max_at']
    exact e
  · have e := (h.2 r w).absorb (n := 256) (by norm_num) (fun j => S (ix2 j ⟨256 + w.val, by omega⟩)) (fun j => V1 (ix3 0 r j))
      (fun j => hS j _) (fun j => h1 r j) _ (ctx_max_at S M ⟨256 + w.val, by omega⟩)
    rw [ctx_sum_at, ctx_acc1_at, ctx_max_at']
    exact e

/-- The score of key `n` in column `c`: the inner product of the key with the column's masked query. -/
def sig (kk : ℕ → Fin 256 → ℝ) (qq : Fin 256 → ℕ → ℝ) (c n : ℕ) : ℝ := ∑ d : Fin 256, kk n d * qq d c

/-- The masked queries of the columns `512 p ..`. -/
def QryIs (qq : Fin 256 → ℕ → ℝ) (p : ℕ) (Q : FVec Ideal S256x512 .bf16) : Prop :=
  ∀ (d : Fin 256) (c : Fin 512), Q (ix2 d c) = ((qq d (512 * p + c.val) : ℝ) : EReal)

/-- The 512 keys `N ..`. -/
def KeyIs (kk : ℕ → Fin 256 → ℝ) (N : ℕ) (K : FVec Ideal S1x512x256 .bf16) : Prop :=
  ∀ (j : Fin 512) (d : Fin 256), K (ix3 0 j d) = ((kk (N + j.val) d : ℝ) : EReal)

def CtxKeyIs (kk : ℕ → Fin 256 → ℝ) (N : ℕ) (K : FVec Ideal S1x256x256 .bf16) : Prop :=
  ∀ (j : Fin 256) (d : Fin 256), K (ix3 0 j d) = ((kk (N + j.val) d : ℝ) : EReal)

theorem score_is {kk : ℕ → Fin 256 → ℝ} {qq : Fin 256 → ℕ → ℝ} {N p : ℕ} {K : FVec Ideal S1x512x256 .bf16}
    {Q : FVec Ideal S256x512 .bf16} (hK : KeyIs kk N K) (hQ : QryIs qq p Q) : ScoreIs (sig kk qq) N p (k0_pay62 (F := Ideal) K Q) := by
  intro j c
  rw [score_at, sig, coe_sum]
  exact Finset.sum_congr rfl (fun d _ => by rw [hK j d, hQ d c, EReal.coe_mul])

theorem ctx_score_is {kk : ℕ → Fin 256 → ℝ} {qq : Fin 256 → ℕ → ℝ} {N p : ℕ} {K : FVec Ideal S1x256x256 .bf16}
    {Q : FVec Ideal S256x512 .bf16} (hK : CtxKeyIs kk N K) (hQ : QryIs qq p Q) : CtxScoreIs (sig kk qq) N p (k0_pay89 (F := Ideal) K Q) := by
  intro j c
  rw [ctx_score_at, sig, coe_sum]
  exact Finset.sum_congr rfl (fun d _ => by rw [hK j d, hQ d c, EReal.coe_mul])

end Cert.DiffIdeal.Att

end
-- ==== Proof.DiffTrip.lean ====
/- One trip of the attention kernel's key loop: two chunks of 512 keys. -/
module

public import proofs.«01_k».proof.Proof.DiffRun
public import proofs.«01_k».proof.Proof.DiffStep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.DiffIdeal.Att

open Cert.DiffIdeal Cert.DiffIdeal.Gen Cert.DiffMath

/-- The rectangles through which the body reads and writes its scratch buffers: the two halves of the score buffers and of the
    running maximum and sum, the four row blocks of the accumulator. -/
abbrev rS0 : Rect S512x1024 := Rect.unit (s := S512x1024) ![0, 0] S512x512.size inb_S512x1024_S512x512_0_0
abbrev rS1 : Rect S512x1024 := Rect.unit (s := S512x1024) ![0, 512] S512x512.size inb_S512x1024_S512x512_0_512
abbrev rM0 : Rect S1x1024 := Rect.unit (s := S1x1024) ![0, 0] S1x512.size inb_S1x1024_S1x512_0_0
abbrev rM1 : Rect S1x1024 := Rect.unit (s := S1x1024) ![0, 512] S1x512.size inb_S1x1024_S1x512_0_512
abbrev rA0 : Rect S256x256 := Rect.unit (s := S256x256) ![0, 0] S64x256.size inb_S256x256_S64x256_0_0
abbrev rA1 : Rect S256x256 := Rect.unit (s := S256x256) ![64, 0] S64x256.size inb_S256x256_S64x256_64_0
abbrev rA2 : Rect S256x256 := Rect.unit (s := S256x256) ![128, 0] S64x256.size inb_S256x256_S64x256_128_0
abbrev rA3 : Rect S256x256 := Rect.unit (s := S256x256) ![192, 0] S64x256.size inb_S256x256_S64x256_192_0
abbrev rQ0 : Rect S256x1024 := Rect.unit (s := S256x1024) ![0, 0] S256x512.size inb_S256x1024_S256x512_0_0
abbrev rQ1 : Rect S256x1024 := Rect.unit (s := S256x1024) ![0, 512] S256x512.size inb_S256x1024_S256x512_0_512

theorem off_key1 : ∀ k : Fin k0_t1_loop.trips, k0_off1 k 1#32 = ![0, 1024 * k.val + 512, 0] := by decide
theorem off_key2 : ∀ k : Fin k0_t1_loop.trips, k0_off1 k 2#32 = ![0, 1024 * k.val + 1024, 0] := by decide
theorem off_val2 : ∀ k : Fin k0_t1_loop.trips, k0_off2 k = ![0, 2 * k.val + 0, 0, 0] := by decide
theorem off_val3 : ∀ k : Fin k0_t1_loop.trips, k0_off3 k = ![0, 2 * k.val + 0, 64, 0] := by decide
theorem off_val4 : ∀ k : Fin k0_t1_loop.trips, k0_off4 k = ![0, 2 * k.val + 0, 128, 0] := by decide
theorem off_val5 : ∀ k : Fin k0_t1_loop.trips, k0_off5 k = ![0, 2 * k.val + 0, 192, 0] := by decide
theorem off_val6 : ∀ k : Fin k0_t1_loop.trips, k0_off6 k = ![0, 2 * k.val + 1, 0, 0] := by decide
theorem off_val7 : ∀ k : Fin k0_t1_loop.trips, k0_off7 k = ![0, 2 * k.val + 1, 64, 0] := by decide
theorem off_val8 : ∀ k : Fin k0_t1_loop.trips, k0_off8 k = ![0, 2 * k.val + 1, 128, 0] := by decide
theorem off_val9 : ∀ k : Fin k0_t1_loop.trips, k0_off9 k = ![0, 2 * k.val + 1, 192, 0] := by decide

/-- A block of 512 keys read from the latent keys. -/
theorem key_is {kk : ℕ → Fin 256 → ℝ} (arg4 : Memref Cert.DiffIdeal.sig .tc .vmem S1x8192x256 .bf16) (harg4 : arg4.IsWhole)
    {x2 : Vec Ideal S1x8192x256 .bf16} (hx2 : ∀ (n : Fin 8192) (d : Fin 256), x2 (ix3 0 n d) = ((kk n.val d : ℝ) : EReal))
    (off : Fin 3 → ℕ) (inb : ∀ a, off a + S1x512x256.size a ≤ S1x8192x256.size a) (N : ℕ) (hoff : off = ![0, N, 0]) :
    KeyIs kk N (View.readAt (Elt Ideal) arg4.view (Rect.unit (s := S1x8192x256) off S1x512x256.size inb).toLoadRect (harg4.unread x2)) := by
  subst hoff
  intro j d
  have hb : N + 512 ≤ 8192 := inb 1
  refine (View.readAt_apply _ _ _).trans ((congrFun (harg4.read_unread x2) _).trans (Eq.trans (congrArg x2 ?_) (hx2 ⟨N + j.val, by omega⟩ d)))
  funext a; fin_cases a <;> apply Fin.ext <;> simp [LoadRect.idx, Rect.toLoadRect, Rect.unit, ix3]

/-- A block of 64 value rows by 512 keys read from the latent values. -/
theorem val_is {v : ℕ → ℕ → ℝ} (arg5 : Memref Cert.DiffIdeal.sig .tc .vmem S1x16x256x512 .bf16) (harg5 : arg5.IsWhole)
    {x3 : Vec Ideal S1x16x256x512 .bf16}
    (hx3 : ∀ (t : Fin 16) (r : Fin 256) (j : Fin 512), x3 (ix4 0 t r j) = ((v r.val (512 * t.val + j.val) : ℝ) : EReal))
    (off : Fin 4 → ℕ) (inb : ∀ a, off a + S1x1x64x512.size a ≤ S1x16x256x512.size a) (t R N : ℕ) (hoff : off = ![0, t, R, 0])
    (hN : N = 512 * t) :
    ValIs v N R (View.readAt (Elt Ideal) arg5.view (Rect.unit (s := S1x16x256x512) off S1x1x64x512.size inb).toLoadRect (harg5.unread x3)) := by
  subst hoff hN
  intro r j
  have ht : t + 1 ≤ 16 := inb 1
  have hR : R + 64 ≤ 256 := inb 2
  refine (View.readAt_apply _ _ _).trans ((congrFun (harg5.read_unread x3) _).trans (Eq.trans (congrArg x3 ?_)
    (hx3 ⟨t, by omega⟩ ⟨R + r.val, by omega⟩ j)))
  funext a; fin_cases a <;> apply Fin.ext <;> simp [LoadRect.idx, Rect.toLoadRect, Rect.unit, ix4]

/-- What the scratch buffers hold before the chunk of keys `N ..` is absorbed: its scores, and the accumulators of the keys before it. -/
structure Good (σ v : ℕ → ℕ → ℝ) (N : ℕ) (arg10 : Memref Cert.DiffIdeal.sig .tc .vmem S512x1024 .f32) (arg12 arg13 : Memref Cert.DiffIdeal.sig .tc .vmem S1x1024 .f32)
    (arg14 : Memref Cert.DiffIdeal.sig .tc .vmem S256x256 .f32) (L10 : List (View.Piece (Elt Ideal) S512x1024 .f32))
    (L12 L13 : List (View.Piece (Elt Ideal) S1x1024 .f32)) (L14 : List (View.Piece (Elt Ideal) S256x256 .f32)) : Prop where
  s0 : ScoreIs σ N 0 (arg10.view.readCov L10 rS0.toLoadRect)
  s1 : ScoreIs σ N 1 (arg10.view.readCov L10 rS1.toLoadRect)
  h0 : Half σ v N 0 (arg12.view.readCov L12 rM0.toLoadRect) (arg13.view.readCov L13 rM0.toLoadRect)
    (arg14.view.readCov L14 rA0.toLoadRect) (arg14.view.readCov L14 rA1.toLoadRect)
  h1 : Half σ v N 1 (arg12.view.readCov L12 rM1.toLoadRect) (arg13.view.readCov L13 rM1.toLoadRect)
    (arg14.view.readCov L14 rA2.toLoadRect) (arg14.view.readCov L14 rA3.toLoadRect)

section
variable (𝒱 : Variants) (c : Dev nD) (bd : Option 𝒱.V) (i : grid0.Coords) (arg2 : Memref Cert.DiffIdeal.sig .tc .vmem S4x32 .f32) (harg2 : arg2.IsWhole) (arg3 : Memref Cert.DiffIdeal.sig .tc .vmem S1x256x128 .bf16) (harg3 : arg3.IsWhole) (arg4 : Memref Cert.DiffIdeal.sig .tc .vmem S1x8192x256 .bf16) (harg4 : arg4.IsWhole) (arg5 : Memref Cert.DiffIdeal.sig .tc .vmem S1x16x256x512 .bf16) (harg5 : arg5.IsWhole) (arg6 : Memref Cert.DiffIdeal.sig .tc .vmem S1x256x256 .bf16) (harg6 : arg6.IsWhole) (arg7 : Memref Cert.DiffIdeal.sig .tc .vmem S1x256x256 .bf16) (harg7 : arg7.IsWhole) (arg8 : Memref Cert.DiffIdeal.sig .tc .vmem S1x128x256 .f32) (harg8 : arg8.IsWhole) (arg9 : Memref Cert.DiffIdeal.sig .tc .vmem S256x1024 .bf16) (harg9 : arg9.IsWhole) (arg10 : Memref Cert.DiffIdeal.sig .tc .vmem S512x1024 .f32) (harg10 : arg10.IsWhole) (arg11 : Memref Cert.DiffIdeal.sig .tc .vmem S512x1024 .f32) (harg11 : arg11.IsWhole) (arg12 : Memref Cert.DiffIdeal.sig .tc .vmem S1x1024 .f32) (harg12 : arg12.IsWhole) (arg13 : Memref Cert.DiffIdeal.sig .tc .vmem S1x1024 .f32) (harg13 : arg13.IsWhole) (arg14 : Memref Cert.DiffIdeal.sig .tc .vmem S256x256 .f32) (harg14 : arg14.IsWhole)
  (v103 : FVec Ideal S512x512 .f32) (x2 : Vec Ideal S1x8192x256 .bf16) (x3 : Vec Ideal S1x16x256x512 .bf16)
  (X9 : BufTy.Contents (Elt Ideal) arg9.view.ty) (L10 : List (View.Piece (Elt Ideal) S512x1024 .f32))
  (L12 L13 : List (View.Piece (Elt Ideal) S1x1024 .f32)) (L14 : List (View.Piece (Elt Ideal) S256x256 .f32))

set_option maxHeartbeats 1000000 in
/-- One trip of the loop absorbs two chunks of 512 keys and leaves the scores of the third. -/
theorem trip_good {kk : ℕ → Fin 256 → ℝ} {qq : Fin 256 → ℕ → ℝ} {v : ℕ → ℕ → ℝ} (k : Fin k0_t1_loop.trips)
    (hx2 : ∀ (n : Fin 8192) (d : Fin 256), x2 (ix3 0 n d) = ((kk n.val d : ℝ) : EReal))
    (hx3 : ∀ (t : Fin 16) (r : Fin 256) (j : Fin 512), x3 (ix4 0 t r j) = ((v r.val (512 * t.val + j.val) : ℝ) : EReal))
    (hq0 : QryIs qq 0 (View.readAt (Elt Ideal) arg9.view rQ0.toLoadRect X9))
    (hq1 : QryIs qq 1 (View.readAt (Elt Ideal) arg9.view rQ1.toLoadRect X9))
    (h : Good (sig kk qq) v (1024 * k.val) arg10 arg12 arg13 arg14 L10 L12 L13 L14)
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty}
    {f14 : BufTy.Contents (Elt Ideal) arg14.view.ty}
    (hf10 : f10 = arg10.view.writes (Elt Ideal) arg10.view.junk L10) (hf12 : f12 = arg12.view.writes (Elt Ideal) arg12.view.junk L12)
    (hf13 : f13 = arg13.view.writes (Elt Ideal) arg13.view.junk L13) (hf14 : f14 = arg14.view.writes (Elt Ideal) arg14.view.junk L14)
    {P} (hP : P = tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v103 (harg4.unread x2) (harg5.unread x3) X9 k f10 f11 f12 f13 f14) :
    Good (sig kk qq) v (1024 * (k.val + 1)) arg10 arg12 arg13 arg14 (P.1 ++ L10) (P.2.2.1 ++ L12) (P.2.2.2.1 ++ L13) (P.2.2.2.2 ++ L14) := by
  have e606 : (trip_k0_t1.sl.v606 (F := Ideal) arg4 arg9 arg11 (harg4.unread x2) X9 k) = (trip_k0_t1.sl.v487 (F := Ideal) arg4 arg9 (harg4.unread x2) X9 k) := by
    unfold trip_k0_t1.sl.v606 trip_k0_t1.sl.HW_arg11_2; rw [View.readCov_skip _ _ _ _ _ (by decide)]; exact View.readCov_cons_toLoadRect _ _ _ _
  have e654 : (trip_k0_t1.sl.v654 (F := Ideal) arg4 arg9 arg11 (harg4.unread x2) X9 k) = (trip_k0_t1.sl.v492 (F := Ideal) arg4 arg9 (harg4.unread x2) X9 k) := by
    unfold trip_k0_t1.sl.v654 trip_k0_t1.sl.HW_arg11_2; exact View.readCov_cons_toLoadRect _ _ _ _
  have e607 : (trip_k0_t1.sl.v607 (F := Ideal) arg10 arg12 f10 f12) = (trip_k0_t1.sl.v513 (F := Ideal) arg10 arg12 f10 f12) := by
    unfold trip_k0_t1.sl.v607 trip_k0_t1.sl.HW_arg12_2; rw [View.readCov_skip _ _ _ _ _ (by decide)]; exact View.readCov_cons_toLoadRect _ _ _ _
  have e616 : (trip_k0_t1.sl.v616 (F := Ideal) arg10 arg12 arg13 f10 f12 f13) = (trip_k0_t1.sl.v510 (F := Ideal) arg10 arg12 arg13 f10 f12 f13) := by
    unfold trip_k0_t1.sl.v616 trip_k0_t1.sl.HW_arg13_2; rw [View.readCov_skip _ _ _ _ _ (by decide)]; exact View.readCov_cons_toLoadRect _ _ _ _
  have e655 : (trip_k0_t1.sl.v655 (F := Ideal) arg4 arg9 arg10 arg11 arg12 (harg4.unread x2) X9 k f10 f12) = (trip_k0_t1.sl.v561 (F := Ideal) arg10 arg12 f10 f12) := by
    unfold trip_k0_t1.sl.v655 trip_k0_t1.sl.HW_arg12_3 trip_k0_t1.sl.HW_arg12_2; rw [View.readCov_skip _ _ _ _ _ (by decide)]; exact View.readCov_cons_toLoadRect _ _ _ _
  have e664 : (trip_k0_t1.sl.v664 (F := Ideal) arg4 arg9 arg10 arg11 arg12 arg13 (harg4.unread x2) X9 k f10 f12 f13) = (trip_k0_t1.sl.v558 (F := Ideal) arg10 arg12 arg13 f10 f12 f13) := by
    unfold trip_k0_t1.sl.v664 trip_k0_t1.sl.HW_arg13_3 trip_k0_t1.sl.HW_arg13_2; rw [View.readCov_skip _ _ _ _ _ (by decide)]; exact View.readCov_cons_toLoadRect _ _ _ _
  have e628 : (trip_k0_t1.sl.v628 (F := Ideal) arg5 arg10 arg12 arg14 (harg5.unread x3) k f10 f12 f14) = (trip_k0_t1.sl.v527 (F := Ideal) arg5 arg10 arg12 arg14 (harg5.unread x3) k f10 f12 f14) := by
    unfold trip_k0_t1.sl.v628 trip_k0_t1.sl.HW_arg14_4; rw [View.readCov_skip _ _ _ _ _ (by decide)]; rw [View.readCov_skip _ _ _ _ _ (by decide)]; rw [View.readCov_skip _ _ _ _ _ (by decide)]; exact View.readCov_cons_toLoadRect _ _ _ _
  have e641 : (trip_k0_t1.sl.v641 (F := Ideal) arg4 arg5 arg9 arg10 arg11 arg12 arg14 (harg4.unread x2) (harg5.unread x3) X9 k f10 f12 f14) = (trip_k0_t1.sl.v540 (F := Ideal) arg5 arg10 arg12 arg14 (harg5.unread x3) k f10 f12 f14) := by
    unfold trip_k0_t1.sl.v641 trip_k0_t1.sl.HW_arg14_5 trip_k0_t1.sl.HW_arg14_4; rw [View.readCov_skip _ _ _ _ _ (by decide)]; rw [View.readCov_skip _ _ _ _ _ (by decide)]; rw [View.readCov_skip _ _ _ _ _ (by decide)]; exact View.readCov_cons_toLoadRect _ _ _ _
  have e676 : (trip_k0_t1.sl.v676 (F := Ideal) arg4 arg5 arg9 arg10 arg11 arg12 arg14 (harg4.unread x2) (harg5.unread x3) X9 k f10 f12 f14) = (trip_k0_t1.sl.v575 (F := Ideal) arg5 arg10 arg12 arg14 (harg5.unread x3) k f10 f12 f14) := by
    unfold trip_k0_t1.sl.v676 trip_k0_t1.sl.HW_arg14_6 trip_k0_t1.sl.HW_arg14_5 trip_k0_t1.sl.HW_arg14_4; rw [View.readCov_skip _ _ _ _ _ (by decide)]; rw [View.readCov_skip _ _ _ _ _ (by decide)]; rw [View.readCov_skip _ _ _ _ _ (by decide)]; exact View.readCov_cons_toLoadRect _ _ _ _
  have e689 : (trip_k0_t1.sl.v689 (F := Ideal) arg4 arg5 arg9 arg10 arg11 arg12 arg14 (harg4.unread x2) (harg5.unread x3) X9 k f10 f12 f14) = (trip_k0_t1.sl.v588 (F := Ideal) arg5 arg10 arg12 arg14 (harg5.unread x3) k f10 f12 f14) := by
    unfold trip_k0_t1.sl.v689 trip_k0_t1.sl.HW_arg14_7 trip_k0_t1.sl.HW_arg14_6 trip_k0_t1.sl.HW_arg14_5 trip_k0_t1.sl.HW_arg14_4; rw [View.readCov_skip _ _ _ _ _ (by decide)]; rw [View.readCov_skip _ _ _ _ _ (by decide)]; rw [View.readCov_skip _ _ _ _ _ (by decide)]; exact View.readCov_cons_toLoadRect _ _ _ _
  have a0 : Half (sig kk qq) v (1024 * k.val + 512) 0 (trip_k0_t1.sl.v513 (F := Ideal) arg10 arg12 f10 f12) (trip_k0_t1.sl.v510 (F := Ideal) arg10 arg12 arg13 f10 f12 f13) (trip_k0_t1.sl.v527 (F := Ideal) arg5 arg10 arg12 arg14 (harg5.unread x3) k f10 f12 f14) (trip_k0_t1.sl.v540 (F := Ideal) arg5 arg10 arg12 arg14 (harg5.unread x3) k f10 f12 f14) := by
    subst hf10 hf12 hf13 hf14
    exact h.h0.absorb h.s0 (val_is (v := v) arg5 harg5 hx3 _ (k0_off2_inb k) _ _ _ (off_val2 k) (by ring)) (val_is (v := v) arg5 harg5 hx3 _ (k0_off3_inb k) _ _ _ (off_val3 k) (by ring))
  have a1 : Half (sig kk qq) v (1024 * k.val + 512) 1 (trip_k0_t1.sl.v561 (F := Ideal) arg10 arg12 f10 f12) (trip_k0_t1.sl.v558 (F := Ideal) arg10 arg12 arg13 f10 f12 f13) (trip_k0_t1.sl.v575 (F := Ideal) arg5 arg10 arg12 arg14 (harg5.unread x3) k f10 f12 f14) (trip_k0_t1.sl.v588 (F := Ideal) arg5 arg10 arg12 arg14 (harg5.unread x3) k f10 f12 f14) := by
    subst hf10 hf12 hf13 hf14
    exact h.h1.absorb h.s1 (val_is (v := v) arg5 harg5 hx3 _ (k0_off4_inb k) _ _ _ (off_val4 k) (by ring)) (val_is (v := v) arg5 harg5 hx3 _ (k0_off5_inb k) _ _ _ (off_val5 k) (by ring))
  have t0 : ScoreIs (sig kk qq) (1024 * k.val + 512) 0 (trip_k0_t1.sl.v487 (F := Ideal) arg4 arg9 (harg4.unread x2) X9 k) :=
    score_is (key_is arg4 harg4 hx2 _ (k0_off1_inb k 0) _ (off_key1 k)) hq0
  have t1 : ScoreIs (sig kk qq) (1024 * k.val + 512) 1 (trip_k0_t1.sl.v492 (F := Ideal) arg4 arg9 (harg4.unread x2) X9 k) :=
    score_is (key_is arg4 harg4 hx2 _ (k0_off1_inb k 0) _ (off_key1 k)) hq1
  rw [← e606] at t0
  rw [← e654] at t1
  rw [← e607, ← e616, ← e628, ← e641] at a0
  rw [← e655, ← e664, ← e676, ← e689] at a1
  have b0 : Half (sig kk qq) v (1024 * (k.val + 1)) 0 (trip_k0_t1.sl.v626 (F := Ideal) arg4 arg9 arg10 arg11 arg12 (harg4.unread x2) X9 k f10 f12) (trip_k0_t1.sl.v623 (F := Ideal) arg4 arg9 arg10 arg11 arg12 arg13 (harg4.unread x2) X9 k f10 f12 f13) (trip_k0_t1.sl.v640 (F := Ideal) arg4 arg5 arg9 arg10 arg11 arg12 arg14 (harg4.unread x2) (harg5.unread x3) X9 k f10 f12 f14) (trip_k0_t1.sl.v653 (F := Ideal) arg4 arg5 arg9 arg10 arg11 arg12 arg14 (harg4.unread x2) (harg5.unread x3) X9 k f10 f12 f14) := by
    refine Eq.mp (congrArg (fun n => Half (sig kk qq) v n 0 _ _ _ _) (by ring)) (a0.absorb t0 (val_is (v := v) arg5 harg5 hx3 _ (k0_off6_inb k) _ _ _ (off_val6 k) (by ring)) (val_is (v := v) arg5 harg5 hx3 _ (k0_off7_inb k) _ _ _ (off_val7 k) (by ring)))
  have b1 : Half (sig kk qq) v (1024 * (k.val + 1)) 1 (trip_k0_t1.sl.v674 (F := Ideal) arg4 arg9 arg10 arg11 arg12 (harg4.unread x2) X9 k f10 f12) (trip_k0_t1.sl.v671 (F := Ideal) arg4 arg9 arg10 arg11 arg12 arg13 (harg4.unread x2) X9 k f10 f12 f13) (k0_pay65 (F := Ideal) (trip_k0_t1.sl.v679 (F := Ideal) arg4 arg5 arg9 arg10 arg11 arg12 arg14 (harg4.unread x2) (harg5.unread x3) X9 k f10 f12 f14) (trip_k0_t1.sl.v684 (F := Ideal) arg4 arg5 arg9 arg10 arg11 arg12 (harg4.unread x2) (harg5.unread x3) X9 k f10 f12))
      (k0_pay66 (F := Ideal) (trip_k0_t1.sl.v660 (F := Ideal) arg4 arg9 arg10 arg11 arg12 (harg4.unread x2) X9 k f10 f12) (trip_k0_t1.sl.v675 (F := Ideal) arg4 arg9 arg10 arg11 arg12 (harg4.unread x2) X9 k f10 f12) (trip_k0_t1.sl.v689 (F := Ideal) arg4 arg5 arg9 arg10 arg11 arg12 arg14 (harg4.unread x2) (harg5.unread x3) X9 k f10 f12 f14) (View.readAt (Elt Ideal) arg5.view (Rect.unit (s := S1x16x256x512) (k0_off9 k) S1x1x64x512.size (k0_off9_inb k)).toLoadRect (harg5.unread x3))) := by
    refine Eq.mp (congrArg (fun n => Half (sig kk qq) v n 1 _ _ _ _) (by ring)) (a1.absorb t1 (val_is (v := v) arg5 harg5 hx3 _ (k0_off8_inb k) _ _ _ (off_val8 k) (by ring)) (val_is (v := v) arg5 harg5 hx3 _ (k0_off9_inb k) _ _ _ (off_val9 k) (by ring)))
  have u0 : ScoreIs (sig kk qq) (1024 * (k.val + 1)) 0 (trip_k0_t1.sl.v599 (F := Ideal) arg4 arg9 (harg4.unread x2) X9 k) :=
    score_is (key_is arg4 harg4 hx2 _ (k0_off1_inb k 1) _ (off_key2 k)) hq0
  have u1 : ScoreIs (sig kk qq) (1024 * (k.val + 1)) 1 (trip_k0_t1.sl.v604 (F := Ideal) arg4 arg9 (harg4.unread x2) X9 k) :=
    score_is (key_is arg4 harg4 hx2 _ (k0_off1_inb k 1) _ (off_key2 k)) hq1
  have Earg10 : P.1 = ⟨rS1, (trip_k0_t1.sl.v604 (F := Ideal) arg4 arg9 (harg4.unread x2) X9 k)⟩ :: ⟨rS0, (trip_k0_t1.sl.v599 (F := Ideal) arg4 arg9 (harg4.unread x2) X9 k)⟩ :: [] := by
    subst hP; unfold tripL_k0_t1 trip_k0_t1; rfl
  have Earg12 : P.2.2.1 = ⟨rM1, (trip_k0_t1.sl.v674 (F := Ideal) arg4 arg9 arg10 arg11 arg12 (harg4.unread x2) X9 k f10 f12)⟩ :: ⟨rM0, (trip_k0_t1.sl.v626 (F := Ideal) arg4 arg9 arg10 arg11 arg12 (harg4.unread x2) X9 k f10 f12)⟩ :: (trip_k0_t1.sl.HW_arg12_2 (F := Ideal) arg10 arg12 f10 f12) := by
    subst hP; unfold tripL_k0_t1 trip_k0_t1; rfl
  have Earg13 : P.2.2.2.1 = ⟨rM1, (trip_k0_t1.sl.v671 (F := Ideal) arg4 arg9 arg10 arg11 arg12 arg13 (harg4.unread x2) X9 k f10 f12 f13)⟩ :: ⟨rM0, (trip_k0_t1.sl.v623 (F := Ideal) arg4 arg9 arg10 arg11 arg12 arg13 (harg4.unread x2) X9 k f10 f12 f13)⟩ :: (trip_k0_t1.sl.HW_arg13_2 (F := Ideal) arg10 arg12 arg13 f10 f12 f13) := by
    subst hP; unfold tripL_k0_t1 trip_k0_t1; rfl
  have Earg14 : P.2.2.2.2 = ⟨rA3, (k0_pay66 (F := Ideal) (trip_k0_t1.sl.v660 (F := Ideal) arg4 arg9 arg10 arg11 arg12 (harg4.unread x2) X9 k f10 f12) (trip_k0_t1.sl.v675 (F := Ideal) arg4 arg9 arg10 arg11 arg12 (harg4.unread x2) X9 k f10 f12) (trip_k0_t1.sl.v689 (F := Ideal) arg4 arg5 arg9 arg10 arg11 arg12 arg14 (harg4.unread x2) (harg5.unread x3) X9 k f10 f12 f14) (View.readAt (Elt Ideal) arg5.view (Rect.unit (s := S1x16x256x512) (k0_off9 k) S1x1x64x512.size (k0_off9_inb k)).toLoadRect (harg5.unread x3)))⟩ :: ⟨rA2, (k0_pay65 (F := Ideal) (trip_k0_t1.sl.v679 (F := Ideal) arg4 arg5 arg9 arg10 arg11 arg12 arg14 (harg4.unread x2) (harg5.unread x3) X9 k f10 f12 f14) (trip_k0_t1.sl.v684 (F := Ideal) arg4 arg5 arg9 arg10 arg11 arg12 (harg4.unread x2) (harg5.unread x3) X9 k f10 f12))⟩ :: ⟨rA1, (trip_k0_t1.sl.v653 (F := Ideal) arg4 arg5 arg9 arg10 arg11 arg12 arg14 (harg4.unread x2) (harg5.unread x3) X9 k f10 f12 f14)⟩ :: ⟨rA0, (trip_k0_t1.sl.v640 (F := Ideal) arg4 arg5 arg9 arg10 arg11 arg12 arg14 (harg4.unread x2) (harg5.unread x3) X9 k f10 f12 f14)⟩ :: (trip_k0_t1.sl.HW_arg14_4 (F := Ideal) arg5 arg10 arg12 arg14 (harg5.unread x3) k f10 f12 f14) := by
    subst hP; unfold tripL_k0_t1 trip_k0_t1; rfl
  have rs0 : arg10.view.readCov (P.1 ++ L10) rS0.toLoadRect = (trip_k0_t1.sl.v599 (F := Ideal) arg4 arg9 (harg4.unread x2) X9 k) := by
    rw [Earg10]; simp only [List.cons_append, List.nil_append]; rw [View.readCov_skip _ _ _ _ _ (by decide)]; exact View.readCov_cons_toLoadRect _ _ _ _
  have rs1 : arg10.view.readCov (P.1 ++ L10) rS1.toLoadRect = (trip_k0_t1.sl.v604 (F := Ideal) arg4 arg9 (harg4.unread x2) X9 k) := by
    rw [Earg10]; simp only [List.cons_append, List.nil_append]; exact View.readCov_cons_toLoadRect _ _ _ _
  have rm0 : arg12.view.readCov (P.2.2.1 ++ L12) rM0.toLoadRect = (trip_k0_t1.sl.v626 (F := Ideal) arg4 arg9 arg10 arg11 arg12 (harg4.unread x2) X9 k f10 f12) := by
    rw [Earg12]; simp only [List.cons_append, List.nil_append]; rw [View.readCov_skip _ _ _ _ _ (by decide)]; exact View.readCov_cons_toLoadRect _ _ _ _
  have rm1 : arg12.view.readCov (P.2.2.1 ++ L12) rM1.toLoadRect = (trip_k0_t1.sl.v674 (F := Ideal) arg4 arg9 arg10 arg11 arg12 (harg4.unread x2) X9 k f10 f12) := by
    rw [Earg12]; simp only [List.cons_append, List.nil_append]; exact View.readCov_cons_toLoadRect _ _ _ _
  have rl0 : arg13.view.readCov (P.2.2.2.1 ++ L13) rM0.toLoadRect = (trip_k0_t1.sl.v623 (F := Ideal) arg4 arg9 arg10 arg11 arg12 arg13 (harg4.unread x2) X9 k f10 f12 f13) := by
    rw [Earg13]; simp only [List.cons_append, List.nil_append]; rw [View.readCov_skip _ _ _ _ _ (by decide)]; exact View.readCov_cons_toLoadRect _ _ _ _
  have rl1 : arg13.view.readCov (P.2.2.2.1 ++ L13) rM1.toLoadRect = (trip_k0_t1.sl.v671 (F := Ideal) arg4 arg9 arg10 arg11 arg12 arg13 (harg4.unread x2) X9 k f10 f12 f13) := by
    rw [Earg13]; simp only [List.cons_append, List.nil_append]; exact View.readCov_cons_toLoadRect _ _ _ _
  have ra0 : arg14.view.readCov (P.2.2.2.2 ++ L14) rA0.toLoadRect = (trip_k0_t1.sl.v640 (F := Ideal) arg4 arg5 arg9 arg10 arg11 arg12 arg14 (harg4.unread x2) (harg5.unread x3) X9 k f10 f12 f14) := by
    rw [Earg14]; simp only [List.cons_append, List.nil_append]; rw [View.readCov_skip _ _ _ _ _ (by decide)]; rw [View.readCov_skip _ _ _ _ _ (by decide)]; rw [View.readCov_skip _ _ _ _ _ (by decide)]; exact View.readCov_cons_toLoadRect _ _ _ _
  have ra1 : arg14.view.readCov (P.2.2.2.2 ++ L14) rA1.toLoadRect = (trip_k0_t1.sl.v653 (F := Ideal) arg4 arg5 arg9 arg10 arg11 arg12 arg14 (harg4.unread x2) (harg5.unread x3) X9 k f10 f12 f14) := by
    rw [Earg14]; simp only [List.cons_append, List.nil_append]; rw [View.readCov_skip _ _ _ _ _ (by decide)]; rw [View.readCov_skip _ _ _ _ _ (by decide)]; exact View.readCov_cons_toLoadRect _ _ _ _
  have ra2 : arg14.view.readCov (P.2.2.2.2 ++ L14) rA2.toLoadRect = (k0_pay65 (F := Ideal) (trip_k0_t1.sl.v679 (F := Ideal) arg4 arg5 arg9 arg10 arg11 arg12 arg14 (harg4.unread x2) (harg5.unread x3) X9 k f10 f12 f14) (trip_k0_t1.sl.v684 (F := Ideal) arg4 arg5 arg9 arg10 arg11 arg12 (harg4.unread x2) (harg5.unread x3) X9 k f10 f12)) := by
    rw [Earg14]; simp only [List.cons_append, List.nil_append]; rw [View.readCov_skip _ _ _ _ _ (by decide)]; exact View.readCov_cons_toLoadRect _ _ _ _
  have ra3 : arg14.view.readCov (P.2.2.2.2 ++ L14) rA3.toLoadRect = (k0_pay66 (F := Ideal) (trip_k0_t1.sl.v660 (F := Ideal) arg4 arg9 arg10 arg11 arg12 (harg4.unread x2) X9 k f10 f12) (trip_k0_t1.sl.v675 (F := Ideal) arg4 arg9 arg10 arg11 arg12 (harg4.unread x2) X9 k f10 f12) (trip_k0_t1.sl.v689 (F := Ideal) arg4 arg5 arg9 arg10 arg11 arg12 arg14 (harg4.unread x2) (harg5.unread x3) X9 k f10 f12 f14) (View.readAt (Elt Ideal) arg5.view (Rect.unit (s := S1x16x256x512) (k0_off9 k) S1x1x64x512.size (k0_off9_inb k)).toLoadRect (harg5.unread x3))) := by
    rw [Earg14]; simp only [List.cons_append, List.nil_append]; exact View.readCov_cons_toLoadRect _ _ _ _
  exact ⟨by rw [rs0]; exact u0, by rw [rs1]; exact u1, by rw [rm0, rl0, ra0, ra1]; exact b0, by rw [rm1, rl1, ra2, ra3]; exact b1⟩
end

end Cert.DiffIdeal.Att

end
-- ==== Proof.DiffTail.lean ====
/- The tail of the attention kernel after its key loop: the last two chunks of latent keys and the context keys. -/
module

public import proofs.«01_k».proof.Proof.DiffTrip
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.DiffIdeal.Att

open Cert.DiffIdeal Cert.DiffIdeal.Gen Cert.DiffMath

section
variable (c : Dev nD) (i : grid0.Coords) (arg2 : Memref Cert.DiffIdeal.sig .tc .vmem S4x32 .f32) (harg2 : arg2.IsWhole) (arg3 : Memref Cert.DiffIdeal.sig .tc .vmem S1x256x128 .bf16) (harg3 : arg3.IsWhole) (arg4 : Memref Cert.DiffIdeal.sig .tc .vmem S1x8192x256 .bf16) (harg4 : arg4.IsWhole) (arg5 : Memref Cert.DiffIdeal.sig .tc .vmem S1x16x256x512 .bf16) (harg5 : arg5.IsWhole) (arg6 : Memref Cert.DiffIdeal.sig .tc .vmem S1x256x256 .bf16) (harg6 : arg6.IsWhole) (arg7 : Memref Cert.DiffIdeal.sig .tc .vmem S1x256x256 .bf16) (harg7 : arg7.IsWhole) (arg8 : Memref Cert.DiffIdeal.sig .tc .vmem S1x128x256 .f32) (harg8 : arg8.IsWhole) (arg9 : Memref Cert.DiffIdeal.sig .tc .vmem S256x1024 .bf16) (harg9 : arg9.IsWhole) (arg10 : Memref Cert.DiffIdeal.sig .tc .vmem S512x1024 .f32) (harg10 : arg10.IsWhole) (arg11 : Memref Cert.DiffIdeal.sig .tc .vmem S512x1024 .f32) (harg11 : arg11.IsWhole) (arg12 : Memref Cert.DiffIdeal.sig .tc .vmem S1x1024 .f32) (harg12 : arg12.IsWhole) (arg13 : Memref Cert.DiffIdeal.sig .tc .vmem S1x1024 .f32) (harg13 : arg13.IsWhole) (arg14 : Memref Cert.DiffIdeal.sig .tc .vmem S256x256 .f32) (harg14 : arg14.IsWhole)
  (x1 : Vec Ideal S1x256x128 .bf16) (x2 : Vec Ideal S1x8192x256 .bf16) (x3 : Vec Ideal S1x16x256x512 .bf16)
  (x4 x5 : Vec Ideal S1x256x256 .bf16) (fs2 : BufTy.Contents (Elt Ideal) arg11.view.ty)

/-- A block of the 256 context keys. -/
theorem ctx_key_is {kk : ℕ → Fin 256 → ℝ}
    (hx4 : ∀ (n : Fin 256) (d : Fin 256), x4 (ix3 0 n d) = ((kk (8192 + n.val) d : ℝ) : EReal)) :
    CtxKeyIs kk 8192 (View.readAt (Elt Ideal) arg6.view (Rect.unit (s := S1x256x256) ![0, 0, 0] S1x256x256.size inb_S1x256x256_S1x256x256_0_0_0).toLoadRect (harg6.unread x4)) := by
  intro j d
  refine (View.readAt_apply _ _ _).trans ((congrFun (harg6.read_unread x4) _).trans (Eq.trans (congrArg x4 ?_) (hx4 j d)))
  funext a; fin_cases a <;> apply Fin.ext <;> simp [LoadRect.idx, Rect.toLoadRect, Rect.unit, ix3]

/-- A block of 64 value rows of the 256 context keys. -/
theorem ctx_val_is {v : ℕ → ℕ → ℝ}
    (hx5 : ∀ (r : Fin 256) (n : Fin 256), x5 (ix3 0 r n) = ((v r.val (8192 + n.val) : ℝ) : EReal))
    (R : ℕ) (inb : ∀ a, ![0, R, 0] a + S1x64x256.size a ≤ S1x256x256.size a) :
    CtxValIs v 8192 R (View.readAt (Elt Ideal) arg7.view (Rect.unit (s := S1x256x256) ![0, R, 0] S1x64x256.size inb).toLoadRect (harg7.unread x5)) := by
  intro r j
  have hR : R + 64 ≤ 256 := inb 1
  refine (View.readAt_apply _ _ _).trans ((congrFun (harg7.read_unread x5) _).trans (Eq.trans (congrArg x5 ?_)
    (hx5 ⟨R + r.val, by omega⟩ j)))
  funext a; fin_cases a <;> apply Fin.ext <;> simp [LoadRect.idx, Rect.toLoadRect, Rect.unit, ix3]

set_option maxHeartbeats 2000000 in
/-- After the loop has absorbed the first 7168 keys, the rest of the body absorbs the remaining 1280. -/
theorem tail_good {kk : ℕ → Fin 256 → ℝ} {qq : Fin 256 → ℕ → ℝ} {v : ℕ → ℕ → ℝ}
    (hx2 : ∀ (n : Fin 8192) (d : Fin 256), x2 (ix3 0 n d) = ((kk n.val d : ℝ) : EReal))
    (hx3 : ∀ (t : Fin 16) (r : Fin 256) (j : Fin 512), x3 (ix4 0 t r j) = ((v r.val (512 * t.val + j.val) : ℝ) : EReal))
    (hx4 : ∀ (n : Fin 256) (d : Fin 256), x4 (ix3 0 n d) = ((kk (8192 + n.val) d : ℝ) : EReal))
    (hx5 : ∀ (r : Fin 256) (n : Fin 256), x5 (ix3 0 r n) = ((v r.val (8192 + n.val) : ℝ) : EReal))
    (hq0 : QryIs qq 0 (arg9.view.readCov (bodyRun.sl.HS0_8 (F := Ideal) c arg3 harg3 x1) rQ0.toLoadRect))
    (hq1 : QryIs qq 1 (arg9.view.readCov (bodyRun.sl.HS0_8 (F := Ideal) c arg3 harg3 x1) rQ1.toLoadRect))
    (g : Good (sig kk qq) v 7168 arg10 arg12 arg13 arg14 (((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st))).1 ++ (bodyRun.sl.HS1_2 (F := Ideal) c arg3 harg3 arg4 harg4 arg9 x1 x2)) (((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st))).2.2.1 ++ (bodyRun.sl.HS3_1 (F := Ideal) )) (((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st))).2.2.2.1 ++ (bodyRun.sl.HS4_1 (F := Ideal) )) (((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st))).2.2.2.2 ++ (bodyRun.sl.HS5_1 (F := Ideal) ))) :
    ∃ M0 M1, Half (sig kk qq) v 8448 0 M0 (arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) rM0.toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA0.toLoadRect)
        (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA1.toLoadRect)
      ∧ Half (sig kk qq) v 8448 1 M1 (arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) rM1.toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA2.toLoadRect)
        (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA3.toLoadRect) := by
  have ev121 : (bodyRun.sl.v121 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg12.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.1 ++ (bodyRun.sl.HS3_1 (F := Ideal))) rM0.toLoadRect := by
    unfold bodyRun.sl.v121; rfl
  have ev130 : (bodyRun.sl.v130 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg13.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.2.1 ++ (bodyRun.sl.HS4_1 (F := Ideal))) rM0.toLoadRect := by
    unfold bodyRun.sl.v130; rfl
  have ev142 : (bodyRun.sl.v142 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg14.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.2.2 ++ (bodyRun.sl.HS5_1 (F := Ideal))) rA0.toLoadRect := by
    unfold bodyRun.sl.v142; rfl
  have ev154 : (bodyRun.sl.v154 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg14.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.2.2 ++ (bodyRun.sl.HS5_1 (F := Ideal))) rA1.toLoadRect := by
    unfold bodyRun.sl.v154 bodyRun.sl.HS5_1_1; rw [View.readCov_skip _ _ _ _ _ (by decide)];
  have hA0 : Half (sig kk qq) v 7168 0 (bodyRun.sl.v121 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v130 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v142 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v154 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    rw [ev121, ev130, ev142, ev154]; exact g.h0
  have aA0 : Half (sig kk qq) v (7168 + 512) 0 (k0_pay76 (F := Ideal) (bodyRun.sl.r_4 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay75 (F := Ideal) (bodyRun.sl.r_7 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_8 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay78 (F := Ideal) (bodyRun.sl.r_5 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v142 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 0, 0] S1x1x64x512.size inb_S1x16x256x512_S1x1x64x512_0_14_0_0).toLoadRect (harg5.unread x3))) (k0_pay79 (F := Ideal) (bodyRun.sl.r_5 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v154 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 64, 0] S1x1x64x512.size inb_S1x16x256x512_S1x1x64x512_0_14_64_0).toLoadRect (harg5.unread x3))) :=
    hA0.absorb g.s0 (val_is (v := v) arg5 harg5 hx3 ![0, 14, 0, 0] inb_S1x16x256x512_S1x1x64x512_0_14_0_0 14 0 _ rfl (by norm_num)) (val_is (v := v) arg5 harg5 hx3 ![0, 14, 64, 0] inb_S1x16x256x512_S1x1x64x512_0_14_64_0 14 64 _ rfl (by norm_num))
  have ev167 : (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg12.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.1 ++ (bodyRun.sl.HS3_1 (F := Ideal))) rM1.toLoadRect := by
    unfold bodyRun.sl.v167 bodyRun.sl.HS3_1_1; rw [View.readCov_skip _ _ _ _ _ (by decide)];
  have ev176 : (bodyRun.sl.v176 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg13.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.2.1 ++ (bodyRun.sl.HS4_1 (F := Ideal))) rM1.toLoadRect := by
    unfold bodyRun.sl.v176 bodyRun.sl.HS4_1_1; rw [View.readCov_skip _ _ _ _ _ (by decide)];
  have ev188 : (bodyRun.sl.v188 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg14.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.2.2 ++ (bodyRun.sl.HS5_1 (F := Ideal))) rA2.toLoadRect := by
    unfold bodyRun.sl.v188 bodyRun.sl.HS5_2 bodyRun.sl.HS5_1_1; rw [View.readCov_skip _ _ _ _ _ (by decide)]; rw [View.readCov_skip _ _ _ _ _ (by decide)];
  have ev200 : (bodyRun.sl.v200 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = arg14.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (bodyRun.sl.r_3 (F := Ideal) c arg3 harg3 arg4 harg4 arg9 x1 x2) (harg4.unread x2) (harg5.unread x3) (arg9.view.writes (Elt Ideal) arg9.view.junk (bodyRun.sl.HS0_8 (F := Ideal) c arg3 harg3 x1)) (arg10.view.writes (Elt Ideal) arg10.view.junk (bodyRun.sl.HS1_2 (F := Ideal) c arg3 harg3 arg4 harg4 arg9 x1 x2)) fs2 (arg12.view.writes (Elt Ideal) arg12.view.junk (bodyRun.sl.HS3_1 (F := Ideal))) (arg13.view.writes (Elt Ideal) arg13.view.junk (bodyRun.sl.HS4_1 (F := Ideal))) (arg14.view.writes (Elt Ideal) arg14.view.junk (bodyRun.sl.HS5_1 (F := Ideal))) (Scf.trips k0_t1_loop.lb k0_t1_loop.ub k0_t1_loop.st)).2.2.2.2 ++ (bodyRun.sl.HS5_1 (F := Ideal))) rA3.toLoadRect := by
    unfold bodyRun.sl.v200 bodyRun.sl.HS5_3 bodyRun.sl.HS5_2 bodyRun.sl.HS5_1_1; rw [View.readCov_skip _ _ _ _ _ (by decide)]; rw [View.readCov_skip _ _ _ _ _ (by decide)]; rw [View.readCov_skip _ _ _ _ _ (by decide)];
  have hA1 : Half (sig kk qq) v 7168 1 (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v176 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v188 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v200 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    rw [ev167, ev176, ev188, ev200]; exact g.h1
  have aA1 : Half (sig kk qq) v (7168 + 512) 1 (k0_pay84 (F := Ideal) (bodyRun.sl.v166 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay83 (F := Ideal) (bodyRun.sl.v166 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v176 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay86 (F := Ideal) (bodyRun.sl.v166 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v188 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 128, 0] S1x1x64x512.size inb_S1x16x256x512_S1x1x64x512_0_14_128_0).toLoadRect (harg5.unread x3))) (k0_pay87 (F := Ideal) (bodyRun.sl.r_9 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_10 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v200 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 192, 0] S1x1x64x512.size inb_S1x16x256x512_S1x1x64x512_0_14_192_0).toLoadRect (harg5.unread x3))) :=
    hA1.absorb g.s1 (val_is (v := v) arg5 harg5 hx3 ![0, 14, 128, 0] inb_S1x16x256x512_S1x1x64x512_0_14_128_0 14 128 _ rfl (by norm_num)) (val_is (v := v) arg5 harg5 hx3 ![0, 14, 192, 0] inb_S1x16x256x512_S1x1x64x512_0_14_192_0 14 192 _ rfl (by norm_num))
  have ev224 : (bodyRun.sl.v224 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay68 (F := Ideal) (View.readAt (Elt Ideal) arg4.view (Rect.unit (s := S1x8192x256) ![0, 7680, 0] S1x512x256.size inb_S1x8192x256_S1x512x256_0_7680_0).toLoadRect (harg4.unread x2)) (bodyRun.sl.v110 (F := Ideal) c arg3 harg3 arg9 x1) := by
    unfold bodyRun.sl.v224 bodyRun.sl.HS2_2; rw [View.readCov_skip _ _ _ _ _ (by decide)]; exact View.readCov_cons_toLoadRect _ _ _ _
  have tv224 : ScoreIs (sig kk qq) 7680 0 (bodyRun.sl.v224 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    rw [ev224]; exact score_is (key_is arg4 harg4 hx2 ![0, 7680, 0] inb_S1x8192x256_S1x512x256_0_7680_0 7680 rfl) hq0
  have ev270 : (bodyRun.sl.v270 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay69 (F := Ideal) (View.readAt (Elt Ideal) arg4.view (Rect.unit (s := S1x8192x256) ![0, 7680, 0] S1x512x256.size inb_S1x8192x256_S1x512x256_0_7680_0).toLoadRect (harg4.unread x2)) (bodyRun.sl.v115 (F := Ideal) c arg3 harg3 arg9 x1) := by
    unfold bodyRun.sl.v270 bodyRun.sl.HS2_2; exact View.readCov_cons_toLoadRect _ _ _ _
  have tv270 : ScoreIs (sig kk qq) 7680 1 (bodyRun.sl.v270 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    rw [ev270]; exact score_is (key_is arg4 harg4 hx2 ![0, 7680, 0] inb_S1x8192x256_S1x512x256_0_7680_0 7680 rfl) hq1
  have ev225 : (bodyRun.sl.v225 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay76 (F := Ideal) (bodyRun.sl.r_4 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v225 bodyRun.sl.HS3_2 bodyRun.sl.HS3_1_1; rw [View.readCov_skip _ _ _ _ _ (by decide)]; exact View.readCov_cons_toLoadRect _ _ _ _
  have ev234 : (bodyRun.sl.v234 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay75 (F := Ideal) (bodyRun.sl.r_7 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_8 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v234 bodyRun.sl.HS4_2 bodyRun.sl.HS4_1_1; rw [View.readCov_skip _ _ _ _ _ (by decide)]; exact View.readCov_cons_toLoadRect _ _ _ _
  have ev246 : (bodyRun.sl.v246 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay78 (F := Ideal) (bodyRun.sl.r_5 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v142 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 0, 0] S1x1x64x512.size inb_S1x16x256x512_S1x1x64x512_0_14_0_0).toLoadRect (harg5.unread x3)) := by
    unfold bodyRun.sl.v246 bodyRun.sl.HS5_4 bodyRun.sl.HS5_3 bodyRun.sl.HS5_2 bodyRun.sl.HS5_1_1; rw [View.readCov_skip _ _ _ _ _ (by decide)]; rw [View.readCov_skip _ _ _ _ _ (by decide)]; rw [View.readCov_skip _ _ _ _ _ (by decide)]; exact View.readCov_cons_toLoadRect _ _ _ _
  have ev258 : (bodyRun.sl.v258 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay79 (F := Ideal) (bodyRun.sl.r_5 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v154 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 64, 0] S1x1x64x512.size inb_S1x16x256x512_S1x1x64x512_0_14_64_0).toLoadRect (harg5.unread x3)) := by
    unfold bodyRun.sl.v258 bodyRun.sl.HS5_5 bodyRun.sl.HS5_4 bodyRun.sl.HS5_3 bodyRun.sl.HS5_2; rw [View.readCov_skip _ _ _ _ _ (by decide)]; rw [View.readCov_skip _ _ _ _ _ (by decide)]; rw [View.readCov_skip _ _ _ _ _ (by decide)]; exact View.readCov_cons_toLoadRect _ _ _ _
  have hB0 : Half (sig kk qq) v 7680 0 (bodyRun.sl.v225 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v234 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v246 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v258 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    rw [ev225, ev234, ev246, ev258]; exact aA0
  have aB0 : Half (sig kk qq) v (7680 + 512) 0 (k0_pay96 (F := Ideal) (bodyRun.sl.r_11 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay95 (F := Ideal) (bodyRun.sl.r_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_13 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v234 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay98 (F := Ideal) (bodyRun.sl.r_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_13 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v246 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 15, 0, 0] S1x1x64x512.size inb_S1x16x256x512_S1x1x64x512_0_15_0_0).toLoadRect (harg5.unread x3))) (k0_pay100 (F := Ideal) (bodyRun.sl.r_14 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) :=
    hB0.absorb tv224 (val_is (v := v) arg5 harg5 hx3 ![0, 15, 0, 0] inb_S1x16x256x512_S1x1x64x512_0_15_0_0 15 0 _ rfl (by norm_num)) (val_is (v := v) arg5 harg5 hx3 ![0, 15, 64, 0] inb_S1x16x256x512_S1x1x64x512_0_15_64_0 15 64 _ rfl (by norm_num))
  have ev271 : (bodyRun.sl.v271 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay84 (F := Ideal) (bodyRun.sl.v166 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v271 bodyRun.sl.HS3_3 bodyRun.sl.HS3_2; rw [View.readCov_skip _ _ _ _ _ (by decide)]; exact View.readCov_cons_toLoadRect _ _ _ _
  have ev280 : (bodyRun.sl.v280 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay83 (F := Ideal) (bodyRun.sl.v166 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v176 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v280 bodyRun.sl.HS4_3 bodyRun.sl.HS4_2; rw [View.readCov_skip _ _ _ _ _ (by decide)]; exact View.readCov_cons_toLoadRect _ _ _ _
  have ev292 : (bodyRun.sl.v292 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay86 (F := Ideal) (bodyRun.sl.v166 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v167 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v188 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 128, 0] S1x1x64x512.size inb_S1x16x256x512_S1x1x64x512_0_14_128_0).toLoadRect (harg5.unread x3)) := by
    unfold bodyRun.sl.v292 bodyRun.sl.HS5_6 bodyRun.sl.HS5_5 bodyRun.sl.HS5_4 bodyRun.sl.HS5_3; rw [View.readCov_skip _ _ _ _ _ (by decide)]; rw [View.readCov_skip _ _ _ _ _ (by decide)]; rw [View.readCov_skip _ _ _ _ _ (by decide)]; exact View.readCov_cons_toLoadRect _ _ _ _
  have ev304 : (bodyRun.sl.v304 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay87 (F := Ideal) (bodyRun.sl.r_9 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_10 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v200 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 14, 192, 0] S1x1x64x512.size inb_S1x16x256x512_S1x1x64x512_0_14_192_0).toLoadRect (harg5.unread x3)) := by
    unfold bodyRun.sl.v304 bodyRun.sl.HS5_7 bodyRun.sl.HS5_6 bodyRun.sl.HS5_5 bodyRun.sl.HS5_4; rw [View.readCov_skip _ _ _ _ _ (by decide)]; rw [View.readCov_skip _ _ _ _ _ (by decide)]; rw [View.readCov_skip _ _ _ _ _ (by decide)]; exact View.readCov_cons_toLoadRect _ _ _ _
  have hB1 : Half (sig kk qq) v 7680 1 (bodyRun.sl.v271 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v280 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v292 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v304 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    rw [ev271, ev280, ev292, ev304]; exact aA1
  have aB1 : Half (sig kk qq) v (7680 + 512) 1 (k0_pay105 (F := Ideal) (bodyRun.sl.v270 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v271 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay104 (F := Ideal) (bodyRun.sl.v270 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v271 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v280 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay108 (F := Ideal) (bodyRun.sl.r_17 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay109 (F := Ideal) (bodyRun.sl.r_15 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_16 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v304 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 15, 192, 0] S1x1x64x512.size inb_S1x16x256x512_S1x1x64x512_0_15_192_0).toLoadRect (harg5.unread x3))) :=
    hB1.absorb tv270 (val_is (v := v) arg5 harg5 hx3 ![0, 15, 128, 0] inb_S1x16x256x512_S1x1x64x512_0_15_128_0 15 128 _ rfl (by norm_num)) (val_is (v := v) arg5 harg5 hx3 ![0, 15, 192, 0] inb_S1x16x256x512_S1x1x64x512_0_15_192_0 15 192 _ rfl (by norm_num))
  have ev316 : (bodyRun.sl.v316 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) = k0_pay89 (F := Ideal) (View.readAt (Elt Ideal) arg6.view (Rect.unit (s := S1x256x256) ![0, 0, 0] S1x256x256.size inb_S1x256x256_S1x256x256_0_0_0).toLoadRect (harg6.unread x4)) (bodyRun.sl.v110 (F := Ideal) c arg3 harg3 arg9 x1) := by
    unfold bodyRun.sl.v316 bodyRun.sl.HS1_2_1; rw [View.readCov_skip _ _ _ _ _ (by decide)]; exact View.readCov_cons_toLoadRect _ _ _ _
  have tv316 : CtxScoreIs (sig kk qq) 8192 0 (bodyRun.sl.v316 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) := by
    rw [ev316]; exact ctx_score_is (ctx_key_is arg6 harg6 x4 hx4) hq0
  have ev362 : (bodyRun.sl.v362 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) = k0_pay90 (F := Ideal) (View.readAt (Elt Ideal) arg6.view (Rect.unit (s := S1x256x256) ![0, 0, 0] S1x256x256.size inb_S1x256x256_S1x256x256_0_0_0).toLoadRect (harg6.unread x4)) (bodyRun.sl.v115 (F := Ideal) c arg3 harg3 arg9 x1) := by
    unfold bodyRun.sl.v362 bodyRun.sl.HS1_2_1; exact View.readCov_cons_toLoadRect _ _ _ _
  have tv362 : CtxScoreIs (sig kk qq) 8192 1 (bodyRun.sl.v362 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) := by
    rw [ev362]; exact ctx_score_is (ctx_key_is arg6 harg6 x4 hx4) hq1
  have ev317 : (bodyRun.sl.v317 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay96 (F := Ideal) (bodyRun.sl.r_11 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v317 bodyRun.sl.HS3_4 bodyRun.sl.HS3_3; rw [View.readCov_skip _ _ _ _ _ (by decide)]; exact View.readCov_cons_toLoadRect _ _ _ _
  have ev326 : (bodyRun.sl.v326 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay95 (F := Ideal) (bodyRun.sl.r_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_13 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v234 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v326 bodyRun.sl.HS4_4 bodyRun.sl.HS4_3; rw [View.readCov_skip _ _ _ _ _ (by decide)]; exact View.readCov_cons_toLoadRect _ _ _ _
  have ev338 : (bodyRun.sl.v338 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) = k0_pay98 (F := Ideal) (bodyRun.sl.r_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_13 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v246 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 15, 0, 0] S1x1x64x512.size inb_S1x16x256x512_S1x1x64x512_0_15_0_0).toLoadRect (harg5.unread x3)) := by
    unfold bodyRun.sl.v338 bodyRun.sl.HS5_8 bodyRun.sl.HS5_7 bodyRun.sl.HS5_6 bodyRun.sl.HS5_5; rw [View.readCov_skip _ _ _ _ _ (by decide)]; rw [View.readCov_skip _ _ _ _ _ (by decide)]; rw [View.readCov_skip _ _ _ _ _ (by decide)]; exact View.readCov_cons_toLoadRect _ _ _ _
  have ev350 : (bodyRun.sl.v350 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) = k0_pay100 (F := Ideal) (bodyRun.sl.r_14 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v350 bodyRun.sl.HS5_9 bodyRun.sl.HS5_8 bodyRun.sl.HS5_7 bodyRun.sl.HS5_6; rw [View.readCov_skip _ _ _ _ _ (by decide)]; rw [View.readCov_skip _ _ _ _ _ (by decide)]; rw [View.readCov_skip _ _ _ _ _ (by decide)]; exact View.readCov_cons_toLoadRect _ _ _ _
  have hC0 : Half (sig kk qq) v 8192 0 (bodyRun.sl.v317 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v326 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v338 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v350 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) := by
    rw [ev317, ev326, ev338, ev350]; exact aB0
  have aC0 : Half (sig kk qq) v (8192 + 256) 0 (bodyRun.sl.r_20 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (k0_pay113 (F := Ideal) (bodyRun.sl.v316 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v317 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v326 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2)) (k0_pay116 (F := Ideal) (bodyRun.sl.r_18 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_19 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v338 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg7.view (Rect.unit (s := S1x256x256) ![0, 0, 0] S1x64x256.size inb_S1x256x256_S1x64x256_0_0_0).toLoadRect (harg7.unread x5))) (k0_pay117 (F := Ideal) (bodyRun.sl.r_18 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_19 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v350 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (View.readAt (Elt Ideal) arg7.view (Rect.unit (s := S1x256x256) ![0, 64, 0] S1x64x256.size inb_S1x256x256_S1x64x256_0_64_0).toLoadRect (harg7.unread x5))) :=
    hC0.absorb_ctx tv316 (ctx_val_is arg7 harg7 x5 hx5 0 inb_S1x256x256_S1x64x256_0_0_0) (ctx_val_is arg7 harg7 x5 hx5 64 inb_S1x256x256_S1x64x256_0_64_0)
  have ev363 : (bodyRun.sl.v363 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) = k0_pay105 (F := Ideal) (bodyRun.sl.v270 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v271 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v363 bodyRun.sl.HS3_5 bodyRun.sl.HS3_4; rw [View.readCov_skip _ _ _ _ _ (by decide)]; exact View.readCov_cons_toLoadRect _ _ _ _
  have ev372 : (bodyRun.sl.v372 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) = k0_pay104 (F := Ideal) (bodyRun.sl.v270 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v271 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v280 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v372 bodyRun.sl.HS4_5 bodyRun.sl.HS4_4; rw [View.readCov_skip _ _ _ _ _ (by decide)]; exact View.readCov_cons_toLoadRect _ _ _ _
  have ev384 : (bodyRun.sl.v384 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) = k0_pay108 (F := Ideal) (bodyRun.sl.r_17 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.v384 bodyRun.sl.HS5_10 bodyRun.sl.HS5_9 bodyRun.sl.HS5_8 bodyRun.sl.HS5_7; rw [View.readCov_skip _ _ _ _ _ (by decide)]; rw [View.readCov_skip _ _ _ _ _ (by decide)]; rw [View.readCov_skip _ _ _ _ _ (by decide)]; exact View.readCov_cons_toLoadRect _ _ _ _
  have ev396 : (bodyRun.sl.v396 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) = k0_pay109 (F := Ideal) (bodyRun.sl.r_15 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.r_16 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v304 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg5.view (Rect.unit (s := S1x16x256x512) ![0, 15, 192, 0] S1x1x64x512.size inb_S1x16x256x512_S1x1x64x512_0_15_192_0).toLoadRect (harg5.unread x3)) := by
    unfold bodyRun.sl.v396 bodyRun.sl.HS5_11 bodyRun.sl.HS5_10 bodyRun.sl.HS5_9 bodyRun.sl.HS5_8; rw [View.readCov_skip _ _ _ _ _ (by decide)]; rw [View.readCov_skip _ _ _ _ _ (by decide)]; rw [View.readCov_skip _ _ _ _ _ (by decide)]; exact View.readCov_cons_toLoadRect _ _ _ _
  have hC1 : Half (sig kk qq) v 8192 1 (bodyRun.sl.v363 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v372 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v384 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (bodyRun.sl.v396 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) := by
    rw [ev363, ev372, ev384, ev396]; exact aB1
  have aC1 : Half (sig kk qq) v (8192 + 256) 1 (k0_pay114 (F := Ideal) (bodyRun.sl.v362 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v363 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2)) (k0_pay121 (F := Ideal) (bodyRun.sl.r_22 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_23 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v372 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2)) (k0_pay124 (F := Ideal) (bodyRun.sl.r_22 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_23 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v384 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (View.readAt (Elt Ideal) arg7.view (Rect.unit (s := S1x256x256) ![0, 128, 0] S1x64x256.size inb_S1x256x256_S1x64x256_0_128_0).toLoadRect (harg7.unread x5))) (k0_pay126 (F := Ideal) (bodyRun.sl.r_24 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2)) :=
    hC1.absorb_ctx tv362 (ctx_val_is arg7 harg7 x5 hx5 128 inb_S1x256x256_S1x64x256_0_128_0) (ctx_val_is arg7 harg7 x5 hx5 192 inb_S1x256x256_S1x64x256_0_192_0)
  have l0 : arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) rM0.toLoadRect = k0_pay113 (F := Ideal) (bodyRun.sl.v316 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v317 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (bodyRun.sl.v326 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) := by
    unfold bodyRun.sl.HS4_6 bodyRun.sl.HS4_5; rw [View.readCov_skip _ _ _ _ _ (by decide)]; exact View.readCov_cons_toLoadRect _ _ _ _
  have l1 : arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) rM1.toLoadRect = k0_pay121 (F := Ideal) (bodyRun.sl.r_22 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_23 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v372 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) := by
    unfold bodyRun.sl.HS4_6; exact View.readCov_cons_toLoadRect _ _ _ _
  have f0 : arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA0.toLoadRect = k0_pay116 (F := Ideal) (bodyRun.sl.r_18 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_19 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v338 (F := Ideal) c i arg2 harg2 arg3 harg3 arg4 harg4 arg5 harg5 arg6 harg6 arg7 harg7 arg8 harg8 arg9 harg9 arg10 harg10 arg11 harg11 arg12 harg12 arg13 harg13 arg14 harg14 x1 x2 x3 fs2) (View.readAt (Elt Ideal) arg7.view (Rect.unit (s := S1x256x256) ![0, 0, 0] S1x64x256.size inb_S1x256x256_S1x64x256_0_0_0).toLoadRect (harg7.unread x5)) := by
    unfold bodyRun.sl.HS5_12 bodyRun.sl.HS5_11 bodyRun.sl.HS5_10 bodyRun.sl.HS5_9; rw [View.readCov_skip _ _ _ _ _ (by decide)]; rw [View.readCov_skip _ _ _ _ _ (by decide)]; rw [View.readCov_skip _ _ _ _ _ (by decide)]; exact View.readCov_cons_toLoadRect _ _ _ _
  have f1 : arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA1.toLoadRect = k0_pay117 (F := Ideal) (bodyRun.sl.r_18 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_19 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v350 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (View.readAt (Elt Ideal) arg7.view (Rect.unit (s := S1x256x256) ![0, 64, 0] S1x64x256.size inb_S1x256x256_S1x64x256_0_64_0).toLoadRect (harg7.unread x5)) := by
    unfold bodyRun.sl.HS5_12 bodyRun.sl.HS5_11 bodyRun.sl.HS5_10; rw [View.readCov_skip _ _ _ _ _ (by decide)]; rw [View.readCov_skip _ _ _ _ _ (by decide)]; exact View.readCov_cons_toLoadRect _ _ _ _
  have f2 : arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA2.toLoadRect = k0_pay124 (F := Ideal) (bodyRun.sl.r_22 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.r_23 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (bodyRun.sl.v384 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (View.readAt (Elt Ideal) arg7.view (Rect.unit (s := S1x256x256) ![0, 128, 0] S1x64x256.size inb_S1x256x256_S1x64x256_0_128_0).toLoadRect (harg7.unread x5)) := by
    unfold bodyRun.sl.HS5_12 bodyRun.sl.HS5_11; rw [View.readCov_skip _ _ _ _ _ (by decide)]; exact View.readCov_cons_toLoadRect _ _ _ _
  have f3 : arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA3.toLoadRect = k0_pay126 (F := Ideal) (bodyRun.sl.r_24 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) := by
    unfold bodyRun.sl.HS5_12; exact View.readCov_cons_toLoadRect _ _ _ _
  exact ⟨_, _, by rw [l0, f0, f1]; exact aC0, by rw [l1, f2, f3]; exact aC1⟩
end

end Cert.DiffIdeal.Att

end
-- ==== Proof.DiffLoop.lean ====
/- The key loop of the attention kernel, and what the body prepares before it. -/
module

public import proofs.«01_k».proof.Proof.DiffTrip
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.DiffIdeal.Att

open Cert.DiffIdeal Cert.DiffIdeal.Gen Cert.DiffMath

/-- The query of a column: the eight streams of 32 rows each keep their own rows. -/
def mq (q : Fin 256 → Fin 128 → ℝ) (d : Fin 256) (col : ℕ) : ℝ :=
  if d.val / 32 = col / 128 then q d ⟨col % 128, by omega⟩ else 0

/-- The stream that a query row belongs to. -/
theorem stream_at (d : Fin 256) (y : Fin 128) : k0_pay47 (ix2 d y) = BitVec.ofNat 32 (d.val / 32) := by
  have h : ∀ d : Fin 256, k0_pay47 (ix2 d (0 : Fin 128)) = BitVec.ofNat 32 (d.val / 32) := by decide
  exact h d

theorem sel_eq (a b : BitVec 32) (x y : EReal) : Scalar.select (IntOp.cmpi CmpIPredicate.eq a b) x y = if a = b then x else y := by
  by_cases h : a = b
  · simp [Scalar.select, IntOp.cmpi, h]
  · have h' : (a == b) = false := by simpa using h
    simp [Scalar.select, IntOp.cmpi, h, h']

theorem mask0_at (X : FVec Ideal S1x256x128 .bf16) (d : Fin 256) (y : Fin 128) :
    k0_pay48 (F := Ideal) X (ix2 d y) = if BitVec.ofNat 32 (d.val / 32) = 0#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask1_at (X : FVec Ideal S1x256x128 .bf16) (d : Fin 256) (y : Fin 128) :
    k0_pay50 (F := Ideal) (k0_pay49 (F := Ideal) X) (ix2 d y) = if BitVec.ofNat 32 (d.val / 32) = 1#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask2_at (X : FVec Ideal S1x256x128 .bf16) (d : Fin 256) (y : Fin 128) :
    k0_pay51 (F := Ideal) (k0_pay46 (F := Ideal) X) k0_pay47 (ix2 d y) = if BitVec.ofNat 32 (d.val / 32) = 2#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask3_at (X : FVec Ideal S1x256x128 .bf16) (d : Fin 256) (y : Fin 128) :
    k0_pay52 (F := Ideal) (k0_pay46 (F := Ideal) X) k0_pay47 (ix2 d y) = if BitVec.ofNat 32 (d.val / 32) = 3#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask4_at (X : FVec Ideal S1x256x128 .bf16) (d : Fin 256) (y : Fin 128) :
    k0_pay53 (F := Ideal) (k0_pay46 (F := Ideal) X) k0_pay47 (ix2 d y) = if BitVec.ofNat 32 (d.val / 32) = 4#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask5_at (X : FVec Ideal S1x256x128 .bf16) (d : Fin 256) (y : Fin 128) :
    k0_pay54 (F := Ideal) (k0_pay46 (F := Ideal) X) k0_pay47 (ix2 d y) = if BitVec.ofNat 32 (d.val / 32) = 5#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask6_at (X : FVec Ideal S1x256x128 .bf16) (d : Fin 256) (y : Fin 128) :
    k0_pay56 (F := Ideal) (k0_pay55 (F := Ideal) (k0_pay46 (F := Ideal) X) k0_pay47) (ix2 d y) = if BitVec.ofNat 32 (d.val / 32) = 6#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

theorem mask7_at (X : FVec Ideal S1x256x128 .bf16) (d : Fin 256) (y : Fin 128) :
    k0_pay57 (F := Ideal) (k0_pay46 (F := Ideal) X) k0_pay47 (ix2 d y) = if BitVec.ofNat 32 (d.val / 32) = 7#32 then (X (ix3 0 d y) : EReal) else 0 := by
  rw [← stream_at d y]
  pointwise [k0_pay48, k0_pay49, k0_pay50, k0_pay51, k0_pay52, k0_pay53, k0_pay54, k0_pay55, k0_pay56, k0_pay57, k0_pay46]
  exact sel_eq _ _ _ _

section
variable (c : Dev nD) (i : grid0.Coords) (arg2 : Memref Cert.DiffIdeal.sig .tc .vmem S4x32 .f32) (harg2 : arg2.IsWhole) (arg3 : Memref Cert.DiffIdeal.sig .tc .vmem S1x256x128 .bf16) (harg3 : arg3.IsWhole) (arg4 : Memref Cert.DiffIdeal.sig .tc .vmem S1x8192x256 .bf16) (harg4 : arg4.IsWhole) (arg5 : Memref Cert.DiffIdeal.sig .tc .vmem S1x16x256x512 .bf16) (harg5 : arg5.IsWhole) (arg6 : Memref Cert.DiffIdeal.sig .tc .vmem S1x256x256 .bf16) (harg6 : arg6.IsWhole) (arg7 : Memref Cert.DiffIdeal.sig .tc .vmem S1x256x256 .bf16) (harg7 : arg7.IsWhole) (arg8 : Memref Cert.DiffIdeal.sig .tc .vmem S1x128x256 .f32) (harg8 : arg8.IsWhole) (arg9 : Memref Cert.DiffIdeal.sig .tc .vmem S256x1024 .bf16) (harg9 : arg9.IsWhole) (arg10 : Memref Cert.DiffIdeal.sig .tc .vmem S512x1024 .f32) (harg10 : arg10.IsWhole) (arg11 : Memref Cert.DiffIdeal.sig .tc .vmem S512x1024 .f32) (harg11 : arg11.IsWhole) (arg12 : Memref Cert.DiffIdeal.sig .tc .vmem S1x1024 .f32) (harg12 : arg12.IsWhole) (arg13 : Memref Cert.DiffIdeal.sig .tc .vmem S1x1024 .f32) (harg13 : arg13.IsWhole) (arg14 : Memref Cert.DiffIdeal.sig .tc .vmem S256x256 .f32) (harg14 : arg14.IsWhole)
  (x1 : Vec Ideal S1x256x128 .bf16) (x2 : Vec Ideal S1x8192x256 .bf16) (x3 : Vec Ideal S1x16x256x512 .bf16)
  (fs2 : BufTy.Contents (Elt Ideal) arg11.view.ty)

/-- Two loads that name the same element of a buffer read the same. -/
theorem readCov_at {sp : Space} {s : Shape} {e : EltTy} (v : View Cert.DiffIdeal.sig .tc sp s e) (L : List (View.Piece (Elt Ideal) s e)) (B B' : LoadRect s)
    (x : B.shape.Idx) (y : B'.shape.Idx) (h : B.idx x = B'.idx y) : v.readCov L B x = v.readCov L B' y := by
  show v.read _ _ (B.idx x) = v.read _ _ (B'.idx y)
  rw [h]

/-- The query block as loaded. -/
theorem qry_load (d : Fin 256) (y : Fin 128) :
    View.readAt (Elt Ideal) arg3.view (Rect.unit (s := S1x256x128) ![0, 0, 0] S1x256x128.size inb_S1x256x128_S1x256x128_0_0_0).toLoadRect (harg3.unread x1) (ix3 0 d y) = x1 (ix3 0 d y) := by
  refine (View.readAt_apply _ _ _).trans ((congrFun (harg3.read_unread x1) _).trans (congrArg x1 ?_))
  funext a; fin_cases a <;> apply Fin.ext <;> simp [LoadRect.idx, Rect.toLoadRect, Rect.unit, ix3]

theorem stream_eq (d : Fin 256) (s : ℕ) (hs : s < 8) : (BitVec.ofNat 32 (d.val / 32) = BitVec.ofNat 32 s) ↔ d.val / 32 = s := by
  have h : ∀ (d : Fin 256) (s : Fin 8), (BitVec.ofNat 32 (d.val / 32) = BitVec.ofNat 32 s.val) ↔ d.val / 32 = s.val := by decide
  exact h d ⟨s, hs⟩

theorem qs0_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 0] S256x128.size inb_S256x1024_S256x128_0_0).toLoadRect (ix2 d y) = ((mq q d (0 + y.val) : ℝ) : EReal) := by
  have e : arg9.view.readCov (bodyRun.sl.HS0_8 (F := Ideal) c arg3 harg3 x1) (Rect.unit (s := S256x1024) ![0, 0] S256x128.size inb_S256x1024_S256x128_0_0).toLoadRect = k0_pay48 (F := Ideal) (View.readAt (Elt Ideal) arg3.view (Rect.unit (s := S1x256x128) ![0, 0, 0] S1x256x128.size inb_S1x256x128_S1x256x128_0_0_0).toLoadRect (harg3.unread x1)) := by
    unfold bodyRun.sl.HS0_8; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; exact View.readCov_cons_toLoadRect _ _ _ _
  have h1 : (0 + y.val) / 128 = 0 := by omega
  have h2 : (0 + y.val) % 128 = y.val := by omega
  rw [e, mask0_at, qry_load, hx1]
  unfold mq
  simp only [h1, h2]
  by_cases h : d.val / 32 = 0
  · rw [if_pos ((stream_eq d 0 (by norm_num)).2 h), if_pos h]
  · rw [if_neg (fun e => h ((stream_eq d 0 (by norm_num)).1 e)), if_neg h]; rfl

theorem qs1_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 128] S256x128.size inb_S256x1024_S256x128_0_128).toLoadRect (ix2 d y) = ((mq q d (128 + y.val) : ℝ) : EReal) := by
  have e : arg9.view.readCov (bodyRun.sl.HS0_8 (F := Ideal) c arg3 harg3 x1) (Rect.unit (s := S256x1024) ![0, 128] S256x128.size inb_S256x1024_S256x128_0_128).toLoadRect = k0_pay50 (F := Ideal) (k0_pay49 (F := Ideal) (View.readAt (Elt Ideal) arg3.view (Rect.unit (s := S1x256x128) ![0, 0, 0] S1x256x128.size inb_S1x256x128_S1x256x128_0_0_0).toLoadRect (harg3.unread x1))) := by
    unfold bodyRun.sl.HS0_8; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; exact View.readCov_cons_toLoadRect _ _ _ _
  have h1 : (128 + y.val) / 128 = 1 := by omega
  have h2 : (128 + y.val) % 128 = y.val := by omega
  rw [e, mask1_at, qry_load, hx1]
  unfold mq
  simp only [h1, h2]
  by_cases h : d.val / 32 = 1
  · rw [if_pos ((stream_eq d 1 (by norm_num)).2 h), if_pos h]
  · rw [if_neg (fun e => h ((stream_eq d 1 (by norm_num)).1 e)), if_neg h]; rfl

theorem qs2_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 256] S256x128.size inb_S256x1024_S256x128_0_256).toLoadRect (ix2 d y) = ((mq q d (256 + y.val) : ℝ) : EReal) := by
  have e : arg9.view.readCov (bodyRun.sl.HS0_8 (F := Ideal) c arg3 harg3 x1) (Rect.unit (s := S256x1024) ![0, 256] S256x128.size inb_S256x1024_S256x128_0_256).toLoadRect = k0_pay51 (F := Ideal) (k0_pay46 (F := Ideal) (View.readAt (Elt Ideal) arg3.view (Rect.unit (s := S1x256x128) ![0, 0, 0] S1x256x128.size inb_S1x256x128_S1x256x128_0_0_0).toLoadRect (harg3.unread x1))) k0_pay47 := by
    unfold bodyRun.sl.HS0_8; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; exact View.readCov_cons_toLoadRect _ _ _ _
  have h1 : (256 + y.val) / 128 = 2 := by omega
  have h2 : (256 + y.val) % 128 = y.val := by omega
  rw [e, mask2_at, qry_load, hx1]
  unfold mq
  simp only [h1, h2]
  by_cases h : d.val / 32 = 2
  · rw [if_pos ((stream_eq d 2 (by norm_num)).2 h), if_pos h]
  · rw [if_neg (fun e => h ((stream_eq d 2 (by norm_num)).1 e)), if_neg h]; rfl

theorem qs3_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 384] S256x128.size inb_S256x1024_S256x128_0_384).toLoadRect (ix2 d y) = ((mq q d (384 + y.val) : ℝ) : EReal) := by
  have e : arg9.view.readCov (bodyRun.sl.HS0_8 (F := Ideal) c arg3 harg3 x1) (Rect.unit (s := S256x1024) ![0, 384] S256x128.size inb_S256x1024_S256x128_0_384).toLoadRect = k0_pay52 (F := Ideal) (k0_pay46 (F := Ideal) (View.readAt (Elt Ideal) arg3.view (Rect.unit (s := S1x256x128) ![0, 0, 0] S1x256x128.size inb_S1x256x128_S1x256x128_0_0_0).toLoadRect (harg3.unread x1))) k0_pay47 := by
    unfold bodyRun.sl.HS0_8; rw [View.readCov_skip _ _ _ _ _ (by decide)]; rw [View.readCov_skip _ _ _ _ _ (by decide)]; rw [View.readCov_skip _ _ _ _ _ (by decide)]; rw [View.readCov_skip _ _ _ _ _ (by decide)]; exact View.readCov_cons_toLoadRect _ _ _ _
  have h1 : (384 + y.val) / 128 = 3 := by omega
  have h2 : (384 + y.val) % 128 = y.val := by omega
  rw [e, mask3_at, qry_load, hx1]
  unfold mq
  simp only [h1, h2]
  by_cases h : d.val / 32 = 3
  · rw [if_pos ((stream_eq d 3 (by norm_num)).2 h), if_pos h]
  · rw [if_neg (fun e => h ((stream_eq d 3 (by norm_num)).1 e)), if_neg h]; rfl

theorem qs4_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 512] S256x128.size inb_S256x1024_S256x128_0_512).toLoadRect (ix2 d y) = ((mq q d (512 + y.val) : ℝ) : EReal) := by
  have e : arg9.view.readCov (bodyRun.sl.HS0_8 (F := Ideal) c arg3 harg3 x1) (Rect.unit (s := S256x1024) ![0, 512] S256x128.size inb_S256x1024_S256x128_0_512).toLoadRect = k0_pay53 (F := Ideal) (k0_pay46 (F := Ideal) (View.readAt (Elt Ideal) arg3.view (Rect.unit (s := S1x256x128) ![0, 0, 0] S1x256x128.size inb_S1x256x128_S1x256x128_0_0_0).toLoadRect (harg3.unread x1))) k0_pay47 := by
    unfold bodyRun.sl.HS0_8; rw [View.readCov_skip _ _ _ _ _ (by decide)]; rw [View.readCov_skip _ _ _ _ _ (by decide)]; rw [View.readCov_skip _ _ _ _ _ (by decide)]; exact View.readCov_cons_toLoadRect _ _ _ _
  have h1 : (512 + y.val) / 128 = 4 := by omega
  have h2 : (512 + y.val) % 128 = y.val := by omega
  rw [e, mask4_at, qry_load, hx1]
  unfold mq
  simp only [h1, h2]
  by_cases h : d.val / 32 = 4
  · rw [if_pos ((stream_eq d 4 (by norm_num)).2 h), if_pos h]
  · rw [if_neg (fun e => h ((stream_eq d 4 (by norm_num)).1 e)), if_neg h]; rfl

theorem qs5_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 640] S256x128.size inb_S256x1024_S256x128_0_640).toLoadRect (ix2 d y) = ((mq q d (640 + y.val) : ℝ) : EReal) := by
  have e : arg9.view.readCov (bodyRun.sl.HS0_8 (F := Ideal) c arg3 harg3 x1) (Rect.unit (s := S256x1024) ![0, 640] S256x128.size inb_S256x1024_S256x128_0_640).toLoadRect = k0_pay54 (F := Ideal) (k0_pay46 (F := Ideal) (View.readAt (Elt Ideal) arg3.view (Rect.unit (s := S1x256x128) ![0, 0, 0] S1x256x128.size inb_S1x256x128_S1x256x128_0_0_0).toLoadRect (harg3.unread x1))) k0_pay47 := by
    unfold bodyRun.sl.HS0_8; rw [View.readCov_skip _ _ _ _ _ (by decide)]; rw [View.readCov_skip _ _ _ _ _ (by decide)]; exact View.readCov_cons_toLoadRect _ _ _ _
  have h1 : (640 + y.val) / 128 = 5 := by omega
  have h2 : (640 + y.val) % 128 = y.val := by omega
  rw [e, mask5_at, qry_load, hx1]
  unfold mq
  simp only [h1, h2]
  by_cases h : d.val / 32 = 5
  · rw [if_pos ((stream_eq d 5 (by norm_num)).2 h), if_pos h]
  · rw [if_neg (fun e => h ((stream_eq d 5 (by norm_num)).1 e)), if_neg h]; rfl

theorem qs6_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 768] S256x128.size inb_S256x1024_S256x128_0_768).toLoadRect (ix2 d y) = ((mq q d (768 + y.val) : ℝ) : EReal) := by
  have e : arg9.view.readCov (bodyRun.sl.HS0_8 (F := Ideal) c arg3 harg3 x1) (Rect.unit (s := S256x1024) ![0, 768] S256x128.size inb_S256x1024_S256x128_0_768).toLoadRect = k0_pay56 (F := Ideal) (k0_pay55 (F := Ideal) (k0_pay46 (F := Ideal) (View.readAt (Elt Ideal) arg3.view (Rect.unit (s := S1x256x128) ![0, 0, 0] S1x256x128.size inb_S1x256x128_S1x256x128_0_0_0).toLoadRect (harg3.unread x1))) k0_pay47) := by
    unfold bodyRun.sl.HS0_8; rw [View.readCov_skip _ _ _ _ _ (by decide)]; exact View.readCov_cons_toLoadRect _ _ _ _
  have h1 : (768 + y.val) / 128 = 6 := by omega
  have h2 : (768 + y.val) % 128 = y.val := by omega
  rw [e, mask6_at, qry_load, hx1]
  unfold mq
  simp only [h1, h2]
  by_cases h : d.val / 32 = 6
  · rw [if_pos ((stream_eq d 6 (by norm_num)).2 h), if_pos h]
  · rw [if_neg (fun e => h ((stream_eq d 6 (by norm_num)).1 e)), if_neg h]; rfl

theorem qs7_at {q : Fin 256 → Fin 128 → ℝ} (hx1 : ∀ (d : Fin 256) (y : Fin 128), x1 (ix3 0 d y) = ((q d y : ℝ) : EReal)) (d : Fin 256) (y : Fin 128) :
    arg9.view.readCov (bodyRun.sl.HS0_8 (F := Ideal) c arg3 harg3 x1) (Rect.unit (s := S256x1024) ![0, 896] S256x128.size inb_S256x1024_S256x128_0_896).toLoadRect (ix2 d y) = ((mq q d (896 + y.val) : ℝ) : EReal) := by
  have e : arg9.view.readCov (bodyRun.sl.HS0_8 (F := Ideal) c arg3 harg3 x1) (Rect.unit (s := S256x1024) ![0, 896] S256x128.size inb_S256x1024_S256x128_0_896).toLoadRect = k0_pay57 (F := Ideal) (k0_pay46 (F := Ideal) (View.readAt (Elt Ideal) arg3.view (Rect.unit (s := S1x256x128) ![0, 0, 0] S1x256x128.size inb_S1x256x128_S1x256x128_0_0_0).toLoadRect (harg3.unread x1))) k0_pay47 := by
    unfold bodyRun.sl.HS0_8; exact View.readCov_cons_toLoadRect _ _ _ _
  have h1 : (896 + y.val) / 128 = 7 := by omega
  have h2 : (896 + y.val) % 128 = y.val := by omega
  rw [e, mask7_at, qry_load, hx1]
  unfold mq
  simp only [h1, h2]
  by_cases h : d.val / 32 = 7
  · rw [if_pos ((stream_eq d 7 (by norm_num)).2 h), if_pos h]
  · rw [if_neg (fun e => h ((stream_eq d 7 (by norm_num)).1 e)), if_neg h]; rfl

/-- The masked queries of the columns 0 .. 511. -/
theorem qry0_is {q : Fin 256 → Fin 128 → ℝ} (hx1 : ∀ (d : Fin 256) (y : Fin 128), x1 (ix3 0 d y) = ((q d y : ℝ) : EReal)) :
    QryIs (mq q) 0 (arg9.view.readCov (bodyRun.sl.HS0_8 (F := Ideal) c arg3 harg3 x1) rQ0.toLoadRect) := by
  intro d c'
  by_cases h0 : c'.val < 128
  · refine (readCov_at arg9.view _ rQ0.toLoadRect (Rect.unit (s := S256x1024) ![0, 0] S256x128.size inb_S256x1024_S256x128_0_0).toLoadRect (ix2 d c') (ix2 d ⟨c'.val - 0, by omega⟩) ?_).trans
        ((qs0_at c arg3 harg3 arg9 x1 hx1 d _).trans (congrArg (fun n : ℕ => ((mq q d n : ℝ) : EReal)) (by show 0 + (c'.val - 0) = 0 + c'.val; omega)))
    funext a; fin_cases a <;> apply Fin.ext <;> simp [LoadRect.idx, Rect.toLoadRect, Rect.unit, ix2] <;> omega
  by_cases h1 : c'.val < 256
  · refine (readCov_at arg9.view _ rQ0.toLoadRect (Rect.unit (s := S256x1024) ![0, 128] S256x128.size inb_S256x1024_S256x128_0_128).toLoadRect (ix2 d c') (ix2 d ⟨c'.val - 128, by omega⟩) ?_).trans
        ((qs1_at c arg3 harg3 arg9 x1 hx1 d _).trans (congrArg (fun n : ℕ => ((mq q d n : ℝ) : EReal)) (by show 128 + (c'.val - 128) = 0 + c'.val; omega)))
    funext a; fin_cases a <;> apply Fin.ext <;> simp [LoadRect.idx, Rect.toLoadRect, Rect.unit, ix2] <;> omega
  by_cases h2 : c'.val < 384
  · refine (readCov_at arg9.view _ rQ0.toLoadRect (Rect.unit (s := S256x1024) ![0, 256] S256x128.size inb_S256x1024_S256x128_0_256).toLoadRect (ix2 d c') (ix2 d ⟨c'.val - 256, by omega⟩) ?_).trans
        ((qs2_at c arg3 harg3 arg9 x1 hx1 d _).trans (congrArg (fun n : ℕ => ((mq q d n : ℝ) : EReal)) (by show 256 + (c'.val - 256) = 0 + c'.val; omega)))
    funext a; fin_cases a <;> apply Fin.ext <;> simp [LoadRect.idx, Rect.toLoadRect, Rect.unit, ix2] <;> omega
  · refine (readCov_at arg9.view _ rQ0.toLoadRect (Rect.unit (s := S256x1024) ![0, 384] S256x128.size inb_S256x1024_S256x128_0_384).toLoadRect (ix2 d c') (ix2 d ⟨c'.val - 384, by omega⟩) ?_).trans
        ((qs3_at c arg3 harg3 arg9 x1 hx1 d _).trans (congrArg (fun n : ℕ => ((mq q d n : ℝ) : EReal)) (by show 384 + (c'.val - 384) = 0 + c'.val; omega)))
    funext a; fin_cases a <;> apply Fin.ext <;> simp [LoadRect.idx, Rect.toLoadRect, Rect.unit, ix2] <;> omega

/-- The masked queries of the columns 512 .. 1023. -/
theorem qry1_is {q : Fin 256 → Fin 128 → ℝ} (hx1 : ∀ (d : Fin 256) (y : Fin 128), x1 (ix3 0 d y) = ((q d y : ℝ) : EReal)) :
    QryIs (mq q) 1 (arg9.view.readCov (bodyRun.sl.HS0_8 (F := Ideal) c arg3 harg3 x1) rQ1.toLoadRect) := by
  intro d c'
  by_cases h0 : c'.val < 128
  · refine (readCov_at arg9.view _ rQ1.toLoadRect (Rect.unit (s := S256x1024) ![0, 512] S256x128.size inb_S256x1024_S256x128_0_512).toLoadRect (ix2 d c') (ix2 d ⟨c'.val - 0, by omega⟩) ?_).trans
        ((qs4_at c arg3 harg3 arg9 x1 hx1 d _).trans (congrArg (fun n : ℕ => ((mq q d n : ℝ) : EReal)) (by show 512 + (c'.val - 0) = 512 + c'.val; omega)))
    funext a; fin_cases a <;> apply Fin.ext <;> simp [LoadRect.idx, Rect.toLoadRect, Rect.unit, ix2] <;> omega
  by_cases h1 : c'.val < 256
  · refine (readCov_at arg9.view _ rQ1.toLoadRect (Rect.unit (s := S256x1024) ![0, 640] S256x128.size inb_S256x1024_S256x128_0_640).toLoadRect (ix2 d c') (ix2 d ⟨c'.val - 128, by omega⟩) ?_).trans
        ((qs5_at c arg3 harg3 arg9 x1 hx1 d _).trans (congrArg (fun n : ℕ => ((mq q d n : ℝ) : EReal)) (by show 640 + (c'.val - 128) = 512 + c'.val; omega)))
    funext a; fin_cases a <;> apply Fin.ext <;> simp [LoadRect.idx, Rect.toLoadRect, Rect.unit, ix2] <;> omega
  by_cases h2 : c'.val < 384
  · refine (readCov_at arg9.view _ rQ1.toLoadRect (Rect.unit (s := S256x1024) ![0, 768] S256x128.size inb_S256x1024_S256x128_0_768).toLoadRect (ix2 d c') (ix2 d ⟨c'.val - 256, by omega⟩) ?_).trans
        ((qs6_at c arg3 harg3 arg9 x1 hx1 d _).trans (congrArg (fun n : ℕ => ((mq q d n : ℝ) : EReal)) (by show 768 + (c'.val - 256) = 512 + c'.val; omega)))
    funext a; fin_cases a <;> apply Fin.ext <;> simp [LoadRect.idx, Rect.toLoadRect, Rect.unit, ix2] <;> omega
  · refine (readCov_at arg9.view _ rQ1.toLoadRect (Rect.unit (s := S256x1024) ![0, 896] S256x128.size inb_S256x1024_S256x128_0_896).toLoadRect (ix2 d c') (ix2 d ⟨c'.val - 384, by omega⟩) ?_).trans
        ((qs7_at c arg3 harg3 arg9 x1 hx1 d _).trans (congrArg (fun n : ℕ => ((mq q d n : ℝ) : EReal)) (by show 896 + (c'.val - 384) = 512 + c'.val; omega)))
    funext a; fin_cases a <;> apply Fin.ext <;> simp [LoadRect.idx, Rect.toLoadRect, Rect.unit, ix2] <;> omega

/-- What the loop starts from. -/
theorem good_zero {kk : ℕ → Fin 256 → ℝ} {q : Fin 256 → Fin 128 → ℝ} {v : ℕ → ℕ → ℝ}
    (hx1 : ∀ (d : Fin 256) (y : Fin 128), x1 (ix3 0 d y) = ((q d y : ℝ) : EReal))
    (hx2 : ∀ (n : Fin 8192) (d : Fin 256), x2 (ix3 0 n d) = ((kk n.val d : ℝ) : EReal)) :
    Good (sig kk (mq q)) v 0 arg10 arg12 arg13 arg14 (bodyRun.sl.HS1_2 (F := Ideal) c arg3 harg3 arg4 harg4 arg9 x1 x2) (bodyRun.sl.HS3_1 (F := Ideal)) (bodyRun.sl.HS4_1 (F := Ideal)) (bodyRun.sl.HS5_1 (F := Ideal)) := by
  have q0 := qry0_is c arg3 harg3 arg9 x1 hx1
  have q1 := qry1_is c arg3 harg3 arg9 x1 hx1
  have e0 : arg10.view.readCov (bodyRun.sl.HS1_2 (F := Ideal) c arg3 harg3 arg4 harg4 arg9 x1 x2) rS0.toLoadRect = k0_pay62 (F := Ideal) (Idealize.ShloMosaic.View.readAt (Elt Ideal) arg4.view (Rect.unit (s := S1x8192x256) ![0, 0, 0] S1x512x256.size inb_S1x8192x256_S1x512x256_0_0_0).toLoadRect (harg4.unread x2)) (bodyRun.sl.v97 (F := Ideal) c arg3 harg3 arg9 x1) := by
    unfold bodyRun.sl.HS1_2; rw [View.readCov_skip _ _ _ _ _ (by decide)]; exact View.readCov_cons_toLoadRect _ _ _ _
  have e1 : arg10.view.readCov (bodyRun.sl.HS1_2 (F := Ideal) c arg3 harg3 arg4 harg4 arg9 x1 x2) rS1.toLoadRect = k0_pay64 (F := Ideal) (bodyRun.sl.r_3 (F := Ideal) c arg3 harg3 arg4 harg4 arg9 x1 x2) := by
    unfold bodyRun.sl.HS1_2; exact View.readCov_cons_toLoadRect _ _ _ _
  have fill (arg : Memref Cert.DiffIdeal.sig .tc .vmem S1x1024 .f32) (Z : FVec Ideal S1x1024 .f32) (r : Rect S1x1024) (x : r.shape.Idx) :
      arg.view.readCov (Val := Elt Ideal) [⟨Rect.unit (s := S1x1024) ![0, 0] S1x1024.size inb_S1x1024_S1x1024_0_0, Z⟩] r.toLoadRect x = Z (r.toLoadRect.idx x) :=
    by have h := congrFun (View.readCov_fill (Val := Elt Ideal) arg.view inb_S1x1024_S1x1024_0_0 Z [] r (by decide)) x; exact h
  have fill' (r : Rect S256x256) (x : r.shape.Idx) (Z : FVec Ideal S256x256 .f32) :
      arg14.view.readCov (Val := Elt Ideal) [⟨Rect.unit (s := S256x256) ![0, 0] S256x256.size inb_S256x256_S256x256_0_0, Z⟩] r.toLoadRect x = Z (r.toLoadRect.idx x) :=
    by have h := congrFun (View.readCov_fill (Val := Elt Ideal) arg14.view inb_S256x256_S256x256_0_0 Z [] r (by decide)) x; exact h
  have z58 (x : S1x1024.Idx) : k0_pay58 (F := Ideal) x = (⊥ : EReal) := by pointwise [k0_pay58]; rfl
  have z59 (x : S1x1024.Idx) : k0_pay59 (F := Ideal) x = (0 : EReal) := by pointwise [k0_pay59]
  have z60 (x : S256x256.Idx) : k0_pay60 (F := Ideal) x = (0 : EReal) := by pointwise [k0_pay60]
  refine ⟨?_, ?_, ⟨fun r w => Or.inl ⟨rfl, ?_, ?_, ?_⟩, fun r w => Or.inl ⟨rfl, ?_, ?_, ?_⟩⟩, ⟨fun r w => Or.inl ⟨rfl, ?_, ?_, ?_⟩, fun r w => Or.inl ⟨rfl, ?_, ?_, ?_⟩⟩⟩
  · rw [e0]; exact score_is (key_is arg4 harg4 hx2 ![0, 0, 0] inb_S1x8192x256_S1x512x256_0_0_0 0 rfl) q0
  · rw [e1]; exact score_is (key_is arg4 harg4 hx2 ![0, 0, 0] inb_S1x8192x256_S1x512x256_0_0_0 0 rfl) q1
  all_goals first
    | exact (fill arg12 _ _ _).trans (z58 _)
    | exact (fill arg13 _ _ _).trans (z59 _)
    | exact (fill' _ _ _).trans (z60 _)

/-- The loop's invariant: before trip `k` the first `1024 k` keys are absorbed. -/
theorem loop_good {kk : ℕ → Fin 256 → ℝ} {qq : Fin 256 → ℕ → ℝ} {v : ℕ → ℕ → ℝ} (v103 : FVec Ideal S512x512 .f32)
    (X9 : BufTy.Contents (Elt Ideal) arg9.view.ty) (L10 : List (View.Piece (Elt Ideal) S512x1024 .f32))
    (L12 L13 : List (View.Piece (Elt Ideal) S1x1024 .f32)) (L14 : List (View.Piece (Elt Ideal) S256x256 .f32))
    (hx2 : ∀ (n : Fin 8192) (d : Fin 256), x2 (ix3 0 n d) = ((kk n.val d : ℝ) : EReal))
    (hx3 : ∀ (t : Fin 16) (r : Fin 256) (j : Fin 512), x3 (ix4 0 t r j) = ((v r.val (512 * t.val + j.val) : ℝ) : EReal))
    (hq0 : QryIs qq 0 (View.readAt (Elt Ideal) arg9.view rQ0.toLoadRect X9))
    (hq1 : QryIs qq 1 (View.readAt (Elt Ideal) arg9.view rQ1.toLoadRect X9))
    (h : Good (sig kk qq) v 0 arg10 arg12 arg13 arg14 L10 L12 L13 L14) (k : ℕ) (hk : k ≤ k0_t1_loop.trips) {P}
    (hP : P = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v103 (harg4.unread x2) (harg5.unread x3) X9 (arg10.view.writes (Elt Ideal) arg10.view.junk L10) fs2 (arg12.view.writes (Elt Ideal) arg12.view.junk L12) (arg13.view.writes (Elt Ideal) arg13.view.junk L13) (arg14.view.writes (Elt Ideal) arg14.view.junk L14) k) :
    Good (sig kk qq) v (1024 * k) arg10 arg12 arg13 arg14 (P.1 ++ L10) (P.2.2.1 ++ L12) (P.2.2.2.1 ++ L13) (P.2.2.2.2 ++ L14) := by
  induction k generalizing P with
  | zero => subst hP; exact h
  | succ k ih =>
    have hk' : k < k0_t1_loop.trips := hk
    have ih' := ih hk'.le rfl
    have e := hP.trans (pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 v103 (harg4.unread x2) (harg5.unread x3) X9 (arg10.view.writes (Elt Ideal) arg10.view.junk L10) fs2 (arg12.view.writes (Elt Ideal) arg12.view.junk L12) (arg13.view.writes (Elt Ideal) arg13.view.junk L13) (arg14.view.writes (Elt Ideal) arg14.view.junk L14) ⟨k, hk'⟩)
    rw [e]
    simp only [List.append_assoc]
    exact trip_good Variants.none c none i arg2 harg2 arg3 harg3 arg4 harg4 arg5 harg5 arg6 harg6 arg7 harg7 arg8 harg8 arg9 harg9 arg10 harg10 arg11 harg11 arg12 harg12 arg13 harg13 arg14 harg14 v103 x2 x3 X9 _ _ _ _ ⟨k, hk'⟩ hx2 hx3 hq0 hq1 ih'
      (View.writes_append _ _ _ _).symm (View.writes_append _ _ _ _).symm (View.writes_append _ _ _ _).symm (View.writes_append _ _ _ _).symm rfl
end

end Cert.DiffIdeal.Att

end
-- ==== Proof.DiffOut.lean ====
/- The attention kernel's result block: the four heads' differences, laid side by side. -/
module

public import proofs.«01_k».proof.Proof.DiffTail
public import proofs.«01_k».proof.Proof.DiffLoop
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.DiffIdeal.Att

open Cert.DiffIdeal Cert.DiffIdeal.Gen Cert.DiffMath

/-- The weight of the second softmax, from its four parameter rows. -/
def lamOf (X : FVec Ideal S4x32 .f32) : EReal :=
  Ideal.exp (∑ d : Fin 32, (X (ix2 0 d) * X (ix2 1 d) : EReal)) - Ideal.exp (∑ d : Fin 32, (X (ix2 2 d) * X (ix2 3 d) : EReal))
    + Ideal.ofBits .f32 0x3E4CCCCD#32

theorem lam_at (X : FVec Ideal S4x32 .f32) : k0_pay127 (F := Ideal) X (ix2 0 0) = lamOf X := by
  pointwise [k0_pay127]
  rfl

section
variable (X : FVec Ideal S4x32 .f32) (L : FVec Ideal S1x1024 .f32) (a0 b0 a1 b1 a2 b2 a3 b3 : FVec Ideal S64x128 .f32)

theorem inv_at (y : Fin 1024) : k0_pay128 (F := Ideal) L (ix2 0 y) = Ideal.div 1 (L (ix2 0 y)) := by
  pointwise [k0_pay128]

/-- One head's difference of two weighted means. -/
def headV (a b : FVec Ideal S64x128 .f32) (h : ℕ) (hh : h < 4) (r : Fin 64) (i : Fin 128) : EReal :=
  a (ix2 r i) * Ideal.div 1 (L (ix2 0 ⟨256 * h + i.val, by omega⟩))
    - lamOf X * (b (ix2 r i) * Ideal.div 1 (L (ix2 0 ⟨256 * h + 128 + i.val, by omega⟩)))

theorem head0_at (r : Fin 64) (i : Fin 128) : k0_pay129 (F := Ideal) X L a0 b0 (ix2 r i) = headV X L a0 b0 0 (by norm_num) r i := by
  pointwise [k0_pay129]
  rw [inv_at, inv_at, lam_at]
  unfold headV
  congr 4 <;> first | rfl | (congr 3; omega)

theorem head1_at (r : Fin 64) (i : Fin 128) : k0_pay130 (F := Ideal) X L a1 b1 (ix2 r i) = headV X L a1 b1 1 (by norm_num) r i := by
  pointwise [k0_pay130]
  rw [inv_at, inv_at, lam_at]
  unfold headV
  rfl

theorem pay_at (i : Fin 128) (w : Fin 256) :
    k0_pay1 (F := Ideal) (k0_pay127 X) (k0_pay128 L) (k0_pay129 X L a0 b0) (k0_pay130 X L a1 b1) a2 b2 a3 b3 (ix3 0 i w)
      = if h0 : w.val < 64 then headV X L a0 b0 0 (by norm_num) ⟨w.val, h0⟩ i
        else if h1 : w.val - 64 < 64 then headV X L a1 b1 1 (by norm_num) ⟨w.val - 64, h1⟩ i
        else if h2 : w.val - 64 - 64 < 64 then headV X L a2 b2 2 (by norm_num) ⟨w.val - 64 - 64, h2⟩ i
        else headV X L a3 b3 3 (by norm_num) ⟨w.val - 64 - 64 - 64, by omega⟩ i := by
  pointwise [k0_pay1]
  by_cases h0 : w.val < 64
  · rw [dif_pos h0, dif_pos h0]; exact head0_at X L a0 b0 _ i
  rw [dif_neg h0, dif_neg h0]
  by_cases h1 : w.val - 64 < 64
  · rw [dif_pos h1, dif_pos h1]; exact head1_at X L a1 b1 _ i
  rw [dif_neg h1, dif_neg h1]
  by_cases h2 : w.val - 64 - 64 < 64
  · rw [dif_pos h2, dif_pos h2, inv_at, inv_at, lam_at]; rfl
  · rw [dif_neg h2, dif_neg h2, inv_at, inv_at, lam_at]; rfl
end

/-- A mean of `v` weighted by powers of two. -/
def mean (σ v : ℕ → ℝ) (N : ℕ) : ℝ :=
  (∑ n ∈ Finset.range N, Real.rpow 2 (σ n) * v n) / (∑ n ∈ Finset.range N, Real.rpow 2 (σ n))

/-- The result block's entry in row `i`, column `w`. -/
def outV (X : FVec Ideal S4x32 .f32) (σ v : ℕ → ℕ → ℝ) (i : Fin 128) (w : Fin 256) : EReal :=
  ((mean (σ (256 * (w.val / 64) + i.val)) (v w.val) 8448 : ℝ) : EReal)
    - lamOf X * ((mean (σ (256 * (w.val / 64) + 128 + i.val)) (v w.val) 8448 : ℝ) : EReal)

/-- A head's difference from what its two streams have absorbed. -/
theorem headV_eq (X : FVec Ideal S4x32 .f32) (L : FVec Ideal S1x1024 .f32) (a b : FVec Ideal S64x128 .f32) (σ v : ℕ → ℕ → ℝ) (h : ℕ) (hh : h < 4)
    (r : Fin 64) (i : Fin 128) (w : Fin 256) (hw : w.val = 64 * h + r.val) {m0 m1 : EReal}
    (s0 : St (σ (256 * h + i.val)) (v w.val) 8448 m0 (L (ix2 0 ⟨256 * h + i.val, by omega⟩)) (a (ix2 r i)))
    (s1 : St (σ (256 * h + 128 + i.val)) (v w.val) 8448 m1 (L (ix2 0 ⟨256 * h + 128 + i.val, by omega⟩)) (b (ix2 r i))) :
    headV X L a b h hh r i = outV X σ v i w := by
  have e : w.val / 64 = h := by omega
  unfold headV outV
  rw [s0.ratio (by norm_num), s1.ratio (by norm_num), e]
  rfl

/-- The result block from the two halves after all 8448 keys. -/
theorem combine (X : FVec Ideal S4x32 .f32) (L : FVec Ideal S1x1024 .f32) (a0 b0 a1 b1 a2 b2 a3 b3 : FVec Ideal S64x128 .f32) (σ v : ℕ → ℕ → ℝ)
    (L0 L1 M0 M1 : FVec Ideal S1x512 .f32) (A0 A1 A2 A3 : FVec Ideal S64x256 .f32)
    (g0 : Half σ v 8448 0 M0 L0 A0 A1) (g1 : Half σ v 8448 1 M1 L1 A2 A3)
    (eL0 : ∀ (y : Fin 1024) (hy : y.val < 512), L (ix2 0 y) = L0 (ix2 0 ⟨y.val, hy⟩))
    (eL1 : ∀ (y : Fin 512) (hy : 512 + y.val < 1024), L (ix2 0 ⟨512 + y.val, hy⟩) = L1 (ix2 0 y))
    (ea00 : ∀ (r : Fin 64) (y : Fin 128), a0 (ix2 r y) = A0 (ix2 r ⟨0 + y.val, by omega⟩))
    (ea01 : ∀ (r : Fin 64) (y : Fin 128), b0 (ix2 r y) = A0 (ix2 r ⟨128 + y.val, by omega⟩))
    (ea10 : ∀ (r : Fin 64) (y : Fin 128), a1 (ix2 r y) = A1 (ix2 r ⟨0 + y.val, by omega⟩))
    (ea11 : ∀ (r : Fin 64) (y : Fin 128), b1 (ix2 r y) = A1 (ix2 r ⟨128 + y.val, by omega⟩))
    (ea20 : ∀ (r : Fin 64) (y : Fin 128), a2 (ix2 r y) = A2 (ix2 r ⟨0 + y.val, by omega⟩))
    (ea21 : ∀ (r : Fin 64) (y : Fin 128), b2 (ix2 r y) = A2 (ix2 r ⟨128 + y.val, by omega⟩))
    (ea30 : ∀ (r : Fin 64) (y : Fin 128), a3 (ix2 r y) = A3 (ix2 r ⟨0 + y.val, by omega⟩))
    (ea31 : ∀ (r : Fin 64) (y : Fin 128), b3 (ix2 r y) = A3 (ix2 r ⟨128 + y.val, by omega⟩))
    (y : Fin 128) (w : Fin 256) :
    k0_pay1 (F := Ideal) (k0_pay127 X) (k0_pay128 L) (k0_pay129 X L a0 b0) (k0_pay130 X L a1 b1) a2 b2 a3 b3 (ix3 0 y w) = outV X σ v y w := by
  obtain ⟨c0, c1⟩ := g0
  obtain ⟨c2, c3⟩ := g1
  refine (pay_at X L a0 b0 a1 b1 a2 b2 a3 b3 y w).trans ?_
  have hy := y.isLt
  have hw := w.isLt
  split_ifs with h0 h1 h2
  · refine headV_eq X _ _ _ _ _ 0 (by norm_num) _ y w (by show w.val = 64 * 0 + (w.val); omega) (m0 := M0 (ix2 0 ⟨0 + y.val, by omega⟩)) (m1 := M0 (ix2 0 ⟨0 + (128 + y.val), by omega⟩)) ?_ ?_
    · have s := c0 ⟨w.val, h0⟩ ⟨0 + y.val, by omega⟩
      rw [← ea00] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · exact (eL0 _ (by (try dsimp only) <;> omega)).trans (congrArg L0 (congrArg (ix2 0) (Fin.ext (by (try dsimp only) <;> omega))))
    · have s := c0 ⟨w.val, h0⟩ ⟨128 + y.val, by omega⟩
      rw [← ea01] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · exact (eL0 _ (by (try dsimp only) <;> omega)).trans (congrArg L0 (congrArg (ix2 0) (Fin.ext (by (try dsimp only) <;> omega))))
  · refine headV_eq X _ _ _ _ _ 1 (by norm_num) _ y w (by show w.val = 64 * 1 + (w.val - 64); omega) (m0 := M0 (ix2 0 ⟨256 + y.val, by omega⟩)) (m1 := M0 (ix2 0 ⟨256 + (128 + y.val), by omega⟩)) ?_ ?_
    · have s := c1 ⟨w.val - 64, h1⟩ ⟨0 + y.val, by omega⟩
      rw [← ea10] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · exact (eL0 _ (by (try dsimp only) <;> omega)).trans (congrArg L0 (congrArg (ix2 0) (Fin.ext (by (try dsimp only) <;> omega))))
    · have s := c1 ⟨w.val - 64, h1⟩ ⟨128 + y.val, by omega⟩
      rw [← ea11] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · exact (eL0 _ (by (try dsimp only) <;> omega)).trans (congrArg L0 (congrArg (ix2 0) (Fin.ext (by (try dsimp only) <;> omega))))
  · refine headV_eq X _ _ _ _ _ 2 (by norm_num) _ y w (by show w.val = 64 * 2 + (w.val - 64 - 64); omega) (m0 := M1 (ix2 0 ⟨0 + y.val, by omega⟩)) (m1 := M1 (ix2 0 ⟨0 + (128 + y.val), by omega⟩)) ?_ ?_
    · have s := c2 ⟨w.val - 64 - 64, h2⟩ ⟨0 + y.val, by omega⟩
      rw [← ea20] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · refine Eq.trans (congrArg _ (congrArg (ix2 0) (Fin.ext ?_))) (eL1 ⟨0 + y.val, by omega⟩  (by (try dsimp only) <;> omega))
        (try dsimp only) <;> omega
    · have s := c2 ⟨w.val - 64 - 64, h2⟩ ⟨128 + y.val, by omega⟩
      rw [← ea21] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · refine Eq.trans (congrArg _ (congrArg (ix2 0) (Fin.ext ?_))) (eL1 ⟨128 + y.val, by omega⟩  (by (try dsimp only) <;> omega))
        (try dsimp only) <;> omega
  · refine headV_eq X _ _ _ _ _ 3 (by norm_num) _ y w (by show w.val = 64 * 3 + (w.val - 64 - 64 - 64); omega) (m0 := M1 (ix2 0 ⟨256 + y.val, by omega⟩)) (m1 := M1 (ix2 0 ⟨256 + (128 + y.val), by omega⟩)) ?_ ?_
    · have s := c3 ⟨w.val - 64 - 64 - 64, (by omega)⟩ ⟨0 + y.val, by omega⟩
      rw [← ea30] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · refine Eq.trans (congrArg _ (congrArg (ix2 0) (Fin.ext ?_))) (eL1 ⟨256 + (0 + y.val), by omega⟩  (by (try dsimp only) <;> omega))
        (try dsimp only) <;> omega
    · have s := c3 ⟨w.val - 64 - 64 - 64, (by omega)⟩ ⟨128 + y.val, by omega⟩
      rw [← ea31] at s
      convert s using 1
      all_goals first
        | exact congrArg (σ) (by (try dsimp only) <;> omega)
        | exact congrArg v (by (try dsimp only) <;> omega)
        | (refine congrArg _ ?_; exact congrArg (ix2 0) (Fin.ext (by (try dsimp only) <;> omega)))
        | skip
      · refine Eq.trans (congrArg _ (congrArg (ix2 0) (Fin.ext ?_))) (eL1 ⟨256 + (128 + y.val), by omega⟩  (by (try dsimp only) <;> omega))
        (try dsimp only) <;> omega

section
variable (c : Dev nD) (i : grid0.Coords) (arg2 : Memref Cert.DiffIdeal.sig .tc .vmem S4x32 .f32) (harg2 : arg2.IsWhole) (arg3 : Memref Cert.DiffIdeal.sig .tc .vmem S1x256x128 .bf16) (harg3 : arg3.IsWhole) (arg4 : Memref Cert.DiffIdeal.sig .tc .vmem S1x8192x256 .bf16) (harg4 : arg4.IsWhole) (arg5 : Memref Cert.DiffIdeal.sig .tc .vmem S1x16x256x512 .bf16) (harg5 : arg5.IsWhole) (arg6 : Memref Cert.DiffIdeal.sig .tc .vmem S1x256x256 .bf16) (harg6 : arg6.IsWhole) (arg7 : Memref Cert.DiffIdeal.sig .tc .vmem S1x256x256 .bf16) (harg7 : arg7.IsWhole) (arg8 : Memref Cert.DiffIdeal.sig .tc .vmem S1x128x256 .f32) (harg8 : arg8.IsWhole) (arg9 : Memref Cert.DiffIdeal.sig .tc .vmem S256x1024 .bf16) (harg9 : arg9.IsWhole) (arg10 : Memref Cert.DiffIdeal.sig .tc .vmem S512x1024 .f32) (harg10 : arg10.IsWhole) (arg11 : Memref Cert.DiffIdeal.sig .tc .vmem S512x1024 .f32) (harg11 : arg11.IsWhole) (arg12 : Memref Cert.DiffIdeal.sig .tc .vmem S1x1024 .f32) (harg12 : arg12.IsWhole) (arg13 : Memref Cert.DiffIdeal.sig .tc .vmem S1x1024 .f32) (harg13 : arg13.IsWhole) (arg14 : Memref Cert.DiffIdeal.sig .tc .vmem S256x256 .f32) (harg14 : arg14.IsWhole)
  (x0 : Vec Ideal S4x32 .f32) (x1 : Vec Ideal S1x256x128 .bf16) (x2 : Vec Ideal S1x8192x256 .bf16) (x3 : Vec Ideal S1x16x256x512 .bf16)
  (x4 x5 : Vec Ideal S1x256x256 .bf16) (fs2 : BufTy.Contents (Elt Ideal) arg11.view.ty)

/-- The parameter rows as loaded. -/
theorem lam_load : (View.readAt (Elt Ideal) arg2.view (Rect.unit (s := S4x32) ![0, 0] S4x32.size inb_S4x32_S4x32_0_0).toLoadRect (harg2.unread x0)) = x0 := by
  funext y
  refine (View.readAt_apply _ _ _).trans ((congrFun (harg2.read_unread x0) _).trans (congrArg x0 ?_))
  funext a; fin_cases a <;> apply Fin.ext <;> simp [LoadRect.idx, Rect.toLoadRect, Rect.unit]

set_option maxHeartbeats 0 in
/-- The one stored piece and its value. -/
theorem out_piece {kk : ℕ → Fin 256 → ℝ} {q : Fin 256 → Fin 128 → ℝ} {v : ℕ → ℕ → ℝ}
    (hx1 : ∀ (d : Fin 256) (y : Fin 128), x1 (ix3 0 d y) = ((q d y : ℝ) : EReal))
    (hx2 : ∀ (n : Fin 8192) (d : Fin 256), x2 (ix3 0 n d) = ((kk n.val d : ℝ) : EReal))
    (hx3 : ∀ (t : Fin 16) (r : Fin 256) (j : Fin 512), x3 (ix4 0 t r j) = ((v r.val (512 * t.val + j.val) : ℝ) : EReal))
    (hx4 : ∀ (n : Fin 256) (d : Fin 256), x4 (ix3 0 n d) = ((kk (8192 + n.val) d : ℝ) : EReal))
    (hx5 : ∀ (r : Fin 256) (n : Fin 256), x5 (ix3 0 r n) = ((v r.val (8192 + n.val) : ℝ) : EReal)) :
    ∃ Z : FVec Ideal S1x128x256 .f32, (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5).1 fs2
        = [⟨Rect.unit (s := S1x128x256) ![0, 0, 0] ![1, 128, 256] inb_S1x128x256_S1x128x256_0_0_0, Z⟩]
      ∧ ∀ (y : Fin 128) (w : Fin 256), Z (ix3 0 y w) = outV x0 (sig kk (mq q)) v y w := by
  have q0 := qry0_is c arg3 harg3 arg9 x1 hx1
  have q1 := qry1_is c arg3 harg3 arg9 x1 hx1
  have g0 := good_zero (v := v) c arg3 harg3 arg4 harg4 arg9 arg10 arg12 arg13 arg14 x1 x2 hx1 hx2
  have g := loop_good c i arg2 harg2 arg3 harg3 arg4 harg4 arg5 harg5 arg6 harg6 arg7 harg7 arg8 harg8 arg9 harg9 arg10 harg10 arg11 harg11 arg12 harg12 arg13 harg13 arg14 harg14 x2 x3 fs2 (bodyRun.sl.r_3 (F := Ideal) c arg3 harg3 arg4 harg4 arg9 x1 x2) (arg9.view.writes (Elt Ideal) arg9.view.junk (bodyRun.sl.HS0_8 (F := Ideal) c arg3 harg3 x1)) _ _ _ _ hx2 hx3 q0 q1 g0 _ le_rfl rfl
  obtain ⟨M0, M1, g1, g2⟩ := tail_good c i arg2 harg2 arg3 harg3 arg4 harg4 arg5 harg5 arg6 harg6 arg7 harg7 arg8 harg8 arg9 harg9 arg10 harg10 arg11 harg11 arg12 harg12 arg13 harg13 arg14 harg14 x1 x2 x3 x4 x5 fs2 hx2 hx3 hx4 hx5 q0 q1 g
  have hX := lam_load arg2 harg2 x0
  have eL0 (y : Fin 1024) (hy : y.val < 512) : (arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (Rect.unit (s := S1x1024) ![0, 0] S1x1024.size inb_S1x1024_S1x1024_0_0).toLoadRect) (ix2 0 y) = (arg13.view.readCov (Val := Elt Ideal) (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) rM0.toLoadRect) (ix2 0 ⟨y.val, hy⟩) := by
    refine readCov_at _ _ _ _ _ _ ?_
    funext a; fin_cases a <;> apply Fin.ext <;> simp [LoadRect.idx, Rect.toLoadRect, Rect.unit, ix2]
  have eL1 (y : Fin 512) (hy : 512 + y.val < 1024) : (arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (Rect.unit (s := S1x1024) ![0, 0] S1x1024.size inb_S1x1024_S1x1024_0_0).toLoadRect) (ix2 0 ⟨512 + y.val, hy⟩) = (arg13.view.readCov (Val := Elt Ideal) (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) rM1.toLoadRect) (ix2 0 y) := by
    refine readCov_at _ _ _ _ _ _ ?_
    funext a; fin_cases a <;> apply Fin.ext <;> simp [LoadRect.idx, Rect.toLoadRect, Rect.unit, ix2]
  have ea00 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![0, 0] S64x128.size inb_S256x256_S64x128_0_0).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA0.toLoadRect) (ix2 r ⟨0 + y.val, by omega⟩) := by
    refine readCov_at _ _ _ _ _ _ ?_
    funext a; fin_cases a <;> apply Fin.ext <;> simp [LoadRect.idx, Rect.toLoadRect, Rect.unit, ix2]
  have ea01 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![0, 128] S64x128.size inb_S256x256_S64x128_0_128).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA0.toLoadRect) (ix2 r ⟨128 + y.val, by omega⟩) := by
    refine readCov_at _ _ _ _ _ _ ?_
    funext a; fin_cases a <;> apply Fin.ext <;> simp [LoadRect.idx, Rect.toLoadRect, Rect.unit, ix2]
  have ea10 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![64, 0] S64x128.size inb_S256x256_S64x128_64_0).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA1.toLoadRect) (ix2 r ⟨0 + y.val, by omega⟩) := by
    refine readCov_at _ _ _ _ _ _ ?_
    funext a; fin_cases a <;> apply Fin.ext <;> simp [LoadRect.idx, Rect.toLoadRect, Rect.unit, ix2]
  have ea11 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![64, 128] S64x128.size inb_S256x256_S64x128_64_128).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA1.toLoadRect) (ix2 r ⟨128 + y.val, by omega⟩) := by
    refine readCov_at _ _ _ _ _ _ ?_
    funext a; fin_cases a <;> apply Fin.ext <;> simp [LoadRect.idx, Rect.toLoadRect, Rect.unit, ix2]
  have ea20 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![128, 0] S64x128.size inb_S256x256_S64x128_128_0).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA2.toLoadRect) (ix2 r ⟨0 + y.val, by omega⟩) := by
    refine readCov_at _ _ _ _ _ _ ?_
    funext a; fin_cases a <;> apply Fin.ext <;> simp [LoadRect.idx, Rect.toLoadRect, Rect.unit, ix2]
  have ea21 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![128, 128] S64x128.size inb_S256x256_S64x128_128_128).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA2.toLoadRect) (ix2 r ⟨128 + y.val, by omega⟩) := by
    refine readCov_at _ _ _ _ _ _ ?_
    funext a; fin_cases a <;> apply Fin.ext <;> simp [LoadRect.idx, Rect.toLoadRect, Rect.unit, ix2]
  have ea30 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![192, 0] S64x128.size inb_S256x256_S64x128_192_0).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA3.toLoadRect) (ix2 r ⟨0 + y.val, by omega⟩) := by
    refine readCov_at _ _ _ _ _ _ ?_
    funext a; fin_cases a <;> apply Fin.ext <;> simp [LoadRect.idx, Rect.toLoadRect, Rect.unit, ix2]
  have ea31 (r : Fin 64) (y : Fin 128) : (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![192, 128] S64x128.size inb_S256x256_S64x128_192_128).toLoadRect) (ix2 r y) = (arg14.view.readCov (Val := Elt Ideal) (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) rA3.toLoadRect) (ix2 r ⟨128 + y.val, by omega⟩) := by
    refine readCov_at _ _ _ _ _ _ ?_
    funext a; fin_cases a <;> apply Fin.ext <;> simp [LoadRect.idx, Rect.toLoadRect, Rect.unit, ix2]
  have key (y : Fin 128) (w : Fin 256) := combine (View.readAt (Elt Ideal) arg2.view (Rect.unit (s := S4x32) ![0, 0] S4x32.size inb_S4x32_S4x32_0_0).toLoadRect (harg2.unread x0)) (arg13.view.readCov (bodyRun.sl.HS4_6 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 fs2) (Rect.unit (s := S1x1024) ![0, 0] S1x1024.size inb_S1x1024_S1x1024_0_0).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![0, 0] S64x128.size inb_S256x256_S64x128_0_0).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![0, 128] S64x128.size inb_S256x256_S64x128_0_128).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![64, 0] S64x128.size inb_S256x256_S64x128_64_0).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![64, 128] S64x128.size inb_S256x256_S64x128_64_128).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![128, 0] S64x128.size inb_S256x256_S64x128_128_0).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![128, 128] S64x128.size inb_S256x256_S64x128_128_128).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![192, 0] S64x128.size inb_S256x256_S64x128_192_0).toLoadRect) (arg14.view.readCov (bodyRun.sl.HS5_12 (F := Ideal) c i arg2 harg2 arg3 harg3 arg4 harg4 arg5 harg5 arg6 harg6 arg7 harg7 arg8 harg8 arg9 harg9 arg10 harg10 arg11 harg11 arg12 harg12 arg13 harg13 arg14 harg14 x1 x2 x3 x4 x5 fs2) (Rect.unit (s := S256x256) ![192, 128] S64x128.size inb_S256x256_S64x128_192_128).toLoadRect) _ _ _ _ _ _ _ _ _ _ g1 g2 eL0 eL1 ea00 ea01 ea10 ea11 ea20 ea21 ea30 ea31 y w
  exact ⟨_, rfl, fun y w => (key y w).trans (congrArg (fun X => outV X (sig kk (mq q)) v y w) hX)⟩
end

end Cert.DiffIdeal.Att

end
-- ==== Proof.DiffBlocks.lean ====
/- The blocks the attention kernel sees at each grid point, as entries of the arguments. -/
module

public import proofs.«01_k».proof.Proof.DiffOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DiffIdeal.Att

open Cert.DiffIdeal Cert.DiffIdeal.Gen Cert.DiffMath

variable (m : (ℓ : Loc nD τ Cert.DiffIdeal.sig) → Buf (Elt Ideal) ℓ)

/-- Every window's block index at every grid point. -/
theorem idx_val : ∀ t : Fin cfg0.N, win0_0.index t = ![0, 0]
    ∧ win0_1.index t = ![t.val / 64, 0, t.val % 64]
    ∧ win0_2.index t = ![t.val / 64, 0, 0]
    ∧ win0_3.index t = ![t.val / 64, 0, 0, 0]
    ∧ win0_4.index t = ![t.val / 64, 0, 0]
    ∧ win0_5.index t = ![t.val / 64, 0, 0]
    ∧ win0_6.index t = ![t.val / 64, t.val % 64, 0]
    ∧ t.val / 64 < 2 :=
  (by decide +kernel : ∀ t : Fin grid0.N, _)

/-- The batch of a grid point. -/
def bOf (t : Fin cfg0.N) : Fin 2 := ⟨t.val / 64, (idx_val t).2.2.2.2.2.2.2⟩
/-- The tile of queries of a grid point. -/
def tOf (t : Fin cfg0.N) : Fin 64 := ⟨t.val % 64, Nat.mod_lt _ (by norm_num)⟩

/-- The scale of the scores, for powers of two. -/
def scaleR : ℝ := 1 / (Real.sqrt 32 * Real.log 2)

theorem lam_blk (c : Dev nD) (t : Fin cfg0.N) : iblk m c 0 t = (m ((c : Thread nD τ).loc main_arg0) : FVec Ideal S4x32 .f32) := by
  funext y
  blk_ext [iblk, V, idx_val t]

theorem scale_eq : Ideal.div 1 (Ideal.sqrt (Ideal.ofBits .f32 0x42000000#32) * Ideal.log (Ideal.ofBits .f32 0x40000000#32)) = ((scaleR : ℝ) : EReal) := by
  have e32 : Ideal.ofBits .f32 0x42000000#32 = ((32 : ℝ) : EReal) := by
    simp [Ideal.ofBits, Ideal.ieee]; rw [← EReal.coe_mul]; norm_num
  have e2 : Ideal.ofBits .f32 0x40000000#32 = ((2 : ℝ) : EReal) := by
    simp [Ideal.ofBits, Ideal.ieee]; rw [← EReal.coe_mul]; norm_num
  have p0 : 0 < Real.sqrt 32 := Real.sqrt_pos.mpr (by norm_num)
  have p1 : 0 < Real.log 2 := Real.log_pos (by norm_num)
  have s : Ideal.sqrt ((32 : ℝ) : EReal) = ((Real.sqrt 32 : ℝ) : EReal) := by
    show (if (32 : ℝ) < 0 then _ else _) = _
    rw [if_neg (by norm_num)]
  have l : Ideal.log ((2 : ℝ) : EReal) = ((Real.log 2 : ℝ) : EReal) := by
    show (if (2 : ℝ) ≤ 0 then _ else _) = _
    rw [if_neg (by norm_num)]
  rw [e32, e2, s, l, ← EReal.coe_mul]
  unfold Ideal.div scaleR
  rw [if_neg (fun h => (mul_pos p0 p1).ne' (EReal.coe_eq_zero.mp h))]
  rw [one_mul, one_div, EReal.coe_inv]

theorem V_q (c : Dev nD) (b : Fin 2) (s : Fin 8192) (d : Fin 256) : (V m c main_v7 : FVec Ideal S2x256x8192 .bf16) (ix3 b d s)
    = ((show EReal from m ((c : Thread nD τ).loc main_arg1) (ix3 b s d)) * ((scaleR : ℝ) : EReal) : EReal) := by
  entry_read
  pointwise []
  rw [scale_eq]

theorem V_v (c : Dev nD) (b : Fin 2) (j : Fin 16) (r : Fin 256) (n : Fin 512) : (V m c main_v10 : FVec Ideal S2x16x256x512 .bf16) (ix4 b j r n)
    = (m ((c : Thread nD τ).loc main_arg3) : FVec Ideal S2x8192x256 .f32) (ix3 b ⟨512 * j.val + n.val, by omega⟩ r) := by
  entry_read
  pointwise []
  exact congrArg (m ((c : Thread nD τ).loc main_arg3)) (congrArg (fun k => ix3 b k r) (Fin.ext (by show j.val * 512 + n.val = 512 * j.val + n.val; omega)))

theorem V_vc (c : Dev nD) (b : Fin 2) (r n : Fin 256) : (V m c main_v12 : FVec Ideal S2x256x256 .bf16) (ix3 b r n)
    = (m ((c : Thread nD τ).loc main_arg5) : FVec Ideal S2x256x256 .f32) (ix3 b n r) := by
  entry_read
  pointwise []

theorem q_blk (c : Dev nD) (t : Fin cfg0.N) (d : Fin 256) (y : Fin 128) :
    (iblk m c 1 t : FVec Ideal S1x256x128 .bf16) (ix3 0 d y)
      = ((show EReal from m ((c : Thread nD τ).loc main_arg1) (ix3 (bOf t) ⟨128 * (tOf t).val + y.val, by have := (tOf t).isLt; omega⟩ d)) * ((scaleR : ℝ) : EReal) : EReal) := by
  refine Eq.trans (b := (V m c main_v7 : FVec Ideal S2x256x8192 .bf16) (ix3 (bOf t) d ⟨128 * (tOf t).val + y.val, by have := (tOf t).isLt; omega⟩)) ?_ (V_q m c _ _ _)
  blk_ext [iblk, idx_val t, bOf, tOf]

theorem k_blk (c : Dev nD) (t : Fin cfg0.N) (n : Fin 8192) (d : Fin 256) :
    (iblk m c 2 t : FVec Ideal S1x8192x256 .bf16) (ix3 0 n d) = (m ((c : Thread nD τ).loc main_arg2) : FVec Ideal S2x8192x256 .f32) (ix3 (bOf t) n d) := by
  blk_ext [iblk, V, idx_val t, bOf, tOf]

theorem v_blk (c : Dev nD) (t : Fin cfg0.N) (j : Fin 16) (r : Fin 256) (n : Fin 512) :
    (iblk m c 3 t : FVec Ideal S1x16x256x512 .bf16) (ix4 0 j r n) = (m ((c : Thread nD τ).loc main_arg3) : FVec Ideal S2x8192x256 .f32) (ix3 (bOf t) ⟨512 * j.val + n.val, by omega⟩ r) := by
  refine Eq.trans (b := (V m c main_v10 : FVec Ideal S2x16x256x512 .bf16) (ix4 (bOf t) j r n)) ?_ (V_v m c _ _ _ _)
  blk_ext [iblk, idx_val t, bOf, tOf]

theorem kc_blk (c : Dev nD) (t : Fin cfg0.N) (n d : Fin 256) :
    (iblk m c 4 t : FVec Ideal S1x256x256 .bf16) (ix3 0 n d) = (m ((c : Thread nD τ).loc main_arg4) : FVec Ideal S2x256x256 .f32) (ix3 (bOf t) n d) := by
  blk_ext [iblk, V, idx_val t, bOf, tOf]

theorem vc_blk (c : Dev nD) (t : Fin cfg0.N) (r n : Fin 256) :
    (iblk m c 5 t : FVec Ideal S1x256x256 .bf16) (ix3 0 r n) = (m ((c : Thread nD τ).loc main_arg5) : FVec Ideal S2x256x256 .f32) (ix3 (bOf t) n r) := by
  refine Eq.trans (b := (V m c main_v12 : FVec Ideal S2x256x256 .bf16) (ix3 (bOf t) r n)) ?_ (V_vc m c _ _ _)
  blk_ext [iblk, idx_val t, bOf, tOf]

/-- Every entry of the six arguments is a real number. -/
structure Real6 (c : Dev nD) : Prop where
  a0 : ∀ y, ∃ r : ℝ, (m ((c : Thread nD τ).loc main_arg0) : FVec Ideal S4x32 .f32) y = (r : EReal)
  a1 : ∀ y, ∃ r : ℝ, (m ((c : Thread nD τ).loc main_arg1) : FVec Ideal S2x8192x256 .f32) y = (r : EReal)
  a2 : ∀ y, ∃ r : ℝ, (m ((c : Thread nD τ).loc main_arg2) : FVec Ideal S2x8192x256 .f32) y = (r : EReal)
  a3 : ∀ y, ∃ r : ℝ, (m ((c : Thread nD τ).loc main_arg3) : FVec Ideal S2x8192x256 .f32) y = (r : EReal)
  a4 : ∀ y, ∃ r : ℝ, (m ((c : Thread nD τ).loc main_arg4) : FVec Ideal S2x256x256 .f32) y = (r : EReal)
  a5 : ∀ y, ∃ r : ℝ, (m ((c : Thread nD τ).loc main_arg5) : FVec Ideal S2x256x256 .f32) y = (r : EReal)

/-- The 8192 latent rows followed by the 256 context rows, as real numbers. -/
def rowsOf (A : FVec Ideal S2x8192x256 .f32) (B : FVec Ideal S2x256x256 .f32) (b : Fin 2) (n : ℕ) (d : Fin 256) : ℝ :=
  if h : n < 8192 then EReal.toReal (A (ix3 b ⟨n, h⟩ d)) else if h : n - 8192 < 256 then EReal.toReal (B (ix3 b ⟨n - 8192, h⟩ d)) else 0

theorem rowsOf_lo (A : FVec Ideal S2x8192x256 .f32) (B : FVec Ideal S2x256x256 .f32) (b : Fin 2) (n : Fin 8192) (d : Fin 256) :
    rowsOf A B b n.val d = EReal.toReal (A (ix3 b n d)) := by
  unfold rowsOf
  rw [dif_pos n.isLt]

theorem rowsOf_hi (A : FVec Ideal S2x8192x256 .f32) (B : FVec Ideal S2x256x256 .f32) (b : Fin 2) (n : Fin 256) (d : Fin 256) :
    rowsOf A B b (8192 + n.val) d = EReal.toReal (B (ix3 b n d)) := by
  unfold rowsOf
  have e : (⟨8192 + n.val - 8192, by omega⟩ : Fin 256) = n := Fin.ext (by dsimp only; omega)
  rw [dif_neg (by omega), dif_pos (by omega), e]

/-- Key `n` of a batch. -/
def keyF (c : Dev nD) (b : Fin 2) (n : ℕ) (d : Fin 256) : ℝ :=
  rowsOf (m ((c : Thread nD τ).loc main_arg2)) (m ((c : Thread nD τ).loc main_arg4)) b n d
/-- Channel `r` of value `n` of a batch. -/
def valF (c : Dev nD) (b : Fin 2) (r n : ℕ) : ℝ :=
  if h : r < 256 then rowsOf (m ((c : Thread nD τ).loc main_arg3)) (m ((c : Thread nD τ).loc main_arg5)) b n ⟨r, h⟩ else 0
/-- The scaled queries of a tile. -/
def qryF (c : Dev nD) (b : Fin 2) (T : Fin 64) (d : Fin 256) (y : Fin 128) : ℝ :=
  EReal.toReal (m ((c : Thread nD τ).loc main_arg1) (ix3 b ⟨128 * T.val + y.val, by omega⟩ d)) * scaleR

theorem real_eq {x : EReal} (h : ∃ r : ℝ, x = (r : EReal)) : x = ((EReal.toReal x : ℝ) : EReal) := by
  obtain ⟨r, rfl⟩ := h; rfl

/-- The block the kernel stores at a point. -/
def outBlk (c : Dev nD) (t : Fin cfg0.N) : FVec Ideal S1x128x256 .f32 := fun y =>
  outV (m ((c : Thread nD τ).loc main_arg0)) (sig (keyF m c (bOf t)) (mq (qryF m c (bOf t) (tOf t)))) (valF m c (bOf t)) (y 1) (y 2)

variable {m}

theorem hq {c : Dev nD} (R : Real6 m c) (t : Fin cfg0.N) (d : Fin 256) (y : Fin 128) :
    (iblk m c 1 t : FVec Ideal S1x256x128 .bf16) (ix3 0 d y) = ((qryF m c (bOf t) (tOf t) d y : ℝ) : EReal) := by
  refine (q_blk m c t d y).trans ?_
  unfold qryF
  rw [EReal.coe_mul]
  exact congrArg (fun x : EReal => x * ((scaleR : ℝ) : EReal)) (real_eq (R.a1 _))

theorem hk {c : Dev nD} (R : Real6 m c) (t : Fin cfg0.N) (n : Fin 8192) (d : Fin 256) :
    (iblk m c 2 t : FVec Ideal S1x8192x256 .bf16) (ix3 0 n d) = ((keyF m c (bOf t) n.val d : ℝ) : EReal) := by
  refine (k_blk m c t n d).trans ((real_eq (R.a2 _)).trans ?_)
  unfold keyF rowsOf
  rw [dif_pos n.isLt]

theorem hkc {c : Dev nD} (R : Real6 m c) (t : Fin cfg0.N) (n d : Fin 256) :
    (iblk m c 4 t : FVec Ideal S1x256x256 .bf16) (ix3 0 n d) = ((keyF m c (bOf t) (8192 + n.val) d : ℝ) : EReal) := by
  refine (kc_blk m c t n d).trans ((real_eq (R.a4 _)).trans ?_)
  exact congrArg _ (rowsOf_hi _ _ _ _ _).symm

theorem hv {c : Dev nD} (R : Real6 m c) (t : Fin cfg0.N) (j : Fin 16) (r : Fin 256) (n : Fin 512) :
    (iblk m c 3 t : FVec Ideal S1x16x256x512 .bf16) (ix4 0 j r n) = ((valF m c (bOf t) r.val (512 * j.val + n.val) : ℝ) : EReal) := by
  refine (v_blk m c t j r n).trans ((real_eq (R.a3 _)).trans ?_)
  unfold valF rowsOf
  rw [dif_pos r.isLt, dif_pos (by omega)]

theorem hvc {c : Dev nD} (R : Real6 m c) (t : Fin cfg0.N) (r n : Fin 256) :
    (iblk m c 5 t : FVec Ideal S1x256x256 .bf16) (ix3 0 r n) = ((valF m c (bOf t) r.val (8192 + n.val) : ℝ) : EReal) := by
  refine (vc_blk m c t r n).trans ((real_eq (R.a5 _)).trans ?_)
  unfold valF
  rw [dif_pos r.isLt]
  exact congrArg _ (rowsOf_hi _ _ _ _ _).symm

end Cert.DiffIdeal.Att

end
-- ==== Proof.DiffRef.lean ====
/- The reference of the attention call, read at one index: its scores, its two softmaxes, its weight `lam`, and the
   product of the values with the difference of the softmaxes. -/
module

public import proofs.«01_k».proof.Proof.DiffOut
public import proofs.«01_k».proof.Proof.Gen.DiffReferenceIdeal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.DiffReferenceIdeal.Att

open Cert.DiffReferenceIdeal Cert.DiffReferenceIdeal.Gen

/-- The latent rows followed by the context rows. -/
def cat (A : FVec Ideal S2x8192x256 .f32) (B : FVec Ideal S2x256x256 .f32) : FVec Ideal S2x8448x256 .f32 :=
  concatenate S2x8448x256 1 [⟨S2x8192x256, A⟩, ⟨S2x256x256, B⟩] concatenates_S2x8192x256_S2x256x256_S2x8448x256_d1

theorem cat_at (A : FVec Ideal S2x8192x256 .f32) (B : FVec Ideal S2x256x256 .f32) (b : Fin 2) (n : Fin 8448) (d : Fin 256) :
    cat A B (ix3 b n d) = if h : n.val < 8192 then A (ix3 b ⟨n.val, h⟩ d) else B (ix3 b ⟨n.val - 8192, by omega⟩ d) := by
  pointwise [cat]

/-- The scores of a head's first stream. -/
def score0 (Q : FVec Ideal S2x8192x256 .f32) (K : FVec Ideal S2x8448x256 .f32) : FVec Ideal S2x4x8192x8448 .f32 :=
  Host.divf (Host.dotGeneral dot_S2x8192x4x32_S2x8448x4x32_S2x4x8192x8448_3_3_1_1_02_02 none (shapeCast _ (extractStridedSlice S2x8192x4x1x32 ![0, 0, 0, 0, 0] (shapeCast _ Q shapeCasts_S2x8192x256_S2x8192x4x2x32) slices_S2x8192x4x2x32_S2x8192x4x1x32_0_0_0_0_0) shapeCasts_S2x8192x4x1x32_S2x8192x4x32) (shapeCast _ (extractStridedSlice S2x8448x4x1x32 ![0, 0, 0, 0, 0] (shapeCast _ K shapeCasts_S2x8448x256_S2x8448x4x2x32) slices_S2x8448x4x2x32_S2x8448x4x1x32_0_0_0_0_0) shapeCasts_S2x8448x4x1x32_S2x8448x4x32)) (broadcastInDim S2x4x8192x8448 ![] bcast_S_S2x4x8192x8448 (Host.sqrt (constant S_ .f32 0x42000000#32)))

/-- The scores of a head's second stream. -/
def score1 (Q : FVec Ideal S2x8192x256 .f32) (K : FVec Ideal S2x8448x256 .f32) : FVec Ideal S2x4x8192x8448 .f32 :=
  Host.divf (Host.dotGeneral dot_S2x8192x4x32_S2x8448x4x32_S2x4x8192x8448_3_3_1_1_02_02 none (shapeCast _ (extractStridedSlice S2x8192x4x1x32 ![0, 0, 0, 1, 0] (shapeCast _ Q shapeCasts_S2x8192x256_S2x8192x4x2x32) slices_S2x8192x4x2x32_S2x8192x4x1x32_0_0_0_1_0) shapeCasts_S2x8192x4x1x32_S2x8192x4x32) (shapeCast _ (extractStridedSlice S2x8448x4x1x32 ![0, 0, 0, 1, 0] (shapeCast _ K shapeCasts_S2x8448x256_S2x8448x4x2x32) slices_S2x8448x4x2x32_S2x8448x4x1x32_0_0_0_1_0) shapeCasts_S2x8448x4x1x32_S2x8448x4x32)) (broadcastInDim S2x4x8192x8448 ![] bcast_S_S2x4x8192x8448 (Host.sqrt (constant S_ .f32 0x42000000#32)))

/-- The largest score of a row. -/
def mx (X : FVec Ideal S2x4x8192x8448 .f32) : FVec Ideal S2x4x8192 .f32 :=
  Host.reduce FloatOps.maximumf X (constant S_ .f32 0xFF800000#32) reducesTo_S2x4x8192x8448_S2x4x8192_d3 h_S_

/-- The sum of a row. -/
def sm (X : FVec Ideal S2x4x8192x8448 .f32) : FVec Ideal S2x4x8192 .f32 :=
  Host.reduceAdd X (constant S_ .f32 0x00000000#32) reducesTo_S2x4x8192x8448_S2x4x8192_d3 h_S_

/-- The exponentials of the scores less a number per row. -/
def ex (X : FVec Ideal S2x4x8192x8448 .f32) (M : FVec Ideal S2x4x8192 .f32) : FVec Ideal S2x4x8192x8448 .f32 :=
  Host.exp (subf X (broadcastInDim S2x4x8192x8448 ![0, 1, 2, 3] bcast_S2x4x8192x1_S2x4x8192x8448_0_1_2_3 (broadcastInDim S2x4x8192x1 ![0, 1, 2] bcast_S2x4x8192_S2x4x8192x1_0_1_2 (maximumf (broadcastInDim S2x4x8192 ![] bcast_S_S2x4x8192 (constant S_ .f32 0xFF800000#32)) M))))

/-- An array divided by a number per row. -/
def nrm (E : FVec Ideal S2x4x8192x8448 .f32) (L : FVec Ideal S2x4x8192 .f32) : FVec Ideal S2x4x8192x8448 .f32 :=
  Host.divf E (broadcastInDim S2x4x8192x8448 ![0, 1, 2, 3] bcast_S2x4x8192x1_S2x4x8192x8448_0_1_2_3 (broadcastInDim S2x4x8192x1 ![0, 1, 2] bcast_S2x4x8192_S2x4x8192x1_0_1_2 L))

/-- The softmax over the keys. -/
def soft (X : FVec Ideal S2x4x8192x8448 .f32) : FVec Ideal S2x4x8192x8448 .f32 := nrm (ex X (mx X)) (sm (ex X (mx X)))

/-- The weight of the second softmax. -/
def lamA (X : FVec Ideal S4x32 .f32) : FVec Ideal S_ .f32 :=
  addf (subf (Host.exp (Host.reduceAdd (mulf (shapeCast _ (extractStridedSlice S1x32 ![0, 0] X slices_S4x32_S1x32_0_0) shapeCasts_S1x32_S32) (shapeCast _ (extractStridedSlice S1x32 ![1, 0] X slices_S4x32_S1x32_1_0) shapeCasts_S1x32_S32)) (constant S_ .f32 0x00000000#32) reducesTo_S32_S_d0 h_S_)) (Host.exp (Host.reduceAdd (mulf (shapeCast _ (extractStridedSlice S1x32 ![2, 0] X slices_S4x32_S1x32_2_0) shapeCasts_S1x32_S32) (shapeCast _ (extractStridedSlice S1x32 ![3, 0] X slices_S4x32_S1x32_3_0) shapeCasts_S1x32_S32)) (constant S_ .f32 0x00000000#32) reducesTo_S32_S_d0 h_S_))) (constant S_ .f32 0x3E4CCCCD#32)

/-- The values times the difference of the softmaxes. -/
def comb (V : FVec Ideal S2x8448x256 .f32) (P1 P2 : FVec Ideal S2x4x8192x8448 .f32) (l : FVec Ideal S_ .f32) : FVec Ideal S2x8192x256 .f32 :=
  shapeCast _ (transpose S2x8192x4x64 [0, 3, 1, 2] (Host.dotGeneral dot_S2x8448x4x64_S2x4x8192x8448_S2x4x64x8192_1_3_3_2_02_01 none (shapeCast _ V shapeCasts_S2x8448x256_S2x8448x4x64) (subf P1 (mulf (broadcastInDim S2x4x8192x8448 ![] bcast_S_S2x4x8192x8448 l) P2))) transposes_S2x4x64x8192_S2x8192x4x64_0_3_1_2) shapeCasts_S2x8192x4x64_S2x8192x256

theorem score0_at (Q : FVec Ideal S2x8192x256 .f32) (K : FVec Ideal S2x8448x256 .f32) (b : Fin 2) (h : Fin 4) (s : Fin 8192) (n : Fin 8448) :
    score0 Q K (ix4 b h s n) = Ideal.div (∑ d : Fin 32, (Q (ix3 b s ⟨32 * (2 * h.val) + d.val, by omega⟩) * K (ix3 b n ⟨32 * (2 * h.val) + d.val, by omega⟩) : EReal))
      (Ideal.sqrt (Ideal.ofBits .f32 0x42000000#32)) := by
  pointwise [score0]
  refine congrArg (fun x => Ideal.div x _) (Finset.sum_congr rfl fun d _ => ?_)
  exact congrArg (fun k : Fin 256 => (Q (ix3 b s k) * K (ix3 b n k) : EReal)) (Fin.ext (by dsimp only; omega))

theorem score1_at (Q : FVec Ideal S2x8192x256 .f32) (K : FVec Ideal S2x8448x256 .f32) (b : Fin 2) (h : Fin 4) (s : Fin 8192) (n : Fin 8448) :
    score1 Q K (ix4 b h s n) = Ideal.div (∑ d : Fin 32, (Q (ix3 b s ⟨32 * (2 * h.val + 1) + d.val, by omega⟩) * K (ix3 b n ⟨32 * (2 * h.val + 1) + d.val, by omega⟩) : EReal))
      (Ideal.sqrt (Ideal.ofBits .f32 0x42000000#32)) := by
  pointwise [score1]
  refine congrArg (fun x => Ideal.div x _) (Finset.sum_congr rfl fun d _ => ?_)
  exact congrArg (fun k : Fin 256 => (Q (ix3 b s k) * K (ix3 b n k) : EReal)) (Fin.ext (by dsimp only; omega))

theorem mx_at (X : FVec Ideal S2x4x8192x8448 .f32) (b : Fin 2) (h : Fin 4) (s : Fin 8192) :
    mx X (ix3 b h s) = Finset.univ.fold max (Ideal.ofBits .f32 0xFF800000#32) (fun j : Fin 8448 => X (ix4 b h s j)) := by
  pointwise [mx]

theorem sm_at (X : FVec Ideal S2x4x8192x8448 .f32) (b : Fin 2) (h : Fin 4) (s : Fin 8192) :
    sm X (ix3 b h s) = ∑ k : Fin 8448, X (ix4 b h s k) := by
  pointwise [sm]

theorem ex_at (X : FVec Ideal S2x4x8192x8448 .f32) (M : FVec Ideal S2x4x8192 .f32) (b : Fin 2) (h : Fin 4) (s : Fin 8192) (n : Fin 8448) :
    ex X M (ix4 b h s n) = Ideal.exp (X (ix4 b h s n) - max (Ideal.ofBits .f32 0xFF800000#32) (M (ix3 b h s))) := by
  pointwise [ex]

theorem nrm_at (E : FVec Ideal S2x4x8192x8448 .f32) (L : FVec Ideal S2x4x8192 .f32) (b : Fin 2) (h : Fin 4) (s : Fin 8192) (n : Fin 8448) :
    nrm E L (ix4 b h s n) = Ideal.div (E (ix4 b h s n)) (L (ix3 b h s)) := by
  pointwise [nrm]

theorem soft_at (X : FVec Ideal S2x4x8192x8448 .f32) (b : Fin 2) (h : Fin 4) (s : Fin 8192) (n : Fin 8448) :
    soft X (ix4 b h s n) = Ideal.div (Ideal.exp (X (ix4 b h s n) - max (Ideal.ofBits .f32 0xFF800000#32) (mx X (ix3 b h s))))
      (∑ k : Fin 8448, Ideal.exp (X (ix4 b h s k) - max (Ideal.ofBits .f32 0xFF800000#32) (mx X (ix3 b h s)))) := by
  unfold soft
  rw [nrm_at, sm_at, ex_at]
  simp only [ex_at]

theorem lamA_at (X : FVec Ideal S4x32 .f32) (i : S_.Idx) : lamA X i = Cert.DiffIdeal.Att.lamOf X := by
  pointwise [lamA]
  rfl

theorem comb_at (V : FVec Ideal S2x8448x256 .f32) (P1 P2 : FVec Ideal S2x4x8192x8448 .f32) (l : FVec Ideal S_ .f32) (L : EReal) (hL : ∀ i, l i = L)
    (b : Fin 2) (s : Fin 8192) (w : Fin 256) :
    comb V P1 P2 l (ix3 b s w) = ∑ n : Fin 8448, (V (ix3 b n w) * (P1 (ix4 b ⟨w.val / 64, by omega⟩ s n) - L * P2 (ix4 b ⟨w.val / 64, by omega⟩ s n)) : EReal) := by
  pointwise [comb]
  rw [hL]

variable (m : (ℓ : Loc nD τ sig) → Buf (Elt Ideal) ℓ)

theorem res_is (c : Dev nD) : Cert.DiffReferenceIdeal.Value.res_main_v64 m c
    = comb (cat (m ((c.tc : Thread nD τ).loc main_arg3)) (m ((c.tc : Thread nD τ).loc main_arg5)))
        (soft (score0 (m ((c.tc : Thread nD τ).loc main_arg1)) (cat (m ((c.tc : Thread nD τ).loc main_arg2)) (m ((c.tc : Thread nD τ).loc main_arg4)))))
        (soft (score1 (m ((c.tc : Thread nD τ).loc main_arg1)) (cat (m ((c.tc : Thread nD τ).loc main_arg2)) (m ((c.tc : Thread nD τ).loc main_arg4)))))
        (lamA (m ((c.tc : Thread nD τ).loc main_arg0))) := by
  unfold Cert.DiffReferenceIdeal.Value.res_main_v64 comb soft nrm sm ex mx score0 score1 lamA cat
  rfl

end Cert.DiffReferenceIdeal.Att

end
-- ==== Proof.DiffSoft.lean ====
/- The reference of the attention call over the reals: with real arguments its softmaxes are weighted means of the values,
   the weights powers of two of the same scores that the kernel uses. -/
module

public import proofs.«01_k».proof.Proof.DiffBlocks
public import proofs.«01_k».proof.Proof.DiffRef

@[expose] public section

set_option maxRecDepth 16384

noncomputable section

open Idealize.ShloMosaic Idealize.ShloMosaic.TcCoe Idealize.SL.Sem
open scoped BigOperators

namespace Cert.DiffReferenceIdeal.Att

open Cert.DiffReferenceIdeal
open Cert.DiffIdeal.Att (lamOf mean mq outV rowsOf scaleR real_eq rowsOf_lo rowsOf_hi neg_inf_word)
open Cert.DiffMath (coe_sum fold_max_real)

theorem div_real (a b : ℝ) (hb : b ≠ 0) : Ideal.div ((a : ℝ) : EReal) ((b : ℝ) : EReal) = ((a / b : ℝ) : EReal) := by
  unfold Ideal.div
  rw [if_neg (fun h => hb (EReal.coe_eq_zero.mp h)), div_eq_mul_inv, EReal.coe_mul, EReal.coe_inv]

theorem exp_real (x : ℝ) : Ideal.exp ((x : ℝ) : EReal) = ((Real.exp x : ℝ) : EReal) := rfl

/-- The softmax of real scores. -/
theorem soft_real (X : FVec Ideal S2x4x8192x8448 .f32) (b : Fin 2) (h : Fin 4) (s : Fin 8192) (x : Fin 8448 → ℝ)
    (hX : ∀ n, X (ix4 b h s n) = ((x n : ℝ) : EReal)) (n : Fin 8448) :
    soft X (ix4 b h s n) = ((Real.exp (x n) / ∑ k : Fin 8448, Real.exp (x k) : ℝ) : EReal) := by
  rw [soft_at]
  obtain ⟨μ, hμ⟩ : ∃ μ : ℝ, mx X (ix3 b h s) = (μ : EReal) := by
    rw [mx_at, neg_inf_word]
    rcases fold_max_real (fun j : Fin 8448 => X (ix4 b h s j)) (fun j => ⟨_, hX j⟩) with h | h
    · exact absurd h.1 (by norm_num)
    · exact h
  rw [hμ, neg_inf_word, max_eq_right bot_le]
  have e (k : Fin 8448) : Ideal.exp (X (ix4 b h s k) - (μ : EReal)) = ((Real.exp (x k - μ) : ℝ) : EReal) := by
    rw [hX k, ← EReal.coe_sub, exp_real]
  rw [Finset.sum_congr rfl fun k _ => e k, e n, ← coe_sum]
  have hp : 0 < ∑ k : Fin 8448, Real.exp (x k - μ) := Finset.sum_pos (fun k _ => Real.exp_pos _) ⟨n, Finset.mem_univ _⟩
  rw [div_real _ _ hp.ne']
  refine congrArg (fun r : ℝ => (r : EReal)) ?_
  have e2 : ∑ k : Fin 8448, Real.exp (x k - μ) = (∑ k : Fin 8448, Real.exp (x k)) / Real.exp μ := by
    rw [Finset.sum_div]
    exact Finset.sum_congr rfl fun k _ => Real.exp_sub _ _
  rw [e2, Real.exp_sub, div_div_div_cancel_right₀ (Real.exp_pos μ).ne']

/-- Only a column's own stream adds to its score. -/
theorem sig_eq (kk : ℕ → Fin 256 → ℝ) (q : Fin 256 → Fin 128 → ℝ) (J : ℕ) (hJ : J < 8) (i : Fin 128) (n : ℕ) :
    Cert.DiffIdeal.Att.sig kk (mq q) (128 * J + i.val) n
      = ∑ d : Fin 32, kk n ⟨32 * J + d.val, by omega⟩ * q ⟨32 * J + d.val, by omega⟩ i := by
  unfold Cert.DiffIdeal.Att.sig
  rw [show (∑ d : Fin 256, kk n d * mq q d (128 * J + i.val)) = ∑ d : Fin (8 * 32), kk n d * mq q d (128 * J + i.val) from rfl,
    Fin.sum_univ_tiles 8 32 rfl, Finset.sum_eq_single (⟨J, hJ⟩ : Fin 8)]
  · refine Finset.sum_congr rfl fun d _ => ?_
    have hd := d.isLt
    have hi := i.isLt
    refine congrArg₂ (· * ·) (congrArg (kk n) (Fin.ext (by dsimp only; omega))) ?_
    unfold mq
    rw [if_pos (by dsimp only; omega)]
    exact congrArg₂ q (Fin.ext (by dsimp only; omega)) (Fin.ext (by dsimp only; omega))
  · intro j _ hj
    refine Finset.sum_eq_zero fun d _ => ?_
    have hd := d.isLt
    have hi := i.isLt
    have hne : j.val ≠ J := fun h => hj (Fin.ext h)
    unfold mq
    rw [if_neg (by dsimp only; omega), mul_zero]
  · intro h; exact absurd (Finset.mem_univ _) h

theorem cat_real (A : FVec Ideal S2x8192x256 .f32) (B : FVec Ideal S2x256x256 .f32)
    (hA : ∀ y, ∃ r : ℝ, A y = (r : EReal)) (hB : ∀ y, ∃ r : ℝ, B y = (r : EReal)) (b : Fin 2) (n : Fin 8448) (d : Fin 256) :
    cat A B (ix3 b n d) = ((rowsOf A B b n.val d : ℝ) : EReal) := by
  rw [cat_at]
  by_cases h : n.val < 8192
  · rw [dif_pos h]
    exact (real_eq (hA _)).trans (congrArg _ (rowsOf_lo A B b ⟨n.val, h⟩ d).symm)
  · rw [dif_neg h]
    refine (real_eq (hB _)).trans (congrArg _ ?_)
    have e := rowsOf_hi A B b ⟨n.val - 8192, by omega⟩ d
    rw [show 8192 + (⟨n.val - 8192, by omega⟩ : Fin 256).val = n.val from by dsimp only; omega] at e
    exact e.symm

theorem sqrt_32 : Ideal.sqrt (Ideal.ofBits .f32 0x42000000#32) = ((Real.sqrt 32 : ℝ) : EReal) := by
  have e32 : Ideal.ofBits .f32 0x42000000#32 = ((32 : ℝ) : EReal) := by
    simp [Ideal.ofBits, Ideal.ieee]; rw [← EReal.coe_mul]; norm_num
  rw [e32]
  show (if (32 : ℝ) < 0 then _ else _) = _
  rw [if_neg (by norm_num)]

/-- A real score of the reference is the kernel's score times `log 2`. -/
theorem score_real (q k : Fin 32 → ℝ) (Q K : Fin 32 → EReal) (hQ : ∀ d, Q d = ((q d : ℝ) : EReal)) (hK : ∀ d, K d = ((k d : ℝ) : EReal)) :
    Ideal.div (∑ d, Q d * K d) (Ideal.sqrt (Ideal.ofBits .f32 0x42000000#32))
      = (((∑ d, k d * (q d * scaleR)) * Real.log 2 : ℝ) : EReal) := by
  have p0 : 0 < Real.sqrt 32 := Real.sqrt_pos.mpr (by norm_num)
  have p1 : 0 < Real.log 2 := Real.log_pos (by norm_num)
  rw [sqrt_32, Finset.sum_congr rfl fun d _ => show Q d * K d = ((q d * k d : ℝ) : EReal) by rw [hQ, hK, EReal.coe_mul],
    ← coe_sum, div_real _ _ p0.ne']
  refine congrArg (fun r : ℝ => (r : EReal)) ?_
  have e : (∑ d, k d * (q d * scaleR)) = (∑ d, q d * k d) * scaleR := by
    rw [Finset.sum_mul]; exact Finset.sum_congr rfl fun d _ => by ring
  rw [e]
  unfold scaleR
  field_simp

theorem lam_word : ∃ r : ℝ, Ideal.ofBits .f32 0x3E4CCCCD#32 = (r : EReal) := by
  simp only [Ideal.ofBits, Ideal.ieee]
  simp
  exact ⟨_, (EReal.coe_mul _ _).symm⟩

theorem lamOf_real (X : FVec Ideal S4x32 .f32) (hX : ∀ y, ∃ r : ℝ, X y = (r : EReal)) : ∃ l : ℝ, lamOf X = (l : EReal) := by
  obtain ⟨w, hw⟩ := lam_word
  unfold lamOf
  have e (a b : Fin 4) : ∃ r : ℝ, (∑ d : Fin 32, (X (ix2 a d) * X (ix2 b d) : EReal)) = (r : EReal) := by
    refine ⟨∑ d : Fin 32, EReal.toReal (X (ix2 a d)) * EReal.toReal (X (ix2 b d)), ?_⟩
    rw [coe_sum]
    refine Finset.sum_congr rfl fun d _ => ?_
    rw [EReal.coe_mul]
    exact congrArg₂ (· * ·) (real_eq (hX _)) (real_eq (hX _))
  obtain ⟨r0, h0⟩ := e 0 1
  obtain ⟨r1, h1⟩ := e 2 3
  rw [h0, h1, hw, exp_real, exp_real, ← EReal.coe_sub, ← EReal.coe_add]
  exact ⟨_, rfl⟩

/-- A softmax of scores `σ log 2` against the values is the weighted mean. -/
theorem mean_eq (σ v : ℕ → ℝ) : mean σ v 8448
    = ∑ n : Fin 8448, v n.val * (Real.exp (σ n.val * Real.log 2) / ∑ k : Fin 8448, Real.exp (σ k.val * Real.log 2)) := by
  have e (n : ℕ) : Real.rpow 2 (σ n) = Real.exp (σ n * Real.log 2) := by
    show (2 : ℝ) ^ (σ n) = _
    rw [Real.rpow_def_of_pos (by norm_num), mul_comm]
  unfold mean
  simp only [e]
  rw [Finset.sum_range, Finset.sum_range, Finset.sum_div]
  exact Finset.sum_congr rfl fun n _ => by ring

theorem diff_real (v p1 p2 : Fin 8448 → ℝ) (l : ℝ) (V P1 P2 : Fin 8448 → EReal) (hV : ∀ n, V n = ((v n : ℝ) : EReal))
    (h1 : ∀ n, P1 n = ((p1 n : ℝ) : EReal)) (h2 : ∀ n, P2 n = ((p2 n : ℝ) : EReal)) :
    ∑ n, V n * (P1 n - (l : EReal) * P2 n) = ((∑ n, v n * p1 n : ℝ) : EReal) - (l : EReal) * ((∑ n, v n * p2 n : ℝ) : EReal) := by
  rw [Finset.sum_congr rfl fun n _ => show V n * (P1 n - (l : EReal) * P2 n) = ((v n * (p1 n - l * p2 n) : ℝ) : EReal) by
    rw [hV, h1, h2, EReal.coe_mul, EReal.coe_sub, EReal.coe_mul], ← coe_sum, ← EReal.coe_mul, ← EReal.coe_sub]
  refine congrArg (fun r : ℝ => (r : EReal)) ?_
  rw [Finset.mul_sum, ← Finset.sum_sub_distrib]
  exact Finset.sum_congr rfl fun n _ => by ring

section
variable (X : FVec Ideal S4x32 .f32) (Q A2 A3 : FVec Ideal S2x8192x256 .f32) (A4 A5 : FVec Ideal S2x256x256 .f32)

/-- The scaled queries of the tile of 128 rows that a row lies in. -/
def qryT (b : Fin 2) (s : Fin 8192) (d : Fin 256) (y : Fin 128) : ℝ :=
  EReal.toReal (Q (ix3 b ⟨128 * (s.val / 128) + y.val, by omega⟩ d)) * scaleR

theorem qryT_at (b : Fin 2) (s : Fin 8192) (d : Fin 256) :
    qryT Q b s d ⟨s.val % 128, Nat.mod_lt _ (by decide)⟩ = EReal.toReal (Q (ix3 b s d)) * scaleR := by
  unfold qryT
  exact congrArg (fun k => EReal.toReal (Q (ix3 b k d)) * scaleR) (Fin.ext (by dsimp only; omega))

/-- The score of one stream at a key. -/
theorem stream_real (hQ : ∀ y, ∃ r : ℝ, Q y = (r : EReal)) (h2 : ∀ y, ∃ r : ℝ, A2 y = (r : EReal)) (h4 : ∀ y, ∃ r : ℝ, A4 y = (r : EReal))
    (b : Fin 2) (s : Fin 8192) (n : Fin 8448) (J : ℕ) (hJ : J < 8) :
    Ideal.div (∑ d : Fin 32, (Q (ix3 b s ⟨32 * J + d.val, by omega⟩) * cat A2 A4 (ix3 b n ⟨32 * J + d.val, by omega⟩) : EReal))
      (Ideal.sqrt (Ideal.ofBits .f32 0x42000000#32))
      = ((Cert.DiffIdeal.Att.sig (rowsOf A2 A4 b) (mq (qryT Q b s)) (128 * J + s.val % 128) n.val * Real.log 2 : ℝ) : EReal) := by
  refine (score_real (fun d => EReal.toReal (Q (ix3 b s ⟨32 * J + d.val, by omega⟩))) (fun d => rowsOf A2 A4 b n.val ⟨32 * J + d.val, by omega⟩) _ _
    (fun d => real_eq (hQ _)) (fun d => cat_real A2 A4 h2 h4 b n _)).trans ?_
  refine congrArg (fun r : ℝ => ((r * Real.log 2 : ℝ) : EReal)) ?_
  refine Eq.trans ?_ (sig_eq (rowsOf A2 A4 b) (qryT Q b s) J hJ ⟨s.val % 128, Nat.mod_lt _ (by decide)⟩ n.val).symm
  exact Finset.sum_congr rfl fun d _ => congrArg (_ * ·) (qryT_at Q b s _).symm

/-- The reference's result at one index. -/
theorem ref_out (hX : ∀ y, ∃ r : ℝ, X y = (r : EReal)) (hQ : ∀ y, ∃ r : ℝ, Q y = (r : EReal)) (h2 : ∀ y, ∃ r : ℝ, A2 y = (r : EReal))
    (h3 : ∀ y, ∃ r : ℝ, A3 y = (r : EReal)) (h4 : ∀ y, ∃ r : ℝ, A4 y = (r : EReal)) (h5 : ∀ y, ∃ r : ℝ, A5 y = (r : EReal))
    (b : Fin 2) (s : Fin 8192) (w : Fin 256) :
    comb (cat A3 A5) (soft (score0 Q (cat A2 A4))) (soft (score1 Q (cat A2 A4))) (lamA X) (ix3 b s w)
      = outV X (Cert.DiffIdeal.Att.sig (rowsOf A2 A4 b) (mq (qryT Q b s))) (fun r n => if h : r < 256 then rowsOf A3 A5 b n ⟨r, h⟩ else 0)
          ⟨s.val % 128, Nat.mod_lt _ (by decide)⟩ w := by
  have hw := w.isLt
  obtain ⟨l, hl⟩ := lamOf_real X hX
  refine (comb_at _ _ _ _ (lamOf X) (lamA_at X) b s w).trans ?_
  unfold outV
  rw [hl]
  have s0 (n : Fin 8448) := soft_real (score0 Q (cat A2 A4)) b ⟨w.val / 64, by omega⟩ s
    (fun n => Cert.DiffIdeal.Att.sig (rowsOf A2 A4 b) (mq (qryT Q b s)) (128 * (2 * (w.val / 64)) + s.val % 128) n.val * Real.log 2)
    (fun n => (score0_at _ _ _ _ _ _).trans (stream_real Q A2 A4 hQ h2 h4 b s n (2 * (w.val / 64)) (by omega))) n
  have s1 (n : Fin 8448) := soft_real (score1 Q (cat A2 A4)) b ⟨w.val / 64, by omega⟩ s
    (fun n => Cert.DiffIdeal.Att.sig (rowsOf A2 A4 b) (mq (qryT Q b s)) (128 * (2 * (w.val / 64) + 1) + s.val % 128) n.val * Real.log 2)
    (fun n => (score1_at _ _ _ _ _ _).trans (stream_real Q A2 A4 hQ h2 h4 b s n (2 * (w.val / 64) + 1) (by omega))) n
  refine (diff_real (fun n => rowsOf A3 A5 b n.val w) _ _ l _ _ _ (fun n => cat_real A3 A5 h3 h5 b n w) s0 s1).trans ?_
  rw [mean_eq, mean_eq]
  have e0 : 256 * (w.val / 64) + s.val % 128 = 128 * (2 * (w.val / 64)) + s.val % 128 := by omega
  have e1 : 256 * (w.val / 64) + 128 + s.val % 128 = 128 * (2 * (w.val / 64) + 1) + s.val % 128 := by omega
  simp only [dif_pos hw, e0, e1]

end

end Cert.DiffReferenceIdeal.Att

end
-- ==== Proof.DiffPre.lean ====
/- The precondition of the attention claims: every entry of every argument has a finite absolute value, that is, is a real. -/
module

public import proofs.«01_k».proof.Pre_finite2
public import proofs.«01_k».proof.Proof.DiffSoft
public import Idealize.ShloMosaic.Lib.ReduceAll

@[expose] public section

set_option maxRecDepth 16384

noncomputable section

open Idealize.ShloMosaic

namespace Cert.Pre_finite2

theorem bcast_S_S4x32_ok : S_.BroadcastsInDim S4x32 (![] : Fin 0 → Fin S4x32.rank) := by decide
theorem reducesTo_S4x32_ok : S4x32.ReducesTo [0, 1] S_ := by decide
theorem h_S_ok : 0 < S_.numel := by decide
theorem bcast_S_S2x8192x256_ok : S_.BroadcastsInDim S2x8192x256 (![] : Fin 0 → Fin S2x8192x256.rank) := by decide
theorem reducesTo_S2x8192x256_ok : S2x8192x256.ReducesTo [0, 1, 2] S_ := by decide
theorem bcast_S_S2x256x256_ok : S_.BroadcastsInDim S2x256x256 (![] : Fin 0 → Fin S2x256x256.rank) := by decide
theorem reducesTo_S2x256x256_ok : S2x256x256.ReducesTo [0, 1, 2] S_ := by decide

/-- The shape relations the precondition takes. -/
instance facts : Facts where
  bcast_S_S4x32 := bcast_S_S4x32_ok
  reducesTo_S4x32_S_d0_1 := reducesTo_S4x32_ok
  h_S_ := h_S_ok
  bcast_S_S2x8192x256 := bcast_S_S2x8192x256_ok
  reducesTo_S2x8192x256_S_d0_1_2 := reducesTo_S2x8192x256_ok
  bcast_S_S2x256x256 := bcast_S_S2x256x256_ok
  reducesTo_S2x256x256_S_d0_1_2 := reducesTo_S2x256x256_ok

theorem inf_word : Ideal.ofBits .f32 0x7F800000#32 = (⊤ : EReal) := by simp [Ideal.ofBits, Ideal.ieee]

/-- An extended real whose absolute value is below infinity is a real. -/
theorem real_of_lt (x : EReal) (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  have h1 : x ≠ ⊤ := (lt_of_le_of_lt (le_max_left _ _) hlt).ne
  have h2 : x ≠ ⊥ := by
    rintro rfl
    simp at hlt
  exact ⟨EReal.toReal x, (EReal.coe_toReal h1 h2).symm⟩

instance : Subsingleton S_.Idx := ⟨fun a b => funext fun k => k.elim0⟩

/-- The check of one array. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : ∃ r : ℝ, x i = (r : EReal) :=
  real_of_lt (x i) (Host.reduce_andi_all _ _ hr hu j e i)

theorem real_of_pre (x0 : FVec Ideal S4x32 .f32) (x1 x2 x3 : FVec Ideal S2x8192x256 .f32) (x4 x5 : FVec Ideal S2x256x256 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have j : S_.Idx := Shape.Idx.first h_S_ok
  have e := congrFun h j
  unfold fn fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ j e0, real_of_all x1 _ _ _ j e1, real_of_all x2 _ _ _ j e2, real_of_all x3 _ _ _ j e3,
    real_of_all x4 _ _ _ j e4, real_of_all x5 _ _ _ j e5⟩

end Cert.Pre_finite2

end
-- ==== Proof.DiffValue.lean ====
/- The launch of the attention kernel over the extended reals, its result named, when every argument entry is real. -/
module

public import proofs.«01_k».proof.Proof.DiffBlocks
public import Idealize.ShloMosaic.Lib.VecWindow
public import Idealize.ShloMosaic.Lib.Claim

@[expose] public section

-- membership in a rectangle of production extents (`View.cover_of_tiled`): the elaborator's structural look
-- recurses once per coordinate of the long axes
set_option maxRecDepth 16384

noncomputable section

namespace Cert.DiffIdeal.Val

open Cert.DiffIdeal Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- What each window holds at a point: the operands their blocks, the result its value. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Att.outBlk m c t
  Φ _ := Pipeline.ΦA spec0 c
  q _ := fullShare
  owed _ := 0

/-- The arrays at entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = Att.outBlk m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

set_option maxHeartbeats 0 in
/-- What the body's store leaves in the result block. -/
theorem stored {c : Dev nD} (R : Att.Real6 m c) (t : Fin cfg0.N) (arg2 : Memref sig .tc .vmem S4x32 .f32) (harg2 : arg2.IsWhole) (arg3 : Memref sig .tc .vmem S1x256x128 .bf16) (harg3 : arg3.IsWhole) (arg4 : Memref sig .tc .vmem S1x8192x256 .bf16) (harg4 : arg4.IsWhole) (arg5 : Memref sig .tc .vmem S1x16x256x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x128x256 .f32) (harg8 : arg8.IsWhole) (arg9 : Memref sig .tc .vmem S256x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x256 .f32) (harg14 : arg14.IsWhole)
    (f : arg11.view.ty.Contents (Elt Ideal)) (g : arg8.view.ty.Contents (Elt Ideal)) :
    View.read (Elt Ideal) arg8.view (arg8.view.writes (Elt Ideal) g ((bodyRun (F := Ideal) c (grid0.coords t) arg2 harg2 arg3 harg3 arg4 harg4 arg5 harg5 arg6 harg6 arg7 harg7 arg8 harg8 arg9 harg9 arg10 harg10 arg11 harg11 arg12 harg12 arg13 harg13 arg14 harg14 (iblk m c 0 t) (iblk m c 1 t) (iblk m c 2 t) (iblk m c 3 t) (iblk m c 4 t) (iblk m c 5 t)).1 f)) = Att.outBlk m c t := by
  obtain ⟨Z, hZ, hv⟩ := Att.out_piece c (grid0.coords t) arg2 harg2 arg3 harg3 arg4 harg4 arg5 harg5 arg6 harg6 arg7 harg7 arg8 harg8 arg9 harg9 arg10 harg10 arg11 harg11 arg12 harg12 arg13 harg13 arg14 harg14 (iblk m c 0 t) (iblk m c 1 t) (iblk m c 2 t) (iblk m c 3 t) (iblk m c 4 t) (iblk m c 5 t) f
    (Att.hq R t) (Att.hk R t) (Att.hv R t) (Att.hkc R t) (Att.hvc R t)
  refine (congrArg (fun L => View.read (Elt Ideal) arg8.view (arg8.view.writes (Elt Ideal) g L)) hZ).trans ?_
  refine (View.read_writes_full (s := S1x128x256) arg8.view g (off := ![0, 0, 0]) inb_S1x128x256_S1x128x256_0_0_0 Z []).trans ?_
  funext y
  refine (congrArg Z (eq_ix3 y)).trans ?_
  have h0 : y 0 = (0 : Fin 1) := Fin.ext (Nat.lt_one_iff.mp (y 0).isLt)
  rw [h0]
  refine (hv (y 1) (y 2)).trans ?_
  unfold Att.outBlk
  rw [Att.lam_blk m c t]

attribute [local irreducible] Att.outBlk

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hR : ∀ c, Att.Real6 m c) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%f6, %g6, H6⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact stored m (hR c) t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) g6 f6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hR : ∀ c, Att.Real6 m c) (c : Dev nD) : BodyObligation (dats m 0 c) (defs₀ (F := Ideal)) Variants.none () Set.univ := fun t => by
  rw [bigSep_W0, bigSep_W0, defs₀_row]
  exact triple_restated (sound_body m hR c t) rfl .rfl fun _ => .rfl

/-! ## The run and the frame -/

-- `θ_run_frame`'s implicit arguments are found by unifying its conclusion with this one, which takes unfolding plain
-- definitions in a metavariable's type
set_option backward.isDefEq.respectTransparency.types false in
/-- The whole launch, with every counter back at zero. -/
theorem run_main_quiescent (hR : ∀ c, Att.Real6 m c) : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hR c).loose) (hshare := fun c => (dats m 0 c).share_full fun _ => rfl)
    (howed := fun _ _ => rfl) (V := V m) (hmain := hmain m Variants.none) (hA := A_eq m) (hΦ := fun _ _ => rfl)

/-- The whole launch. -/
theorem run_main (hR : ∀ c, Att.Real6 m c) : θ_run defs (onTc (τ := τ) (main (F := Ideal))) (s₀ m ρ) (Pipeline.FramePost cfgs (dats m) 0 (V m)) :=
  (θ_run defs _ _).mono (fun _ h => h.1) (run_main_quiescent m ρ hR)

/-- What the kernel leaves in its result array, read at one index. -/
def RES (c : Dev nD) : FVec Ideal S2x8192x256 .f32 := fun y =>
  Att.outV (m ((c : Thread nD τ).loc main_arg0))
    (Att.sig (Att.keyF m c (y 0)) (Att.mq (Att.qryF m c (y 0) ⟨(y 1).val / 128, by have : (y 1).val < 8192 := (y 1).isLt; omega⟩)))
    (Att.valF m c (y 0)) ⟨(y 1).val % 128, Nat.mod_lt _ (by decide)⟩ (y 2)

theorem RES_congr (c : Dev nD) {b b' : Fin 2} {T T' : Fin 64} {i i' : Fin 128} {w w' : Fin 256} (hb : b = b') (hT : T = T') (hi : i = i') (hw : w = w') :
    Att.outV (m ((c : Thread nD τ).loc main_arg0)) (Att.sig (Att.keyF m c b) (Att.mq (Att.qryF m c b T))) (Att.valF m c b) i w
      = Att.outV (m ((c : Thread nD τ).loc main_arg0)) (Att.sig (Att.keyF m c b') (Att.mq (Att.qryF m c b' T'))) (Att.valF m c b') i' w' := by
  subst hb hT hi hw; rfl

theorem final (c : Dev nD) : (dats m 0 c).arrAt 6 (cfgs 0).N = RES m c := by
  refine (dats m 0 c).arrAt_eq_of_covers 6 _ (by decide +kernel) fun t hf y => ?_
  blk_simp
  rw [after0_6]
  unfold Att.outBlk RES
  refine RES_congr m c ?_ ?_ ?_ ?_
  · refine Fin.ext ?_
    blk_simp [Att.idx_val t, Att.bOf]
  · refine Fin.ext ?_
    blk_simp [Att.idx_val t, Att.tOf]
    have hy : (y 1).val < 128 := (y 1).isLt
    (try dsimp only) <;> omega
  · refine Fin.ext ?_
    blk_simp [Att.idx_val t]
    have hy : (y 1).val < 128 := (y 1).isLt
    (try dsimp only) <;> omega
  · refine Fin.ext ?_
    blk_simp [Att.idx_val t]

end Cert.DiffIdeal.Val

end
-- ==== Proof.DiffFrame.lean ====
/- The frame of the attention kernel, its result left unnamed. -/
module

public import proofs.«01_k».proof.Proof.Gen.Diff.Frame.Runs
public import Idealize.ShloMosaic.Lib.Claim

@[expose] public section

-- membership in a rectangle of production extents (`View.cover_of_tiled`): the elaborator's structural look
-- recurses once per coordinate of the long axes
set_option maxRecDepth 16384

noncomputable section

namespace Cert.Diff.Free

open Cert.Diff Cert.Diff.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The argument arrays end unchanged, from what the launch leaves. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

set_option maxHeartbeats 0 in
/-- The body runs from any contents of its result block and its scratch and leaves the operands as they were. -/
theorem kernelRun0_A (c : Dev nD) (i : grid0.Coords) (arg2 : Memref sig .tc .vmem S4x32 .f32) (harg2 : arg2.IsWhole) (arg3 : Memref sig .tc .vmem S1x256x128 .bf16) (harg3 : arg3.IsWhole) (arg4 : Memref sig .tc .vmem S1x8192x256 .bf16) (harg4 : arg4.IsWhole) (arg5 : Memref sig .tc .vmem S1x16x256x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x128x256 .f32) (harg8 : arg8.IsWhole) (arg9 : Memref sig .tc .vmem S256x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x256 .f32) (harg14 : arg14.IsWhole)
    (x0 : Vec F S4x32 .f32) (x1 : Vec F S1x256x128 .bf16) (x2 : Vec F S1x8192x256 .bf16) (x3 : Vec F S1x16x256x512 .bf16) (x4 : Vec F S1x256x256 .bf16) (x5 : Vec F S1x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_differential_attention i arg2 harg2 arg3 harg3 arg4 harg4 arg5 harg5 arg6 harg6 arg7 harg7 arg8 harg8 arg9 harg9 arg10 harg10 arg11 harg11 arg12 harg12 arg13 harg13 arg14 harg14) K := by
    intro E K
    simp only [cc0_differential_attention_eq_skeleton]; unfold cc0_differential_attention_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline's proof data -/

/-- The result window is left unnamed. -/
def forgets0 : Fin 7 → Bool := fun w => w.val == 6

/-- What each window holds at a point: the operands their blocks, the result anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The arrays at entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The whole launch, with every counter back at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole launch. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The attention kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Diff.Free

end
-- ==== Proof.DiffFrameIdeal.lean ====
/- The frame of the attention kernel, its result left unnamed. -/
module

public import proofs.«01_k».proof.Proof.DiffRun
public import Idealize.ShloMosaic.Lib.Claim

@[expose] public section

-- membership in a rectangle of production extents (`View.cover_of_tiled`): the elaborator's structural look
-- recurses once per coordinate of the long axes
set_option maxRecDepth 16384

noncomputable section

namespace Cert.DiffIdeal.Free

open Cert.DiffIdeal Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The argument arrays end unchanged, from what the launch leaves. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The pipeline's proof data -/

/-- The result window is left unnamed. -/
def forgets0 : Fin 7 → Bool := fun w => w.val == 6

/-- What each window holds at a point: the operands their blocks, the result anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The arrays at entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%f6, %g6, H6⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _, _; isplitr
  swap; · iexact H6
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The whole launch, with every counter back at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole launch. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The attention kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DiffIdeal.Free

end
-- ==== Proof.DiffClaim.lean ====
/- The claims about the attention call. -/
module

public import proofs.«01_k».proof.Defs
public import proofs.«01_k».proof.Proof.DiffPre
public import proofs.«01_k».proof.Proof.DiffValue
public import proofs.«01_k».proof.Proof.DiffFrame
public import proofs.«01_k».proof.Proof.DiffFrameIdeal
public import Idealize.ShloMosaic.Lib.Claim

@[expose] public section

set_option maxRecDepth 16384

noncomputable section

open Idealize.ShloMosaic Idealize.ShloMosaic.TcCoe Idealize.SL.Sem
open scoped BigOperators

namespace Cert.DiffAtt

/-- Real entries, from the precondition. -/
theorem real6 (m : (ℓ : Loc Cert.DiffIdeal.nD Cert.DiffIdeal.τ Cert.DiffIdeal.sig) → Buf (Elt Ideal) ℓ)
    (h : Cert.Pre_DiffIdeal_finite2 (hPre_finite2 := Cert.Pre_finite2.facts) m) (c : Dev Cert.DiffIdeal.nD) : Cert.DiffIdeal.Att.Real6 m c := by
  obtain ⟨h0, h1, h2, h3, h4, h5⟩ := Cert.Pre_finite2.real_of_pre _ _ _ _ _ _ (h c)
  exact ⟨h0, h1, h2, h3, h4, h5⟩

/-- The two result arrays agree where the arguments do and are real. -/
theorem res_eq (m : (ℓ : Loc Cert.DiffIdeal.nD Cert.DiffIdeal.τ Cert.DiffIdeal.sig) → Buf (Elt Ideal) ℓ) (c : Dev Cert.DiffIdeal.nD)
    (R : Cert.DiffIdeal.Att.Real6 m c)
    (m' : (ℓ : Loc Cert.DiffReferenceIdeal.nD Cert.DiffReferenceIdeal.τ Cert.DiffReferenceIdeal.sig) → Buf (Elt Ideal) ℓ)
    (h0 : m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0))
    (h1 : m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1))
    (h2 : m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2))
    (h3 : m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3))
    (h4 : m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4))
    (h5 : m' ((c.tc : Thread Cert.DiffReferenceIdeal.nD Cert.DiffReferenceIdeal.τ).loc Cert.DiffReferenceIdeal.main_arg5) = m ((c.tc : Thread Cert.DiffIdeal.nD Cert.DiffIdeal.τ).loc Cert.DiffIdeal.main_arg5)) :
    Cert.DiffReferenceIdeal.Value.res_main_v64 m' c = Cert.DiffIdeal.Val.RES m c := by
  refine (Cert.DiffReferenceIdeal.Att.res_is m' c).trans ?_
  rw [h0, h1, h2, h3, h4, h5]
  funext y
  refine (congrArg _ (eq_ix3 y)).trans ?_
  exact Cert.DiffReferenceIdeal.Att.ref_out _ _ _ _ _ _ R.a0 R.a1 R.a2 R.a3 R.a4 R.a5 (y 0) (y 1) (y 2)

theorem algebraic : Cert.algebraic_DiffIdeal_DiffReferenceIdeal_pre_finite2 (hDiffIdeal := Cert.DiffIdeal.Gen.facts)
    (hDiffReferenceIdeal := Cert.DiffReferenceIdeal.Gen.facts) (hPre_finite2 := Cert.Pre_finite2.facts) := by
  pair_intro
  · run_from Cert.DiffIdeal.Val.run_main m g (real6 m hpre)
  · run_from Cert.DiffReferenceIdeal.Value.run m' g'
    obtain ⟨h0, h1, h2, h3, h4, h5⟩ := hagree c
    exact (res_eq m c (real6 m hpre c) m' h0 h1 h2 h3 h4 h5).trans (Cert.DiffIdeal.Val.final m c).symm

theorem preserves : Cert.preserves_Diff_DiffIdeal :=
  IdealRules.named_const.statement Cert.DiffIdeal.κ "minus_inf" .f32 0xF149F2CA#32 ⊥ rfl

theorem frame_reference : Cert.quiescent_DiffReferenceIdeal (hDiffReferenceIdeal := Cert.DiffReferenceIdeal.Gen.facts) := by
  intro m g _
  exact (θ_run Cert.DiffReferenceIdeal.defs _ _).mono
    (fun r h => ⟨fun c => (h c).2, Idealize.ShloMosaic.sem_eq_zero_of_no_sems (by decide) r.2⟩)
    (Cert.DiffReferenceIdeal.Value.run m g)

end Cert.DiffAtt

end
-- ==== Proof.ProjBlocks.lean ====
/- The host-side tables of the input projection, entry by entry. -/
module

public import proofs.«01_k».proof.Proof.DiffClaim
public import proofs.«01_k».proof.Proof.Gen.ProjIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjIdeal.In

open Cert.ProjIdeal Cert.ProjIdeal.Gen

variable (m : (ℓ : Loc nD τ Cert.ProjIdeal.sig) → Buf (Elt Ideal) ℓ)

/-- The device's buffers after the first four groups of host operations. -/
def W0 (c : Dev nD) : Valuation τ sig (Elt Ideal) :=
  StableHlo.after hostOps0_3 (StableHlo.after hostOps0_2 (StableHlo.after hostOps0_1 (StableHlo.after hostOps0 (fun b => m (c, b)))))

theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons a l ih => exact ih _

theorem V_split (c : Dev nD) (b : Ref sig .tc) : V m c b = StableHlo.after hostOps0_4 (W0 m c) b := by
  unfold V W0
  rw [List.flatten_cons, List.flatten_cons, List.flatten_cons, List.flatten_cons, List.flatten_cons, List.flatten_nil, List.append_nil,
    after_app, after_app, after_app, after_app]

theorem W0_arg3 (c : Dev nD) : W0 m c main_arg3 = m ((c : Thread nD τ).loc main_arg3) := by
  unfold W0
  after_results_simp
theorem W0_arg4 (c : Dev nD) : W0 m c main_arg4 = m ((c : Thread nD τ).loc main_arg4) := by
  unfold W0
  after_results_simp
theorem W0_arg5 (c : Dev nD) : W0 m c main_arg5 = m ((c : Thread nD τ).loc main_arg5) := by
  unfold W0
  after_results_simp
theorem W0_arg6 (c : Dev nD) : W0 m c main_arg6 = m ((c : Thread nD τ).loc main_arg6) := by
  unfold W0
  after_results_simp
theorem W0_arg7 (c : Dev nD) : W0 m c main_arg7 = m ((c : Thread nD τ).loc main_arg7) := by
  unfold W0
  after_results_simp
theorem W0_arg8 (c : Dev nD) : W0 m c main_arg8 = m ((c : Thread nD τ).loc main_arg8) := by
  unfold W0
  after_results_simp

/-- The row of a position: its floor division by 64, as the host computes it. -/
def rowW : IVec S8192 32 :=
  let p : IVec S8192 32 := iotaInDim S8192 32 0
  let d : IVec S_ 32 := constantI S_ 32 64#32
  let q : IVec S8192 32 := Host.divsi p (broadcastInDim S8192 ![] bcast_S_S8192 d)
  select (andi (cmpi .ne (signi p) (broadcastInDim S8192 ![] bcast_S_S8192 (signi d)))
      (cmpi .ne (Host.remsi p (broadcastInDim S8192 ![] bcast_S_S8192 d)) (broadcastInDim S8192 ![] bcast_S_S8192 (constantI S_ 32 0#32))))
    (subi q (broadcastInDim S8192 ![] bcast_S_S8192 (constantI S_ 32 1#32))) q

/-- The column of a position: its remainder by 64, as the host computes it. -/
def colW : IVec S8192 32 :=
  let p : IVec S8192 32 := iotaInDim S8192 32 0
  let d : IVec S_ 32 := select (cmpi .eq (constantI S_ 32 64#32) (constantI S_ 32 0#32)) (constantI S_ 32 1#32) (constantI S_ 32 64#32)
  let r : IVec S8192 32 := Host.remsi p (broadcastInDim S8192 ![] bcast_S_S8192 d)
  select (andi (cmpi .ne (cmpi .slt r (broadcastInDim S8192 ![] bcast_S_S8192 (constantI S_ 32 0#32)))
        (broadcastInDim S8192 ![] bcast_S_S8192 (cmpi .slt d (constantI S_ 32 0#32))))
      (cmpi .ne r (broadcastInDim S8192 ![] bcast_S_S8192 (constantI S_ 32 0#32))))
    (addi r (broadcastInDim S8192 ![] bcast_S_S8192 d)) r

theorem W0_v1 (c : Dev nD) : W0 m c main_v1 = rowW := by
  unfold W0
  after_results_simp
  rfl
theorem W0_v3 (c : Dev nD) : W0 m c main_v3 = colW := by
  unfold W0
  after_results_simp
  rfl
theorem W0_v2 (c : Dev nD) : W0 m c main_v2 = (sitofp .f32 rowW : FVec Ideal S8192 .f32) := by
  unfold W0
  after_results_simp
  rfl
theorem W0_cst (c : Dev nD) : W0 m c main_cst = (fun i => FloatOps.ofBits .f32 (lit0 (S32.rowMajor i)) : FVec Ideal S32 .f32) := by
  unfold W0
  after_results_simp
  rfl

theorem V_gq (c : Dev nD) (n : Fin 512) : (V m c main_v40 : FVec Ideal S1x512 .f32) (ix2 0 n)
    = (m ((c : Thread nD τ).loc main_arg5) : FVec Ideal S64 .f32) (ix1 ⟨n.val % 64, by omega⟩) := by
  rw [V_split]
  entry_read
  rw [W0_arg5]
  pointwise []

theorem V_dgq (c : Dev nD) (n : Fin 256) : (V m c main_v48 : FVec Ideal S1x256 .f32) (ix2 0 n)
    = (m ((c : Thread nD τ).loc main_arg7) : FVec Ideal S32 .f32) (ix1 ⟨n.val % 32, by omega⟩) := by
  rw [V_split]
  entry_read
  rw [W0_arg7]
  pointwise []

theorem V_gk (c : Dev nD) (n : Fin 512) : (V m c main_v44 : FVec Ideal S1x512 .f32) (ix2 0 n)
    = (m ((c : Thread nD τ).loc main_arg6) : FVec Ideal S64 .f32) (ix1 ⟨n.val % 64, by omega⟩) := by
  rw [V_split]
  entry_read
  rw [W0_arg6]
  pointwise []

theorem V_dgk (c : Dev nD) (n : Fin 256) : (V m c main_v52 : FVec Ideal S1x256 .f32) (ix2 0 n)
    = (m ((c : Thread nD τ).loc main_arg8) : FVec Ideal S32 .f32) (ix1 ⟨n.val % 32, by omega⟩) := by
  rw [V_split]
  entry_read
  rw [W0_arg8]
  pointwise []

theorem V_g (c : Dev nD) (n : Fin 1024) : (V m c main_v53 : FVec Ideal S1x1024 .f32) (ix2 0 n)
    = (m ((c : Thread nD τ).loc main_arg3) : FVec Ideal S1024 .f32) (ix1 n) := by
  rw [V_split]
  entry_read
  rw [W0_arg3]
  pointwise []

theorem V_w (c : Dev nD) (k : Fin 1024) (n : Fin 2560) : (V m c main_v54 : FVec Ideal S1024x2560 .bf16) (ix2 k n)
    = (m ((c : Thread nD τ).loc main_arg4) : FVec Ideal S1024x2560 .f32) (ix2 k n) := by
  rw [V_split]
  entry_read
  rw [W0_arg4]
  pointwise []

theorem eye_at (a b : Fin 8) : (FloatOps.uitofp (F := Ideal) FTy.f32
    (IntOp.cmpi CmpIPredicate.eq (IntOp.addi (BitVec.ofNat 32 a.val) 0#32) (BitVec.ofNat 32 b.val)) : EReal) = if a = b then 1 else 0 := by
  have h : IntOp.cmpi CmpIPredicate.eq (IntOp.addi (BitVec.ofNat 32 a.val) 0#32) (BitVec.ofNat 32 b.val) = if a = b then 1#1 else 0#1 := by
    revert a b
    decide
  rw [h]
  by_cases e : a = b
  · rw [if_pos e, if_pos e]
    show (((1#1 : BitVec 1).toNat : ℝ) : EReal) = 1
    simp
  · rw [if_neg e, if_neg e]
    show (((0#1 : BitVec 1).toNat : ℝ) : EReal) = 0
    simp

theorem w64 : Ideal.ofBits .f32 0x42800000#32 = ((64 : ℝ) : EReal) := by
  simp [Ideal.ofBits, Ideal.ieee]; rw [← EReal.coe_mul]; norm_num
theorem w32 : Ideal.ofBits .f32 0x42000000#32 = ((32 : ℝ) : EReal) := by
  simp [Ideal.ofBits, Ideal.ieee]; rw [← EReal.coe_mul]; norm_num

theorem div_eye (p : Prop) [Decidable p] (r : ℝ) (hr : r ≠ 0) : Ideal.div (if p then 1 else 0) (r : EReal) = if p then ((1 / r : ℝ) : EReal) else 0 := by
  unfold Ideal.div
  rw [if_neg (fun h => hr (EReal.coe_eq_zero.mp h))]
  by_cases h : p
  · rw [if_pos h, if_pos h, one_mul, one_div, EReal.coe_inv]
  · rw [if_neg h, if_neg h, zero_mul]

theorem V_g64 (c : Dev nD) (k n : Fin 512) : (V m c main_v66 : FVec Ideal S512x512 .bf16) (ix2 k n)
    = if (⟨k.val / 64, by omega⟩ : Fin 8) = ⟨n.val / 64, by omega⟩ then ((1 / 64 : ℝ) : EReal) else 0 := by
  rw [V_split]
  entry_read
  pointwise []
  rw [w64, ← div_eye _ 64 (by norm_num), ← eye_at]

theorem V_g32 (c : Dev nD) (k n : Fin 256) : (V m c main_v78 : FVec Ideal S256x256 .bf16) (ix2 k n)
    = if (⟨k.val / 32, by omega⟩ : Fin 8) = ⟨n.val / 32, by omega⟩ then ((1 / 32 : ℝ) : EReal) else 0 := by
  rw [V_split]
  entry_read
  pointwise []
  rw [w32, ← div_eye _ 32 (by norm_num), ← eye_at]

/-- The eight frequencies of the rotary embedding. -/
def freq : FVec Ideal S8 .f32 :=
  Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The angles of one axis: a position times each frequency. -/
def angle (p : IVec S8192 32) : FVec Ideal S8192x8 .f32 :=
  mulf (broadcastInDim S8192x8 ![0, 1] bcast_S8192x1_S8192x8_0_1 (broadcastInDim S8192x1 ![0] bcast_S8192_S8192x1_0 (sitofp .f32 p)))
    (broadcastInDim S8192x8 ![0, 1] bcast_S1x8_S8192x8_0_1 (broadcastInDim S1x8 ![1] bcast_S8_S1x8_1 freq))

/-- The angle of a channel: the row's for the first half of a head, the column's for the second. -/
def angAt (s : Fin 8192) (n : Fin 256) : EReal :=
  if n.val % 32 < 16 then angle rowW (ix2 s ⟨n.val % 8, by omega⟩) else angle colW (ix2 s ⟨n.val % 8, by omega⟩)

theorem angle_def (p : IVec S8192 32) : mulf (broadcastInDim S8192x8 ![0, 1] bcast_S8192x1_S8192x8_0_1 (broadcastInDim S8192x1 ![0] bcast_S8192_S8192x1_0 (sitofp .f32 p)))
    (broadcastInDim S8192x8 ![0, 1] bcast_S1x8_S8192x8_0_1 (broadcastInDim S1x8 ![1] bcast_S8_S1x8_1 (
  Host.powf (broadcastInDim S8 ![] bcast_S_S8 (constant (F := Ideal) S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))) = angle p := rfl

/-- Two axes' tables laid side by side, each twice. -/
def cat4 (A B : FVec Ideal S8192x8 .f32) : FVec Ideal S8192x32 .f32 :=
  concatenate S8192x32 1 [⟨S8192x8, A⟩, ⟨S8192x8, A⟩, ⟨S8192x8, B⟩, ⟨S8192x8, B⟩] concatenates_S8192x8_S8192x8_S8192x8_S8192x8_S8192x32_d1

/-- The angles of the 32 channels of a head. -/
def ang32 : FVec Ideal S8192x32 .f32 :=
  cat4 (angle rowW) (angle colW)

theorem ang32_at (s : Fin 8192) (i : Fin 32) (n : Fin 256) (h : i.val = n.val % 32) : ang32 (ix2 s i) = angAt s n := by
  unfold ang32 angAt cat4
  generalize angle rowW = A
  generalize angle colW = B
  by_cases h1 : i.val < 8
  · rw [if_pos (by omega)]
    pointwise [h1]
    exact congrArg A (congrArg (ix2 s) (Fin.ext (by simp only; omega)))
  · by_cases h2 : i.val < 16
    · rw [if_pos (by omega)]
      have h2' : i.val - 8 < 8 := by omega
      pointwise [h1, h2']
      exact congrArg A (congrArg (ix2 s) (Fin.ext (by simp only; omega)))
    · rw [if_neg (by omega)]
      have h2' : ¬ i.val - 8 < 8 := by omega
      by_cases h3 : i.val < 24
      · have h3' : i.val - 8 - 8 < 8 := by omega
        pointwise [h1, h2', h3']
        exact congrArg B (congrArg (ix2 s) (Fin.ext (by simp only; omega)))
      · have h3' : ¬ i.val - 8 - 8 < 8 := by omega
        pointwise [h1, h2', h3']
        exact congrArg B (congrArg (ix2 s) (Fin.ext (by simp only; omega)))

/-- The device's buffers once the two axes' angles are there. -/
def W1 (c : Dev nD) : Valuation τ sig (Elt Ideal) := StableHlo.after (List.take 25 hostOps0_4) (W0 m c)

theorem V_split1 (c : Dev nD) (b : Ref sig .tc) : V m c b = StableHlo.after (List.drop 25 hostOps0_4) (W1 m c) b := by
  rw [V_split]
  unfold W1
  rw [← after_app, List.take_append_drop]

theorem W1_v19 (c : Dev nD) : (W1 m c main_v19 : FVec Ideal S8192x8 .f32) = angle rowW := by
  unfold W1
  simp only [hostOps0_4, List.take_succ_cons, List.take_zero]
  after_results_simp
  rw [W0_v2]
  rfl

theorem W1_v24 (c : Dev nD) : (W1 m c main_v24 : FVec Ideal S8192x8 .f32) = angle colW := by
  unfold W1
  simp only [hostOps0_4, List.take_succ_cons, List.take_zero]
  after_results_simp
  rw [W0_v3]
  rfl

theorem W1_cst (c : Dev nD) : W1 m c main_cst = (fun i => FloatOps.ofBits .f32 (lit0 (S32.rowMajor i)) : FVec Ideal S32 .f32) := by
  unfold W1
  simp only [hostOps0_4, List.take_succ_cons, List.take_zero]
  after_results_simp
  rw [W0_cst]

/-- The concatenation of the two axes' angles, each twice. -/
theorem W1_ang (c : Dev nD) : cat4 (W1 m c main_v19) (W1 m c main_v24) = ang32 := by
  rw [W1_v19, W1_v24]
  rfl

theorem V_cos (c : Dev nD) (s : Fin 8192) (n : Fin 256) : (V m c main_v33 : FVec Ideal S8192x256 .f32) (ix2 s n)
    = Ideal.cos (angAt s n) := by
  rw [V_split1]
  simp only [hostOps0_4, List.drop_succ_cons, List.drop_zero]
  after_results_simp
  rw [← ang32_at s ⟨n.val % 32, Nat.mod_lt _ (by norm_num)⟩ n rfl, ← W1_ang m c]
  change shapeCast _ (broadcastInDim _ _ _ (shapeCast _ (Host.cos (cat4 (W1 m c main_v19) (W1 m c main_v24))) _)) _ (ix2 s n) = _
  rw [W1_ang]
  generalize ang32 = A
  pointwise []

theorem sign_at (i : Fin 32) : Ideal.ofBits .f32 (lit0 i) = if i.val % 16 < 8 then -1 else 1 := by
  have h : lit0 i = if i.val % 16 < 8 then 0xBF800000#32 else 0x3F800000#32 := by
    revert i
    decide
  rw [h]
  by_cases e : i.val % 16 < 8
  · rw [if_pos e, if_pos e]
    simp [Ideal.ofBits, Ideal.ieee]
    rw [← EReal.coe_mul]
    norm_num
  · rw [if_neg e, if_neg e]
    simp [Ideal.ofBits, Ideal.ieee]
    rw [← EReal.coe_mul]
    norm_num

theorem row32 : ∀ i : Fin 32, (S32.rowMajor (ix1 i)).val = i.val := by decide

theorem V_sin (c : Dev nD) (s : Fin 8192) (n : Fin 256) : (V m c main_v36 : FVec Ideal S8192x256 .f32) (ix2 s n)
    = Ideal.sin (angAt s n) * (if n.val % 16 < 8 then -1 else 1) := by
  rw [V_split1]
  simp only [hostOps0_4, List.drop_succ_cons, List.drop_zero]
  after_results_simp
  rw [← ang32_at s ⟨n.val % 32, Nat.mod_lt _ (by norm_num)⟩ n rfl, ← W1_ang m c, W1_cst]
  change shapeCast _ (broadcastInDim _ _ _ (shapeCast _ (mulf (Host.sin (cat4 (W1 m c main_v19) (W1 m c main_v24))) _) _)) _ (ix2 s n) = _
  rw [W1_ang]
  generalize ang32 = A
  pointwise []
  refine Ideal.mul_congr rfl ?_
  rw [show S32.rowMajor (ix1 ⟨n.val % 32, Nat.mod_lt _ (by norm_num)⟩) = (⟨n.val % 32, Nat.mod_lt _ (by norm_num)⟩ : Fin 32) from Fin.ext (row32 ⟨n.val % 32, Nat.mod_lt _ (by norm_num)⟩)]
  rw [sign_at]
  simp only [show n.val % 32 % 16 = n.val % 16 from by omega]

end Cert.ProjIdeal.In

end
-- ==== Proof.ProjPay.lean ====
/- The input projection's values at one grid point, over the blocks it loads. -/
module

public import proofs.«01_k».proof.Proof.ProjBlocks

@[expose] public section

set_option maxRecDepth 16384

noncomputable section

open Idealize.ShloMosaic Idealize.ShloMosaic.TcCoe Idealize.SL.Sem
open Idealize.ShloMosaic.Pipeline (Dat)
open scoped BigOperators

namespace Cert.ProjIdeal.In

open Cert.ProjIdeal Cert.ProjIdeal.Gen

/-- The small number the means are shifted by. -/
def epsE : EReal := Ideal.ofBits .f32 0x358637BD#32

/-- A row normalised by the root mean square, scaled by the gain, then modulated. -/
def hRow (x : Fin 1024 → EReal) (sh sc g : Fin 1024 → EReal) (k : Fin 1024) : EReal :=
  x k * Ideal.rsqrt (Ideal.div (∑ j : Fin 1024, x j * x j) (Ideal.ofBits .f32 0x44800000#32) + epsE) * g k * (1 + sc k) + sh k

/-- The projection of a row. -/
def pRow (h : Fin 1024 → EReal) (w : Fin 1024 → Fin 2560 → EReal) (n : Fin 2560) : EReal := ∑ k : Fin 1024, h k * w k n

variable (x0 : FVec Ideal S1x512x1024 .f32) (x1 x2 : FVec Ideal S1x1x1024 .f32) (x3 : FVec Ideal S1x1024 .f32) (x4 : FVec Ideal S1024x2560 .bf16)

/-- The modulated row over the loaded blocks. -/
def hK (r : Fin 512) (k : Fin 1024) : EReal :=
  hRow (fun j => x0 (ix3 0 r j)) (fun j => x1 (ix3 0 0 j)) (fun j => x2 (ix3 0 0 j)) (fun j => x3 (ix2 0 j)) k

/-- The projected row over the loaded blocks. -/
def pK (r : Fin 512) (n : Fin 2560) : EReal := pRow (hK x0 x1 x2 x3 r) (fun k n => x4 (ix2 k n)) n

theorem one_at : Ideal.ofBits .f32 0x3F800000#32 = 1 := by
  simp [Ideal.ofBits, Ideal.ieee]
  rw [← EReal.coe_mul]
  norm_num

/-- The mean square of a channel's group of 64. -/
def mean64 (P : Fin 512 → EReal) (n : Fin 512) : EReal :=
  Ideal.div (∑ i : Fin 64, P ⟨n.val / 64 * 64 + i.val, by omega⟩ * P ⟨n.val / 64 * 64 + i.val, by omega⟩) (Ideal.ofBits .f32 0x42800000#32)

/-- The mean square of a channel's group of 32. -/
def mean32 (P : Fin 256 → EReal) (n : Fin 256) : EReal :=
  Ideal.div (∑ i : Fin 32, P ⟨n.val / 32 * 32 + i.val, by omega⟩ * P ⟨n.val / 32 * 32 + i.val, by omega⟩) (Ideal.ofBits .f32 0x42000000#32)

/-- A head of 64 channels normalised by its root mean square and scaled by the gain. -/
def nrm64 (P : Fin 512 → EReal) (g : Fin 64 → EReal) (n : Fin 512) : EReal :=
  P n * Ideal.rsqrt (mean64 P n + epsE) * g ⟨n.val % 64, by omega⟩

/-- A head of 32 channels normalised by its root mean square and scaled by the gain. -/
def nrm32 (P : Fin 256 → EReal) (g : Fin 32 → EReal) (n : Fin 256) : EReal :=
  P n * Ideal.rsqrt (mean32 P n + epsE) * g ⟨n.val % 32, by omega⟩

/-- The channel a channel is rotated with. -/
def partner (n : Fin 256) : Fin 256 := if n.val % 16 < 8 then ⟨(n.val + 8) % 256, by omega⟩ else ⟨(n.val + 248) % 256, by omega⟩

/-- The rotary embedding of a channel at the angles `a`. -/
def rope (Q : Fin 256 → EReal) (a : Fin 256 → EReal) (n : Fin 256) : EReal :=
  Q n * Ideal.cos (a n) + Q (partner n) * (Ideal.sin (a n) * (if n.val % 16 < 8 then -1 else 1))

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

theorem sum_mul_real {N : ℕ} (f : Fin N → EReal) (r : ℝ) (hr : 0 ≤ r) (hf : ∀ i, 0 ≤ f i) :
    ∑ i : Fin N, f i * (r : EReal) = (∑ i : Fin N, f i) * (r : EReal) := by
  classical
  have h : ∀ s : Finset (Fin N), ∑ i ∈ s, f i * (r : EReal) = (∑ i ∈ s, f i) * (r : EReal) := by
    intro s
    induction s using Finset.induction_on with
    | empty => simp
    | insert a s ha ih =>
      rw [Finset.sum_insert ha, Finset.sum_insert ha, ih, EReal.right_distrib_of_nonneg (hf a) (Finset.sum_nonneg fun i _ => hf i)]
  exact h Finset.univ

theorem group64 (P : Fin 512 → EReal) (n : Fin 512) :
    ∑ x : Fin 512, P x * P x * (if (⟨x.val / 64, by omega⟩ : Fin 8) = ⟨n.val / 64, by omega⟩ then ((1 / 64 : ℝ) : EReal) else 0) = mean64 P n := by
  have e : ∀ j : Fin 8, ∑ i : Fin 64, (P ⟨j.val * 64 + i.val, by omega⟩ * P ⟨j.val * 64 + i.val, by omega⟩
      * (if (⟨(j.val * 64 + i.val) / 64, by omega⟩ : Fin 8) = ⟨n.val / 64, by omega⟩ then ((1 / 64 : ℝ) : EReal) else 0))
      = if j = ⟨n.val / 64, by omega⟩ then (∑ i : Fin 64, P ⟨j.val * 64 + i.val, by omega⟩ * P ⟨j.val * 64 + i.val, by omega⟩) * ((1 / 64 : ℝ) : EReal) else 0 := by
    intro j
    have ej : ∀ i : Fin 64, (⟨(j.val * 64 + i.val) / 64, by omega⟩ : Fin 8) = j := fun i => Fin.ext (by simp only; omega)
    simp only [ej]
    by_cases h : j = ⟨n.val / 64, by omega⟩
    · simp only [if_pos h]
      exact sum_mul_real _ _ (by norm_num) fun i => sq_nonneg' _
    · simp only [if_neg h, mul_zero, Finset.sum_const_zero]
  refine (Fin.sum_univ_tiles 8 64 rfl _).trans ?_
  refine (Finset.sum_congr rfl fun j _ => e j).trans ?_
  rw [Finset.sum_ite_eq' Finset.univ (⟨n.val / 64, by omega⟩ : Fin 8), if_pos (Finset.mem_univ _)]
  unfold mean64 Ideal.div
  rw [w64, if_neg (fun h => (by norm_num : (64 : ℝ) ≠ 0) (EReal.coe_eq_zero.mp h)), one_div, EReal.coe_inv]

theorem group32 (P : Fin 256 → EReal) (n : Fin 256) :
    ∑ x : Fin 256, P x * P x * (if (⟨x.val / 32, by omega⟩ : Fin 8) = ⟨n.val / 32, by omega⟩ then ((1 / 32 : ℝ) : EReal) else 0) = mean32 P n := by
  have e : ∀ j : Fin 8, ∑ i : Fin 32, (P ⟨j.val * 32 + i.val, by omega⟩ * P ⟨j.val * 32 + i.val, by omega⟩
      * (if (⟨(j.val * 32 + i.val) / 32, by omega⟩ : Fin 8) = ⟨n.val / 32, by omega⟩ then ((1 / 32 : ℝ) : EReal) else 0))
      = if j = ⟨n.val / 32, by omega⟩ then (∑ i : Fin 32, P ⟨j.val * 32 + i.val, by omega⟩ * P ⟨j.val * 32 + i.val, by omega⟩) * ((1 / 32 : ℝ) : EReal) else 0 := by
    intro j
    have ej : ∀ i : Fin 32, (⟨(j.val * 32 + i.val) / 32, by omega⟩ : Fin 8) = j := fun i => Fin.ext (by simp only; omega)
    simp only [ej]
    by_cases h : j = ⟨n.val / 32, by omega⟩
    · simp only [if_pos h]
      exact sum_mul_real _ _ (by norm_num) fun i => sq_nonneg' _
    · simp only [if_neg h, mul_zero, Finset.sum_const_zero]
  refine (Fin.sum_univ_tiles 8 32 rfl _).trans ?_
  refine (Finset.sum_congr rfl fun j _ => e j).trans ?_
  rw [Finset.sum_ite_eq' Finset.univ (⟨n.val / 32, by omega⟩ : Fin 8), if_pos (Finset.mem_univ _)]
  unfold mean32 Ideal.div
  rw [w32, if_neg (fun h => (by norm_num : (32 : ℝ) ≠ 0) (EReal.coe_eq_zero.mp h)), one_div, EReal.coe_inv]

theorem pay4_at (r : Fin 512) (k : Fin 1024) :
    k0_pay4 (F := Ideal) (View.ld x0 r0_0) (View.ld x3 r0_1) (View.ld x2 r0_2) (View.ld x1 r0_2) (ix2 r k) = hK x0 x1 x2 x3 r k := by
  pointwise [k0_pay4]
  unfold hK hRow epsE
  rfl

/-- A section of a row of the projection, `off` columns in. -/
abbrev sec (h : FVec Ideal S512x1024 .bf16) (off N : ℕ) (ho : off + N ≤ 2560) (r : Fin 512) (n : Fin N) : EReal :=
  ∑ k : Fin 1024, h (ix2 r k) * x4 (ix2 k ⟨off + n.val, by omega⟩)

theorem pay3_at (h : FVec Ideal S512x1024 .bf16) (r : Fin 512) (n : Fin 256) :
    k0_pay3 (F := Ideal) h (View.ld x4 r0_18) (ix3 0 r n) = sec x4 h 2304 256 (by norm_num) r n := by
  pointwise [k0_pay3]

theorem pay2_at (h : FVec Ideal S512x1024 .bf16) (r : Fin 512) (n : Fin 256) :
    k0_pay2 (F := Ideal) h (View.ld x4 r0_16) (ix4 0 0 n r) = sec x4 h 2048 256 (by norm_num) r n := by
  pointwise [k0_pay2]

theorem pay11_at (h : FVec Ideal S512x1024 .bf16) (r : Fin 512) (n : Fin 512) :
    k0_pay12 (F := Ideal) (k0_pay11 (F := Ideal) h (View.ld x4 r0_8)) (ix3 0 r n) = sec x4 h 1024 512 (by norm_num) r n := by
  pointwise [k0_pay11, k0_pay12]

theorem pay5_at (r n : Fin 512) :
    k0_pay5 (F := Ideal) (View.ld x0 r0_0) (View.ld x3 r0_1) (View.ld x2 r0_2) (View.ld x1 r0_2) (View.ld x4 r0_3) (ix2 r n)
      = sec x4 (k0_pay4 (F := Ideal) (View.ld x0 r0_0) (View.ld x3 r0_1) (View.ld x2 r0_2) (View.ld x1 r0_2)) 0 512 (by norm_num) r n := by
  pointwise [k0_pay5]
  exact Finset.sum_congr rfl fun k _ => congrArg (fun j => _ * x4 (ix2 k j)) (Fin.ext (Nat.zero_add _).symm)

theorem pay7_at (r n : Fin 512) :
    k0_pay7 (F := Ideal) (View.ld x0 r0_0) (View.ld x3 r0_1) (View.ld x2 r0_2) (View.ld x1 r0_2) (View.ld x4 r0_3) (ix2 r n)
      = sec x4 (k0_pay4 (F := Ideal) (View.ld x0 r0_0) (View.ld x3 r0_1) (View.ld x2 r0_2) (View.ld x1 r0_2)) 0 512 (by norm_num) r n
        * sec x4 (k0_pay4 (F := Ideal) (View.ld x0 r0_0) (View.ld x3 r0_1) (View.ld x2 r0_2) (View.ld x1 r0_2)) 0 512 (by norm_num) r n := by
  rw [← pay5_at]
  pointwise [k0_pay7]

theorem pay9_at (p : FVec Ideal S512x512 .f32) (p2 : FVec Ideal S512x512 .bf16) (g : FVec Ideal S1x512 .f32) (G : FVec Ideal S512x512 .bf16)
    (P : Fin 512 → EReal) (g' : Fin 64 → EReal) (r n : Fin 512) (hp : ∀ k, p (ix2 r k) = P k) (hp2 : ∀ k, p2 (ix2 r k) = P k * P k)
    (hg : g (ix2 0 n) = g' ⟨n.val % 64, by omega⟩)
    (hG : ∀ k, G (ix2 k n) = if (⟨k.val / 64, by omega⟩ : Fin 8) = ⟨n.val / 64, by omega⟩ then ((1 / 64 : ℝ) : EReal) else 0) :
    k0_pay9 (F := Ideal) p (k0_pay6 (View.ld g r0_4)) p2 (k0_pay8 (View.ld G r0_5)) (ix3 0 r n) = nrm64 P g' n * Ideal.ofBits .f32 0x3E000000#32 := by
  pointwise [k0_pay9, k0_pay6, k0_pay8]
  simp only [hp, hp2, hg, hG]
  rw [group64]
  rfl

theorem pay10_at (h : FVec Ideal S512x1024 .bf16) (g : FVec Ideal S1x512 .f32) (G : FVec Ideal S512x512 .bf16) (g' : Fin 64 → EReal) (r n : Fin 512)
    (hg : g (ix2 0 n) = g' ⟨n.val % 64, by omega⟩)
    (hG : ∀ k, G (ix2 k n) = if (⟨k.val / 64, by omega⟩ : Fin 8) = ⟨n.val / 64, by omega⟩ then ((1 / 64 : ℝ) : EReal) else 0) :
    k0_pay10 (F := Ideal) h (View.ld x4 r0_7) (View.ld g r0_4) (View.ld G r0_5) (ix3 0 r n) = nrm64 (sec x4 h 512 512 (by norm_num) r) g' n := by
  pointwise [k0_pay10]
  simp only [hg, hG]
  have e := group64 (sec x4 h 512 512 (by norm_num) r) n
  exact congrArg (fun z => sec x4 h 512 512 (by norm_num) r n * Ideal.rsqrt (z + epsE) * g' ⟨n.val % 64, by omega⟩) e

theorem lane_at : ∀ n : Fin 256, IntOp.cmpi CmpIPredicate.eq (IntOp.andi (BitVec.ofNat 32 n.val) 8#32) 0#32 = if n.val % 16 < 8 then 1#1 else 0#1 := by
  decide +kernel

theorem select_lane (n : Fin 256) (a b : EReal) :
    (Scalar.select (IntOp.cmpi CmpIPredicate.eq (IntOp.andi (BitVec.ofNat 32 n.val) 8#32) 0#32) a b : EReal) = if n.val % 16 < 8 then a else b := by
  rw [lane_at]
  by_cases h : n.val % 16 < 8
  · rw [if_pos h, if_pos h]; rfl
  · rw [if_neg h, if_neg h]; rfl

theorem rot_at (Q : Fin 256 → EReal) (n : Fin 256) (h1 : (n.val + 256 - 248) % 256 < 256) (h2 : (n.val + 256 - 8) % 256 < 256) :
    (if n.val % 16 < 8 then Q ⟨(n.val + 256 - 248) % 256, h1⟩ else Q ⟨(n.val + 256 - 8) % 256, h2⟩) = Q (partner n) := by
  unfold partner
  by_cases h : n.val % 16 < 8
  · rw [if_pos h, if_pos h]
    exact congrArg Q (Fin.ext (by simp only; omega))
  · rw [if_neg h, if_neg h]
    exact congrArg Q (Fin.ext (by simp only; omega))

theorem named_at : (Named.named κ "base_two_scale" 0x3E8293EE#32 : Ideal .f32) = (((Real.sqrt 32 * Real.log 2)⁻¹ : ℝ) : EReal) := rfl

theorem pay13_at (h : FVec Ideal S512x1024 .bf16) (g : FVec Ideal S1x256 .f32) (G : FVec Ideal S256x256 .bf16) (C S : FVec Ideal S512x256 .f32)
    (g' : Fin 32 → EReal) (a : Fin 256 → EReal) (r : Fin 512) (n : Fin 256)
    (hg : ∀ n : Fin 256, g (ix2 0 n) = g' ⟨n.val % 32, by omega⟩)
    (hG : ∀ k n : Fin 256, G (ix2 k n) = if (⟨k.val / 32, by omega⟩ : Fin 8) = ⟨n.val / 32, by omega⟩ then ((1 / 32 : ℝ) : EReal) else 0)
    (hC : C (ix2 r n) = Ideal.cos (a n)) (hS : S (ix2 r n) = Ideal.sin (a n) * (if n.val % 16 < 8 then -1 else 1)) :
    k0_pay14 (F := Ideal) (k0_pay13 h (View.ld x4 r0_9) (View.ld g r0_10) (View.ld G r0_11) (View.ld C r0_12) (View.ld S r0_12)) (ix3 0 n r)
      = rope (nrm32 (sec x4 h 1536 256 (by norm_num) r) g') a n * (((Real.sqrt 32 * Real.log 2)⁻¹ : ℝ) : EReal) := by
  have hQ : ∀ n : Fin 256, nrm32 (sec x4 h 1536 256 (by norm_num) r) g' n = sec x4 h 1536 256 (by norm_num) r n *
      Ideal.rsqrt (∑ x : Fin 256, sec x4 h 1536 256 (by norm_num) r x * sec x4 h 1536 256 (by norm_num) r x * G (ix2 x n) + epsE) * g (ix2 0 n) := fun n => by
    simp only [hG, hg]
    rw [group32]
    rfl
  pointwise [k0_pay13, k0_pay14]
  rw [select_lane, named_at, hC, hS]
  unfold rope
  rw [← rot_at (nrm32 (sec x4 h 1536 256 (by norm_num) r) g') n (Nat.mod_lt _ (by norm_num)) (Nat.mod_lt _ (by norm_num))]
  simp only [hQ]
  rfl

theorem pay15_at (h : FVec Ideal S512x1024 .bf16) (g : FVec Ideal S1x256 .f32) (G : FVec Ideal S256x256 .bf16) (C S : FVec Ideal S512x256 .f32)
    (g' : Fin 32 → EReal) (a : Fin 256 → EReal) (r : Fin 512) (n : Fin 256)
    (hg : ∀ n : Fin 256, g (ix2 0 n) = g' ⟨n.val % 32, by omega⟩)
    (hG : ∀ k n : Fin 256, G (ix2 k n) = if (⟨k.val / 32, by omega⟩ : Fin 8) = ⟨n.val / 32, by omega⟩ then ((1 / 32 : ℝ) : EReal) else 0)
    (hC : C (ix2 r n) = Ideal.cos (a n)) (hS : S (ix2 r n) = Ideal.sin (a n) * (if n.val % 16 < 8 then -1 else 1)) :
    k0_pay1 (F := Ideal) (k0_pay15 h (View.ld x4 r0_14) (View.ld g r0_10) (View.ld G r0_11) (View.ld C r0_12) (View.ld S r0_12)) (ix3 0 r n)
      = rope (nrm32 (sec x4 h 1792 256 (by norm_num) r) g') a n := by
  have hQ : ∀ n : Fin 256, nrm32 (sec x4 h 1792 256 (by norm_num) r) g' n = sec x4 h 1792 256 (by norm_num) r n *
      Ideal.rsqrt (∑ x : Fin 256, sec x4 h 1792 256 (by norm_num) r x * sec x4 h 1792 256 (by norm_num) r x * G (ix2 x n) + epsE) * g (ix2 0 n) := fun n => by
    simp only [hG, hg]
    rw [group32]
    rfl
  pointwise [k0_pay15, k0_pay1]
  rw [select_lane, hC, hS]
  unfold rope
  rw [← rot_at (nrm32 (sec x4 h 1792 256 (by norm_num) r) g') n (Nat.mod_lt _ (by norm_num)) (Nat.mod_lt _ (by norm_num))]
  simp only [hQ]
  rfl

end Cert.ProjIdeal.In

end
-- ==== Proof.ProjRun.lean ====
/- What the input projection leaves in its seven result arrays. -/
module

public import proofs.«01_k».proof.Proof.ProjPay

@[expose] public section

set_option maxRecDepth 16384

noncomputable section

open Idealize.ShloMosaic Idealize.ShloMosaic.TcCoe Idealize.SL.Sem
open Idealize.ShloMosaic.Pipeline (Dat)
open scoped BigOperators

namespace Cert.ProjIdeal.In

open Cert.ProjIdeal Cert.ProjIdeal.Gen

section Arrays

variable (A0 : FVec Ideal S2x8192x1024 .f32) (A1 A2 : FVec Ideal S2x1x1024 .f32) (A3 : FVec Ideal S1024 .f32) (A4 : FVec Ideal S1024x2560 .f32)

/-- The modulated row of a token, from the arguments. -/
def hA (b : Fin 2) (s : Fin 8192) (k : Fin 1024) : EReal :=
  hRow (fun j => A0 (ix3 b s j)) (fun j => A1 (ix3 b 0 j)) (fun j => A2 (ix3 b 0 j)) (fun j => A3 (ix1 j)) k

/-- A section of a token's projection, `off` columns in. -/
def pA (off N : ℕ) (ho : off + N ≤ 2560) (b : Fin 2) (s : Fin 8192) (n : Fin N) : EReal :=
  ∑ k : Fin 1024, hA A0 A1 A2 A3 b s k * A4 (ix2 k ⟨off + n.val, by omega⟩)

/-- The first heads' queries. -/
def resNq (A5 : FVec Ideal S64 .f32) : FVec Ideal S2x8192x512 .bf16 := fun y =>
  nrm64 (pA A0 A1 A2 A3 A4 0 512 (by norm_num) (y 0) (y 1)) (fun i => A5 (ix1 i)) (y 2) * Ideal.ofBits .f32 0x3E000000#32

/-- The first heads' keys. -/
def resNk (A6 : FVec Ideal S64 .f32) : FVec Ideal S2x8192x512 .bf16 := fun y =>
  nrm64 (pA A0 A1 A2 A3 A4 512 512 (by norm_num) (y 0) (y 1)) (fun i => A6 (ix1 i)) (y 2)

/-- The first heads' values. -/
def resNv : FVec Ideal S2x8192x512 .bf16 := fun y => pA A0 A1 A2 A3 A4 1024 512 (by norm_num) (y 0) (y 1) (y 2)

/-- The second heads' rotated and scaled queries, channels first. -/
def resDq (A7 : FVec Ideal S32 .f32) : FVec Ideal S2x256x8192 .bf16 := fun y =>
  rope (nrm32 (pA A0 A1 A2 A3 A4 1536 256 (by norm_num) (y 0) (y 2)) (fun i => A7 (ix1 i))) (angAt (y 2)) (y 1) * (((Real.sqrt 32 * Real.log 2)⁻¹ : ℝ) : EReal)

/-- The second heads' rotated keys. -/
def resDk (A8 : FVec Ideal S32 .f32) : FVec Ideal S2x8192x256 .bf16 := fun y =>
  rope (nrm32 (pA A0 A1 A2 A3 A4 1792 256 (by norm_num) (y 0) (y 1)) (fun i => A8 (ix1 i))) (angAt (y 1)) (y 2)

/-- The second heads' values, tile by tile, channels first. -/
def resDv : FVec Ideal S2x16x256x512 .bf16 := fun y =>
  pA A0 A1 A2 A3 A4 2048 256 (by norm_num) (y 0) ⟨512 * (show Fin 16 from y 1).val + (show Fin 512 from y 3).val, by have := (show Fin 16 from y 1).isLt; have := (show Fin 512 from y 3).isLt; omega⟩ (y 2)

/-- The gate. -/
def resFu : FVec Ideal S2x8192x256 .f32 := fun y => pA A0 A1 A2 A3 A4 2304 256 (by norm_num) (y 0) (y 1) (y 2)

end Arrays

variable (m : (ℓ : Loc nD τ Cert.ProjIdeal.sig) → Buf (Elt Ideal) ℓ)

/-- Every window's block index at every grid point. -/
theorem idx_val : ∀ t : Fin cfg0.N, win0_0.index t = ![t.val / 16, t.val % 16, 0]
    ∧ win0_1.index t = ![t.val / 16, 0, 0]
    ∧ win0_2.index t = ![t.val / 16, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val % 16, 0]
    ∧ win0_12.index t = ![t.val % 16, 0]
    ∧ win0_13.index t = ![t.val / 16, t.val % 16, 0]
    ∧ win0_14.index t = ![t.val / 16, t.val % 16, 0]
    ∧ win0_15.index t = ![t.val / 16, t.val % 16, 0]
    ∧ win0_16.index t = ![t.val / 16, 0, t.val % 16]
    ∧ win0_17.index t = ![t.val / 16, t.val % 16, 0]
    ∧ win0_18.index t = ![t.val / 16, t.val % 16, 0, 0]
    ∧ win0_19.index t = ![t.val / 16, t.val % 16, 0] :=
  (by decide +kernel : ∀ t : Fin grid0.N, _)

theorem lt_pts : ∀ t : Fin cfg0.N, t.val / 16 < 2 := (by decide +kernel : ∀ t : Fin grid0.N, _)

/-- The batch of a grid point. -/
def bOf (t : Fin cfg0.N) : Fin 2 := ⟨t.val / 16, lt_pts t⟩
/-- The token of a row of a grid point's tile. -/
def sOf (t : Fin cfg0.N) (r : Fin 512) : Fin 8192 := ⟨t.val % 16 * 512 + r.val, by omega⟩

/-- The tile of a grid point. -/
def tOf (t : Fin cfg0.N) : Fin 16 := ⟨t.val % 16, Nat.mod_lt _ (by norm_num)⟩

theorem V_arg0 (c : Dev nD) : V m c main_arg0 = m ((c : Thread nD τ).loc main_arg0) := by
  rw [V_split]
  unfold W0
  after_results_simp

theorem V_arg1 (c : Dev nD) : V m c main_arg1 = m ((c : Thread nD τ).loc main_arg1) := by
  rw [V_split]
  unfold W0
  after_results_simp

theorem V_arg2 (c : Dev nD) : V m c main_arg2 = m ((c : Thread nD τ).loc main_arg2) := by
  rw [V_split]
  unfold W0
  after_results_simp

theorem x_blk (c : Dev nD) (t : Fin cfg0.N) (r : Fin 512) (k : Fin 1024) :
    (iblk m c 0 t : FVec Ideal S1x512x1024 .f32) (ix3 0 r k) = (m ((c : Thread nD τ).loc main_arg0) : FVec Ideal S2x8192x1024 .f32) (ix3 (bOf t) (sOf t r) k) := by
  refine Eq.trans (b := (V m c main_arg0 : FVec Ideal S2x8192x1024 .f32) (ix3 (bOf t) (sOf t r) k)) ?_ (congrFun (V_arg0 m c) _)
  blk_ext [iblk, idx_val t, bOf, sOf]

theorem sh_blk (c : Dev nD) (t : Fin cfg0.N) (k : Fin 1024) :
    (iblk m c 1 t : FVec Ideal S1x1x1024 .f32) (ix3 0 0 k) = (m ((c : Thread nD τ).loc main_arg1) : FVec Ideal S2x1x1024 .f32) (ix3 (bOf t) 0 k) := by
  refine Eq.trans (b := (V m c main_arg1 : FVec Ideal S2x1x1024 .f32) (ix3 (bOf t) 0 k)) ?_ (congrFun (V_arg1 m c) _)
  blk_ext [iblk, idx_val t, bOf, sOf]

theorem sc_blk (c : Dev nD) (t : Fin cfg0.N) (k : Fin 1024) :
    (iblk m c 2 t : FVec Ideal S1x1x1024 .f32) (ix3 0 0 k) = (m ((c : Thread nD τ).loc main_arg2) : FVec Ideal S2x1x1024 .f32) (ix3 (bOf t) 0 k) := by
  refine Eq.trans (b := (V m c main_arg2 : FVec Ideal S2x1x1024 .f32) (ix3 (bOf t) 0 k)) ?_ (congrFun (V_arg2 m c) _)
  blk_ext [iblk, idx_val t, bOf, sOf]

theorem g_blk (c : Dev nD) (t : Fin cfg0.N) (k : Fin 1024) :
    (iblk m c 3 t : FVec Ideal S1x1024 .f32) (ix2 0 k) = (m ((c : Thread nD τ).loc main_arg3) : FVec Ideal S1024 .f32) (ix1 k) := by
  refine Eq.trans (b := (V m c main_v53 : FVec Ideal S1x1024 .f32) (ix2 0 k)) ?_ (V_g m c k)
  blk_ext [iblk, idx_val t]

theorem w_blk (c : Dev nD) (t : Fin cfg0.N) (k : Fin 1024) (n : Fin 2560) :
    (iblk m c 4 t : FVec Ideal S1024x2560 .bf16) (ix2 k n) = (m ((c : Thread nD τ).loc main_arg4) : FVec Ideal S1024x2560 .f32) (ix2 k n) := by
  refine Eq.trans (b := (V m c main_v54 : FVec Ideal S1024x2560 .bf16) (ix2 k n)) ?_ (V_w m c k n)
  blk_ext [iblk, idx_val t]

theorem gq_blk (c : Dev nD) (t : Fin cfg0.N) (n : Fin 512) :
    (iblk m c 5 t : FVec Ideal S1x512 .f32) (ix2 0 n) = (m ((c : Thread nD τ).loc main_arg5) : FVec Ideal S64 .f32) (ix1 ⟨n.val % 64, by omega⟩) := by
  refine Eq.trans (b := (V m c main_v40 : FVec Ideal S1x512 .f32) (ix2 0 n)) ?_ (V_gq m c n)
  blk_ext [iblk, idx_val t]

theorem gk_blk (c : Dev nD) (t : Fin cfg0.N) (n : Fin 512) :
    (iblk m c 6 t : FVec Ideal S1x512 .f32) (ix2 0 n) = (m ((c : Thread nD τ).loc main_arg6) : FVec Ideal S64 .f32) (ix1 ⟨n.val % 64, by omega⟩) := by
  refine Eq.trans (b := (V m c main_v44 : FVec Ideal S1x512 .f32) (ix2 0 n)) ?_ (V_gk m c n)
  blk_ext [iblk, idx_val t]

theorem dgq_blk (c : Dev nD) (t : Fin cfg0.N) (n : Fin 256) :
    (iblk m c 7 t : FVec Ideal S1x256 .f32) (ix2 0 n) = (m ((c : Thread nD τ).loc main_arg7) : FVec Ideal S32 .f32) (ix1 ⟨n.val % 32, by omega⟩) := by
  refine Eq.trans (b := (V m c main_v48 : FVec Ideal S1x256 .f32) (ix2 0 n)) ?_ (V_dgq m c n)
  blk_ext [iblk, idx_val t]

theorem dgk_blk (c : Dev nD) (t : Fin cfg0.N) (n : Fin 256) :
    (iblk m c 8 t : FVec Ideal S1x256 .f32) (ix2 0 n) = (m ((c : Thread nD τ).loc main_arg8) : FVec Ideal S32 .f32) (ix1 ⟨n.val % 32, by omega⟩) := by
  refine Eq.trans (b := (V m c main_v52 : FVec Ideal S1x256 .f32) (ix2 0 n)) ?_ (V_dgk m c n)
  blk_ext [iblk, idx_val t]

theorem g64_blk (c : Dev nD) (t : Fin cfg0.N) (k n : Fin 512) : (iblk m c 9 t : FVec Ideal S512x512 .bf16) (ix2 k n)
    = if (⟨k.val / 64, by omega⟩ : Fin 8) = ⟨n.val / 64, by omega⟩ then ((1 / 64 : ℝ) : EReal) else 0 := by
  refine Eq.trans (b := (V m c main_v66 : FVec Ideal S512x512 .bf16) (ix2 k n)) ?_ (V_g64 m c k n)
  blk_ext [iblk, idx_val t]

theorem g32_blk (c : Dev nD) (t : Fin cfg0.N) (k n : Fin 256) : (iblk m c 10 t : FVec Ideal S256x256 .bf16) (ix2 k n)
    = if (⟨k.val / 32, by omega⟩ : Fin 8) = ⟨n.val / 32, by omega⟩ then ((1 / 32 : ℝ) : EReal) else 0 := by
  refine Eq.trans (b := (V m c main_v78 : FVec Ideal S256x256 .bf16) (ix2 k n)) ?_ (V_g32 m c k n)
  blk_ext [iblk, idx_val t]

theorem cos_blk (c : Dev nD) (t : Fin cfg0.N) (r : Fin 512) (n : Fin 256) : (iblk m c 11 t : FVec Ideal S512x256 .f32) (ix2 r n)
    = Ideal.cos (angAt (sOf t r) n) := by
  refine Eq.trans (b := (V m c main_v33 : FVec Ideal S8192x256 .f32) (ix2 (sOf t r) n)) ?_ (V_cos m c _ n)
  blk_ext [iblk, idx_val t, sOf]

theorem sin_blk (c : Dev nD) (t : Fin cfg0.N) (r : Fin 512) (n : Fin 256) : (iblk m c 12 t : FVec Ideal S512x256 .f32) (ix2 r n)
    = Ideal.sin (angAt (sOf t r) n) * (if n.val % 16 < 8 then -1 else 1) := by
  refine Eq.trans (b := (V m c main_v36 : FVec Ideal S8192x256 .f32) (ix2 (sOf t r) n)) ?_ (V_sin m c _ n)
  blk_ext [iblk, idx_val t, sOf]

/-- The modulated rows of a grid point. -/
abbrev hT (c : Dev nD) (t : Fin cfg0.N) : FVec Ideal S512x1024 .bf16 :=
  k0_pay4 (F := Ideal) (View.ld (iblk m c 0 t) r0_0) (View.ld (iblk m c 3 t) r0_1) (View.ld (iblk m c 2 t) r0_2) (View.ld (iblk m c 1 t) r0_2)

theorem h_blk (c : Dev nD) (t : Fin cfg0.N) (r : Fin 512) (k : Fin 1024) :
    hT m c t (ix2 r k) = hA (m ((c : Thread nD τ).loc main_arg0)) (m ((c : Thread nD τ).loc main_arg1)) (m ((c : Thread nD τ).loc main_arg2)) (m ((c : Thread nD τ).loc main_arg3)) (bOf t) (sOf t r) k := by
  refine (pay4_at _ _ _ _ r k).trans ?_
  unfold hK hA
  simp only [x_blk, sh_blk, sc_blk, g_blk]

theorem sec_blk (c : Dev nD) (t : Fin cfg0.N) (off N : ℕ) (ho : off + N ≤ 2560) (r : Fin 512) :
    sec (iblk m c 4 t) (hT m c t) off N ho r = pA (m ((c : Thread nD τ).loc main_arg0)) (m ((c : Thread nD τ).loc main_arg1)) (m ((c : Thread nD τ).loc main_arg2)) (m ((c : Thread nD τ).loc main_arg3)) (m ((c : Thread nD τ).loc main_arg4)) off N ho (bOf t) (sOf t r) := by
  funext n
  unfold pA
  exact Finset.sum_congr rfl fun k _ => Ideal.mul_congr (h_blk m c t r k) (w_blk m c t k _)

theorem can6 (v : Vec Ideal S1x512x512 .bf16) : View.canon [⟨r0_6, v⟩] = v := by frame_out
theorem can13 (v : Vec Ideal S1x256x512 .bf16) : View.canon [⟨r0_13, v⟩] = v := by frame_out
theorem can15 (v : Vec Ideal S1x512x256 .bf16) : View.canon [⟨r0_15, v⟩] = v := by frame_out
theorem can15f (v : Vec Ideal S1x512x256 .f32) : View.canon [⟨r0_15, v⟩] = v := by frame_out
theorem can17 (v : Vec Ideal S1x1x256x512 .bf16) : View.canon [⟨r0_17, v⟩] = v := by frame_out

theorem out13_at (c : Dev nD) (t : Fin cfg0.N) (r : Fin 512) (n : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r n) = resNq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bOf t) (sOf t r) n) := by
  unfold out0_13
  rw [can6]
  have e : ∀ k, k0_pay5 (F := Ideal) (View.ld (iblk m c 0 t) r0_0) (View.ld (iblk m c 3 t) r0_1) (View.ld (iblk m c 2 t) r0_2) (View.ld (iblk m c 1 t) r0_2) (View.ld (iblk m c 4 t) r0_3) (ix2 r k)
      = pA (m ((c : Thread nD τ).loc main_arg0)) (m ((c : Thread nD τ).loc main_arg1)) (m ((c : Thread nD τ).loc main_arg2)) (m ((c : Thread nD τ).loc main_arg3)) (m ((c : Thread nD τ).loc main_arg4)) 0 512 (by norm_num) (bOf t) (sOf t r) k := fun k =>
    (pay5_at _ _ _ _ _ r k).trans (congrFun (sec_blk m c t 0 512 _ r) k)
  refine pay9_at (k0_pay5 (F := Ideal) (View.ld (iblk m c 0 t) r0_0) (View.ld (iblk m c 3 t) r0_1) (View.ld (iblk m c 2 t) r0_2) (View.ld (iblk m c 1 t) r0_2) (View.ld (iblk m c 4 t) r0_3)) (k0_pay7 (F := Ideal) (View.ld (iblk m c 0 t) r0_0) (View.ld (iblk m c 3 t) r0_1) (View.ld (iblk m c 2 t) r0_2) (View.ld (iblk m c 1 t) r0_2) (View.ld (iblk m c 4 t) r0_3)) (iblk m c 5 t) (iblk m c 9 t) (pA (m ((c : Thread nD τ).loc main_arg0)) (m ((c : Thread nD τ).loc main_arg1)) (m ((c : Thread nD τ).loc main_arg2)) (m ((c : Thread nD τ).loc main_arg3)) (m ((c : Thread nD τ).loc main_arg4)) 0 512 (by norm_num) (bOf t) (sOf t r)) (fun i => (m ((c : Thread nD τ).loc main_arg5) : FVec Ideal S64 .f32) (ix1 i)) r n e ?_ (gq_blk m c t n) (fun k => g64_blk m c t k n)
  intro k
  refine (pay7_at _ _ _ _ _ r k).trans ?_
  rw [← pay5_at]
  exact Ideal.mul_congr (e k) (e k)

theorem final13 (c : Dev nD) : (dats m 0 c).arrAt 13 (cfgs 0).N = resNq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t hf y => ?_
  blk_simp
  rw [after0_13]
  have e : ∀ y : S1x512x512.Idx, out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resNq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bOf t) (sOf t (y 1)) (y 2)) := fun y => by
    have ey : y = ix3 0 (y 1) (y 2) := (eq_ix3 y).trans (congrArg (fun i => ix3 i (y 1) (y 2)) (Subsingleton.elim (α := Fin 1) _ _))
    rw [ey]
    exact out13_at m c t (y 1) (y 2)
  refine (e y).trans ?_
  blk_ext [idx_val t, bOf, sOf, tOf]

theorem out14_at (c : Dev nD) (t : Fin cfg0.N) (r : Fin 512) (n : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r n) = resNk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix3 (bOf t) (sOf t r) n) := by
  unfold out0_14
  rw [can6]
  refine (pay10_at (iblk m c 4 t) (hT m c t) (iblk m c 6 t) (iblk m c 9 t) (fun i => (m ((c : Thread nD τ).loc main_arg6) : FVec Ideal S64 .f32) (ix1 i)) r n (gk_blk m c t n) (fun k => g64_blk m c t k n)).trans ?_
  rw [sec_blk]
  rfl

theorem final14 (c : Dev nD) : (dats m 0 c).arrAt 14 (cfgs 0).N = resNk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 14 _ (by decide +kernel) fun t hf y => ?_
  blk_simp
  rw [after0_14]
  have e : ∀ y : S1x512x512.Idx, out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resNk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix3 (bOf t) (sOf t (y 1)) (y 2)) := fun y => by
    have ey : y = ix3 0 (y 1) (y 2) := (eq_ix3 y).trans (congrArg (fun i => ix3 i (y 1) (y 2)) (Subsingleton.elim (α := Fin 1) _ _))
    rw [ey]
    exact out14_at m c t (y 1) (y 2)
  refine (e y).trans ?_
  blk_ext [idx_val t, bOf, sOf, tOf]

theorem out15_at (c : Dev nD) (t : Fin cfg0.N) (r : Fin 512) (n : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r n) = resNv (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (sOf t r) n) := by
  unfold out0_15
  rw [can6]
  exact (pay11_at (iblk m c 4 t) (hT m c t) r n).trans (congrFun (sec_blk m c t 1024 512 _ r) n)

theorem final15 (c : Dev nD) : (dats m 0 c).arrAt 15 (cfgs 0).N = resNv (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  have e : ∀ y : S1x512x512.Idx, out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resNv (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (sOf t (y 1)) (y 2)) := fun y => by
    have ey : y = ix3 0 (y 1) (y 2) := (eq_ix3 y).trans (congrArg (fun i => ix3 i (y 1) (y 2)) (Subsingleton.elim (α := Fin 1) _ _))
    rw [ey]
    exact out15_at m c t (y 1) (y 2)
  refine (e y).trans ?_
  blk_ext [idx_val t, bOf, sOf, tOf]

theorem out16_at (c : Dev nD) (t : Fin cfg0.N) (r : Fin 512) (n : Fin 256) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 n r) = resDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix3 (bOf t) n (sOf t r)) := by
  unfold out0_16
  rw [can13]
  refine (pay13_at (iblk m c 4 t) (hT m c t) (iblk m c 7 t) (iblk m c 10 t) (iblk m c 11 t) (iblk m c 12 t) (fun i => (m ((c : Thread nD τ).loc main_arg7) : FVec Ideal S32 .f32) (ix1 i)) (angAt (sOf t r)) r n
    (dgq_blk m c t) (g32_blk m c t) (cos_blk m c t r n) (sin_blk m c t r n)).trans ?_
  rw [sec_blk]
  rfl

theorem final16 (c : Dev nD) : (dats m 0 c).arrAt 16 (cfgs 0).N = resDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 16 _ (by decide +kernel) fun t hf y => ?_
  blk_simp
  rw [after0_16]
  have e : ∀ y : S1x256x512.Idx, out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix3 (bOf t) (y 1) (sOf t (y 2))) := fun y => by
    have ey : y = ix3 0 (y 1) (y 2) := (eq_ix3 y).trans (congrArg (fun i => ix3 i (y 1) (y 2)) (Subsingleton.elim (α := Fin 1) _ _))
    rw [ey]
    exact out16_at m c t (y 2) (y 1)
  refine (e y).trans ?_
  blk_ext [idx_val t, bOf, sOf, tOf]

theorem out17_at (c : Dev nD) (t : Fin cfg0.N) (r : Fin 512) (n : Fin 256) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r n) = resDk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (ix3 (bOf t) (sOf t r) n) := by
  unfold out0_17
  rw [can15]
  refine (pay15_at (iblk m c 4 t) (hT m c t) (iblk m c 8 t) (iblk m c 10 t) (iblk m c 11 t) (iblk m c 12 t) (fun i => (m ((c : Thread nD τ).loc main_arg8) : FVec Ideal S32 .f32) (ix1 i)) (angAt (sOf t r)) r n
    (dgk_blk m c t) (g32_blk m c t) (cos_blk m c t r n) (sin_blk m c t r n)).trans ?_
  rw [sec_blk]
  rfl

theorem final17 (c : Dev nD) : (dats m 0 c).arrAt 17 (cfgs 0).N = resDk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 17 _ (by decide +kernel) fun t hf y => ?_
  blk_simp
  rw [after0_17]
  have e : ∀ y : S1x512x256.Idx, out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resDk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (ix3 (bOf t) (sOf t (y 1)) (y 2)) := fun y => by
    have ey : y = ix3 0 (y 1) (y 2) := (eq_ix3 y).trans (congrArg (fun i => ix3 i (y 1) (y 2)) (Subsingleton.elim (α := Fin 1) _ _))
    rw [ey]
    exact out17_at m c t (y 1) (y 2)
  refine (e y).trans ?_
  blk_ext [idx_val t, bOf, sOf, tOf]

theorem out18_at (c : Dev nD) (t : Fin cfg0.N) (r : Fin 512) (n : Fin 256) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 0 n r) = resDv (m ((c : Thread nD τ).loc main_arg0)) (m ((c : Thread nD τ).loc main_arg1)) (m ((c : Thread nD τ).loc main_arg2)) (m ((c : Thread nD τ).loc main_arg3)) (m ((c : Thread nD τ).loc main_arg4)) (ix4 (bOf t) (tOf t) n r) := by
  unfold out0_18
  rw [can17]
  refine (pay2_at (iblk m c 4 t) (hT m c t) r n).trans ((congrFun (sec_blk m c t 2048 256 _ r) n).trans ?_)
  exact congrArg (fun s => pA (m ((c : Thread nD τ).loc main_arg0)) (m ((c : Thread nD τ).loc main_arg1)) (m ((c : Thread nD τ).loc main_arg2)) (m ((c : Thread nD τ).loc main_arg3)) (m ((c : Thread nD τ).loc main_arg4)) 2048 256 _ (bOf t) s n) (Fin.ext (by show t.val % 16 * 512 + r.val = 512 * (t.val % 16) + r.val; omega))

theorem final18 (c : Dev nD) : (dats m 0 c).arrAt 18 (cfgs 0).N = resDv (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 18 _ (by decide +kernel) fun t hf y => ?_
  blk_simp
  rw [after0_18]
  have e : ∀ y : S1x1x256x512.Idx, out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resDv (m ((c : Thread nD τ).loc main_arg0)) (m ((c : Thread nD τ).loc main_arg1)) (m ((c : Thread nD τ).loc main_arg2)) (m ((c : Thread nD τ).loc main_arg3)) (m ((c : Thread nD τ).loc main_arg4)) (ix4 (bOf t) (tOf t) (y 2) (y 3)) := fun y => by
    have ey : y = ix4 0 0 (y 2) (y 3) := (eq_ix4 y).trans ((congrArg (fun i => ix4 i (y 1) (y 2) (y 3)) (Subsingleton.elim (α := Fin 1) _ _)).trans (congrArg (fun i => ix4 0 i (y 2) (y 3)) (Subsingleton.elim (α := Fin 1) _ _)))
    rw [ey]
    exact out18_at m c t (y 3) (y 2)
  refine (e y).trans ?_
  blk_ext [idx_val t, bOf, sOf, tOf]

theorem out19_at (c : Dev nD) (t : Fin cfg0.N) (r : Fin 512) (n : Fin 256) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r n) = resFu (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (sOf t r) n) := by
  unfold out0_19
  rw [can15f]
  exact (pay3_at (iblk m c 4 t) (hT m c t) r n).trans (congrFun (sec_blk m c t 2304 256 _ r) n)

theorem final19 (c : Dev nD) : (dats m 0 c).arrAt 19 (cfgs 0).N = resFu (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 19 _ (by decide +kernel) fun t hf y => ?_
  blk_simp
  rw [after0_19]
  have e : ∀ y : S1x512x256.Idx, out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resFu (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (sOf t (y 1)) (y 2)) := fun y => by
    have ey : y = ix3 0 (y 1) (y 2) := (eq_ix3 y).trans (congrArg (fun i => ix3 i (y 1) (y 2)) (Subsingleton.elim (α := Fin 1) _ _))
    rw [ey]
    exact out19_at m c t (y 1) (y 2)
  refine (e y).trans ?_
  blk_ext [idx_val t, bOf, sOf, tOf]

end Cert.ProjIdeal.In

end
-- ==== Proof.ProjRef.lean ====
/- The reference of the input projection, read at one index: the modulated rows, the projection, the heads' norms
   and the rotary embedding quarter by quarter. -/
module

public import proofs.«01_k».proof.Proof.ProjRun
public import proofs.«01_k».proof.Proof.Gen.ProjReferenceIdeal.Run

@[expose] public section

set_option maxRecDepth 16384

noncomputable section

open Idealize.ShloMosaic Idealize.ShloMosaic.TcCoe Idealize.SL.Sem
open scoped BigOperators

namespace Cert.ProjReferenceIdeal.In

open Cert.ProjReferenceIdeal Cert.ProjReferenceIdeal.Gen
open Cert.ProjIdeal.In (hRow hA pA epsE mean64 mean32 nrm64 nrm32 partner rope angle angAt rowW colW one_at)

/-- The projection of the modulated rows. -/
def proj (A0 : FVec Ideal S2x8192x1024 .f32) (A1 A2 : FVec Ideal S2x1x1024 .f32) (A3 : FVec Ideal S1024 .f32) (A4 : FVec Ideal S1024x2560 .f32) : FVec Ideal S2x8192x2560 .f32 :=
  Host.dotGeneral dot_S2x8192x1024_S1024x2560_S2x8192x2560_2_0_01_1_n_n none (addf (mulf (mulf (mulf A0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf A0 A0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 A3))) (broadcastInDim S2x8192x1024 ![0, 1, 2] bcast_S2x1x1024_S2x8192x1024_0_1_2 (addf (broadcastInDim S2x1x1024 ![] bcast_S_S2x1x1024 (constant S_ .f32 0x3F800000#32)) A2))) (broadcastInDim S2x8192x1024 ![0, 1, 2] bcast_S2x1x1024_S2x8192x1024_0_1_2 A1)) A4

theorem proj_at (A0 : FVec Ideal S2x8192x1024 .f32) (A1 A2 : FVec Ideal S2x1x1024 .f32) (A3 : FVec Ideal S1024 .f32) (A4 : FVec Ideal S1024x2560 .f32)
    (b : Fin 2) (s : Fin 8192) (n : Fin 2560) : proj A0 A1 A2 A3 A4 (ix3 b s n) = ∑ k : Fin 1024, hA A0 A1 A2 A3 b s k * A4 (ix2 k n) := by
  pointwise [proj]
  unfold hA hRow epsE
  rfl

/-- The columns from 0 on, head by head. -/
def cutNq (P : FVec Ideal S2x8192x2560 .f32) : FVec Ideal S2x8192x8x64 .f32 :=
  shapeCast _ (extractStridedSlice S2x8192x512 ![0, 0, 0] P slices_S2x8192x2560_S2x8192x512_0_0_0) shapeCasts_S2x8192x512_S2x8192x8x64

theorem cutNq_at (P : FVec Ideal S2x8192x2560 .f32) (b : Fin 2) (s : Fin 8192) (h : Fin 8) (i : Fin 64) :
    cutNq P (ix4 b s h i) = P (ix3 b s ⟨0 + (h.val * 64 + i.val), by omega⟩) := by
  pointwise [cutNq]
  all_goals exact congrArg P (congrArg (ix3 b s) (Fin.ext (by simp only; omega)))

/-- The columns from 512 on, head by head. -/
def cutNk (P : FVec Ideal S2x8192x2560 .f32) : FVec Ideal S2x8192x8x64 .f32 :=
  shapeCast _ (extractStridedSlice S2x8192x512 ![0, 0, 512] P slices_S2x8192x2560_S2x8192x512_0_0_512) shapeCasts_S2x8192x512_S2x8192x8x64

theorem cutNk_at (P : FVec Ideal S2x8192x2560 .f32) (b : Fin 2) (s : Fin 8192) (h : Fin 8) (i : Fin 64) :
    cutNk P (ix4 b s h i) = P (ix3 b s ⟨512 + (h.val * 64 + i.val), by omega⟩) := by
  pointwise [cutNk]
  all_goals exact congrArg P (congrArg (ix3 b s) (Fin.ext (by simp only; omega)))

/-- The columns from 1536 on, head by head. -/
def cutDq (P : FVec Ideal S2x8192x2560 .f32) : FVec Ideal S2x8192x8x32 .f32 :=
  shapeCast _ (extractStridedSlice S2x8192x256 ![0, 0, 1536] P slices_S2x8192x2560_S2x8192x256_0_0_1536) shapeCasts_S2x8192x256_S2x8192x8x32

theorem cutDq_at (P : FVec Ideal S2x8192x2560 .f32) (b : Fin 2) (s : Fin 8192) (h : Fin 8) (i : Fin 32) :
    cutDq P (ix4 b s h i) = P (ix3 b s ⟨1536 + (h.val * 32 + i.val), by omega⟩) := by
  pointwise [cutDq]
  all_goals exact congrArg P (congrArg (ix3 b s) (Fin.ext (by simp only; omega)))

/-- The columns from 1792 on, head by head. -/
def cutDk (P : FVec Ideal S2x8192x2560 .f32) : FVec Ideal S2x8192x8x32 .f32 :=
  shapeCast _ (extractStridedSlice S2x8192x256 ![0, 0, 1792] P slices_S2x8192x2560_S2x8192x256_0_0_1792) shapeCasts_S2x8192x256_S2x8192x8x32

theorem cutDk_at (P : FVec Ideal S2x8192x2560 .f32) (b : Fin 2) (s : Fin 8192) (h : Fin 8) (i : Fin 32) :
    cutDk P (ix4 b s h i) = P (ix3 b s ⟨1792 + (h.val * 32 + i.val), by omega⟩) := by
  pointwise [cutDk]
  all_goals exact congrArg P (congrArg (ix3 b s) (Fin.ext (by simp only; omega)))

/-- The heads normalised by their root mean squares and scaled by the gain. -/
def nr64 (q : FVec Ideal S2x8192x8x64 .f32) (g : FVec Ideal S64 .f32) : FVec Ideal S2x8192x8x64 .f32 :=
  mulf (mulf q (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf q q) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 g))

theorem nr64_at (q : FVec Ideal S2x8192x8x64 .f32) (g : FVec Ideal S64 .f32) (b : Fin 2) (s : Fin 8192) (h : Fin 8) (i : Fin 64) :
    nr64 q g (ix4 b s h i) = q (ix4 b s h i) * Ideal.rsqrt (Ideal.div (∑ j : Fin 64, q (ix4 b s h j) * q (ix4 b s h j)) (Ideal.ofBits .f32 0x42800000#32) + epsE) * g (ix1 i) := by
  pointwise [nr64]
  rfl

/-- The heads normalised by their root mean squares and scaled by the gain. -/
def nr32 (q : FVec Ideal S2x8192x8x32 .f32) (g : FVec Ideal S32 .f32) : FVec Ideal S2x8192x8x32 .f32 :=
  mulf (mulf q (broadcastInDim S2x8192x8x32 ![0, 1, 2, 3] bcast_S2x8192x8x1_S2x8192x8x32_0_1_2_3 (Host.rsqrt (addf (Host.divf (broadcastInDim S2x8192x8x1 ![0, 1, 2] bcast_S2x8192x8_S2x8192x8x1_0_1_2 (Host.reduceAdd (mulf q q) (constant S_ .f32 0x00000000#32) reducesTo_S2x8192x8x32_S2x8192x8_d3 h_S_)) (broadcastInDim S2x8192x8x1 ![] bcast_S_S2x8192x8x1 (constant S_ .f32 0x42000000#32))) (broadcastInDim S2x8192x8x1 ![] bcast_S_S2x8192x8x1 (constant S_ .f32 0x358637BD#32)))))) (broadcastInDim S2x8192x8x32 ![0, 1, 2, 3] bcast_S1x1x1x32_S2x8192x8x32_0_1_2_3 (broadcastInDim S1x1x1x32 ![3] bcast_S32_S1x1x1x32_3 g))

theorem nr32_at (q : FVec Ideal S2x8192x8x32 .f32) (g : FVec Ideal S32 .f32) (b : Fin 2) (s : Fin 8192) (h : Fin 8) (i : Fin 32) :
    nr32 q g (ix4 b s h i) = q (ix4 b s h i) * Ideal.rsqrt (Ideal.div (∑ j : Fin 32, q (ix4 b s h j) * q (ix4 b s h j)) (Ideal.ofBits .f32 0x42000000#32) + epsE) * g (ix1 i) := by
  pointwise [nr32]
  rfl

/-- A table of angles' cosines or sines, for every batch and head. -/
def tab (T : FVec Ideal S8192x8 .f32) : FVec Ideal S1x8192x1x8 .f32 := broadcastInDim S1x8192x1x8 ![1, 3] bcast_S8192x8_S1x8192x1x8_1_3 T

theorem tab_at (T : FVec Ideal S8192x8 .f32) (s : Fin 8192) (i : Fin 8) : tab T (ix4 0 s 0 i) = T (ix2 s i) := by
  pointwise [tab]

/-- The first half of every head. -/
def fst16 (N : FVec Ideal S2x8192x8x32 .f32) : FVec Ideal S2x8192x8x16 .f32 := extractStridedSlice S2x8192x8x16 ![0, 0, 0, 0] N slices_S2x8192x8x32_S2x8192x8x16_0_0_0_0

/-- The second half of every head. -/
def snd16 (N : FVec Ideal S2x8192x8x32 .f32) : FVec Ideal S2x8192x8x16 .f32 := extractStridedSlice S2x8192x8x16 ![0, 0, 0, 16] N slices_S2x8192x8x32_S2x8192x8x16_0_0_0_16

/-- The first quarter of a half. -/
def fst8 (Y : FVec Ideal S2x8192x8x16 .f32) : FVec Ideal S2x8192x8x8 .f32 := extractStridedSlice S2x8192x8x8 ![0, 0, 0, 0] Y slices_S2x8192x8x16_S2x8192x8x8_0_0_0_0

/-- The second quarter of a half. -/
def snd8 (Y : FVec Ideal S2x8192x8x16 .f32) : FVec Ideal S2x8192x8x8 .f32 := extractStridedSlice S2x8192x8x8 ![0, 0, 0, 8] Y slices_S2x8192x8x16_S2x8192x8x8_0_0_0_8

/-- One half of every head rotated by a table. -/
def turn (Y1 Y2 : FVec Ideal S2x8192x8x8 .f32) (C S : FVec Ideal S1x8192x1x8 .f32) : FVec Ideal S2x8192x8x16 .f32 :=
  concatenate S2x8192x8x16 3 [⟨S2x8192x8x8, (subf (mulf Y1 (broadcastInDim S2x8192x8x8 ![0, 1, 2, 3] bcast_S1x8192x1x8_S2x8192x8x8_0_1_2_3 C)) (mulf Y2 (broadcastInDim S2x8192x8x8 ![0, 1, 2, 3] bcast_S1x8192x1x8_S2x8192x8x8_0_1_2_3 S)))⟩, ⟨S2x8192x8x8, (addf (mulf Y1 (broadcastInDim S2x8192x8x8 ![0, 1, 2, 3] bcast_S1x8192x1x8_S2x8192x8x8_0_1_2_3 S)) (mulf Y2 (broadcastInDim S2x8192x8x8 ![0, 1, 2, 3] bcast_S1x8192x1x8_S2x8192x8x8_0_1_2_3 C)))⟩] concatenates_S2x8192x8x8_S2x8192x8x8_S2x8192x8x16_d3

theorem turn_lo (Y1 Y2 : FVec Ideal S2x8192x8x8 .f32) (C S : FVec Ideal S1x8192x1x8 .f32) (b : Fin 2) (s : Fin 8192) (h : Fin 8) (i : Fin 16) (hi : i.val < 8) :
    turn Y1 Y2 C S (ix4 b s h i) = Y1 (ix4 b s h ⟨i.val, hi⟩) * C (ix4 0 s 0 ⟨i.val, hi⟩) - Y2 (ix4 b s h ⟨i.val, hi⟩) * S (ix4 0 s 0 ⟨i.val, hi⟩) := by
  pointwise [turn, hi]

theorem turn_hi (Y1 Y2 : FVec Ideal S2x8192x8x8 .f32) (C S : FVec Ideal S1x8192x1x8 .f32) (b : Fin 2) (s : Fin 8192) (h : Fin 8) (i : Fin 16) (hi : ¬ i.val < 8) :
    turn Y1 Y2 C S (ix4 b s h i) = Y1 (ix4 b s h ⟨i.val - 8, by omega⟩) * S (ix4 0 s 0 ⟨i.val - 8, by omega⟩) + Y2 (ix4 b s h ⟨i.val - 8, by omega⟩) * C (ix4 0 s 0 ⟨i.val - 8, by omega⟩) := by
  pointwise [turn, hi]

/-- The two rotated halves of every head, side by side. -/
def join (U W : FVec Ideal S2x8192x8x16 .f32) : FVec Ideal S2x8192x256 .f32 :=
  shapeCast _ (concatenate S2x8192x8x32 3 [⟨S2x8192x8x16, U⟩, ⟨S2x8192x8x16, W⟩] concatenates_S2x8192x8x16_S2x8192x8x16_S2x8192x8x32_d3) shapeCasts_S2x8192x8x32_S2x8192x256

theorem join_lo (U W : FVec Ideal S2x8192x8x16 .f32) (b : Fin 2) (s : Fin 8192) (n : Fin 256) (hn : n.val % 32 < 16) :
    join U W (ix3 b s n) = U (ix4 b s ⟨n.val / 32, by omega⟩ ⟨n.val % 32, hn⟩) := by
  pointwise [join, hn]

theorem join_hi (U W : FVec Ideal S2x8192x8x16 .f32) (b : Fin 2) (s : Fin 8192) (n : Fin 256) (hn : ¬ n.val % 32 < 16) :
    join U W (ix3 b s n) = W (ix4 b s ⟨n.val / 32, by omega⟩ ⟨n.val % 32 - 16, by omega⟩) := by
  pointwise [join, hn]

theorem fst_fst (N : FVec Ideal S2x8192x8x32 .f32) (b : Fin 2) (s : Fin 8192) (h : Fin 8) (i : Fin 8) : fst8 (fst16 N) (ix4 b s h i) = N (ix4 b s h ⟨i.val, by omega⟩) := by
  pointwise [fst8, fst16]
theorem snd_fst (N : FVec Ideal S2x8192x8x32 .f32) (b : Fin 2) (s : Fin 8192) (h : Fin 8) (i : Fin 8) : snd8 (fst16 N) (ix4 b s h i) = N (ix4 b s h ⟨8 + i.val, by omega⟩) := by
  pointwise [snd8, fst16]
theorem fst_snd (N : FVec Ideal S2x8192x8x32 .f32) (b : Fin 2) (s : Fin 8192) (h : Fin 8) (i : Fin 8) : fst8 (snd16 N) (ix4 b s h i) = N (ix4 b s h ⟨16 + i.val, by omega⟩) := by
  pointwise [fst8, snd16]
theorem snd_snd (N : FVec Ideal S2x8192x8x32 .f32) (b : Fin 2) (s : Fin 8192) (h : Fin 8) (i : Fin 8) : snd8 (snd16 N) (ix4 b s h i) = N (ix4 b s h ⟨24 + i.val, by omega⟩) := by
  pointwise [snd8, snd16]
  exact congrArg (fun k => N (ix4 b s h k)) (Fin.ext (by simp only; omega))

/-- The rotary embedding of every head by two tables of angles. -/
def rot (N : FVec Ideal S2x8192x8x32 .f32) (R K : FVec Ideal S8192x8 .f32) : FVec Ideal S2x8192x256 .f32 :=
  join (turn (fst8 (fst16 N)) (snd8 (fst16 N)) (tab (Host.cos R)) (tab (Host.sin R))) (turn (fst8 (snd16 N)) (snd8 (snd16 N)) (tab (Host.cos K)) (tab (Host.sin K)))

theorem lo_eq (x y c s : EReal) : x * c - y * s = x * c + y * (s * -1) := by
  rw [sub_eq_add_neg, ← mul_neg, mul_neg_one]

theorem hi_eq (x y c s : EReal) : x * s + y * c = y * c + x * (s * 1) := by
  rw [mul_one, add_comm]

theorem N_congr (N : FVec Ideal S2x8192x8x32 .f32) (b : Fin 2) (s : Fin 8192) {h h' : Fin 8} {i i' : Fin 32} (e : h.val = h'.val) (e' : i.val = i'.val) :
    N (ix4 b s h i) = N (ix4 b s h' i') := by
  rw [show h = h' from Fin.ext e, show i = i' from Fin.ext e']

theorem T_congr (T : FVec Ideal S8192x8 .f32) (s : Fin 8192) {i i' : Fin 8} (e : i.val = i'.val) : T (ix2 s i) = T (ix2 s i') := by
  rw [show i = i' from Fin.ext e]

theorem cos_at (T : FVec Ideal S8192x8 .f32) (s : Fin 8192) (i : Fin 8) : tab (Host.cos T) (ix4 0 s 0 i) = Ideal.cos (T (ix2 s i)) := by
  pointwise [tab]
theorem sin_at (T : FVec Ideal S8192x8 .f32) (s : Fin 8192) (i : Fin 8) : tab (Host.sin T) (ix4 0 s 0 i) = Ideal.sin (T (ix2 s i)) := by
  pointwise [tab]

theorem rot_at (N : FVec Ideal S2x8192x8x32 .f32) (R K : FVec Ideal S8192x8 .f32) (b : Fin 2) (s : Fin 8192) (n : Fin 256) :
    rot N R K (ix3 b s n) = rope (fun n => N (ix4 b s ⟨n.val / 32, by omega⟩ ⟨n.val % 32, by omega⟩))
      (fun n => if n.val % 32 < 16 then R (ix2 s ⟨n.val % 8, by omega⟩) else K (ix2 s ⟨n.val % 8, by omega⟩)) n := by
  unfold rot rope partner
  by_cases h1 : n.val % 32 < 16
  · rw [join_lo _ _ b s n h1]
    simp only [if_pos h1]
    by_cases h2 : n.val % 16 < 8
    · rw [turn_lo _ _ _ _ b s _ _ (by simp only; omega), fst_fst, snd_fst, cos_at, sin_at, lo_eq]
      simp only [if_pos h2]
      rw [T_congr R s (i := ⟨n.val % 32, _⟩) (i' := ⟨n.val % 8, by omega⟩) (by simp only; omega)]
      refine Ideal.add_congr rfl (Ideal.mul_congr (N_congr N b s ?_ ?_) rfl) <;> first | rfl | (simp only; omega)
    · rw [turn_hi _ _ _ _ b s _ _ (by simp only; omega), fst_fst, snd_fst, cos_at, sin_at, hi_eq]
      simp only [if_neg h2]
      rw [T_congr R s (i := ⟨n.val % 32 - 8, _⟩) (i' := ⟨n.val % 8, by omega⟩) (by simp only; omega)]
      refine Ideal.add_congr (Ideal.mul_congr (N_congr N b s ?_ ?_) rfl) (Ideal.mul_congr (N_congr N b s ?_ ?_) rfl) <;> first | rfl | (simp only; omega)
  · rw [join_hi _ _ b s n h1]
    simp only [if_neg h1]
    by_cases h2 : n.val % 16 < 8
    · rw [turn_lo _ _ _ _ b s _ _ (by simp only; omega), fst_snd, snd_snd, cos_at, sin_at, lo_eq]
      simp only [if_pos h2]
      rw [T_congr K s (i := ⟨n.val % 32 - 16, _⟩) (i' := ⟨n.val % 8, by omega⟩) (by simp only; omega)]
      refine Ideal.add_congr (Ideal.mul_congr (N_congr N b s ?_ ?_) rfl) (Ideal.mul_congr (N_congr N b s ?_ ?_) rfl) <;> first | rfl | (simp only; omega)
    · rw [turn_hi _ _ _ _ b s _ _ (by simp only; omega), fst_snd, snd_snd, cos_at, sin_at, hi_eq]
      simp only [if_neg h2]
      rw [T_congr K s (i := ⟨n.val % 32 - 16 - 8, _⟩) (i' := ⟨n.val % 8, by omega⟩) (by simp only; omega)]
      refine Ideal.add_congr (Ideal.mul_congr (N_congr N b s ?_ ?_) rfl) (Ideal.mul_congr (N_congr N b s ?_ ?_) rfl) <;> first | rfl | (simp only; omega)

/-- The scaled queries of the first heads, laid flat. -/
def flatNq (q : FVec Ideal S2x8192x8x64 .f32) : FVec Ideal S2x8192x512 .bf16 :=
  truncf .bf16 (shapeCast _ (mulf q (broadcastInDim S2x8192x8x64 ![] bcast_S_S2x8192x8x64 (constant S_ .f32 0x3E000000#32))) shapeCasts_S2x8192x8x64_S2x8192x512) bitsLt_bf16_f32
/-- The keys of the first heads, laid flat. -/
def flatNk (q : FVec Ideal S2x8192x8x64 .f32) : FVec Ideal S2x8192x512 .bf16 :=
  truncf .bf16 (shapeCast _ q shapeCasts_S2x8192x8x64_S2x8192x512) bitsLt_bf16_f32
/-- The values of the first heads. -/
def flatNv (P : FVec Ideal S2x8192x2560 .f32) : FVec Ideal S2x8192x512 .bf16 :=
  truncf .bf16 (extractStridedSlice S2x8192x512 ![0, 0, 1024] P slices_S2x8192x2560_S2x8192x512_0_0_1024) bitsLt_bf16_f32
/-- The scaled rotated queries of the second heads, channels first. -/
def flatDq (N : FVec Ideal S2x8192x8x32 .f32) (R K : FVec Ideal S8192x8 .f32) : FVec Ideal S2x256x8192 .bf16 :=
  truncf .bf16 (transpose S2x256x8192 [0, 2, 1] (Host.divf (rot N R K) (broadcastInDim S2x8192x256 ![] bcast_S_S2x8192x256 (mulf (Host.sqrt (constant S_ .f32 0x42000000#32)) (Host.log (constant S_ .f32 0x40000000#32))))) transposes_S2x8192x256_S2x256x8192_0_2_1) bitsLt_bf16_f32
/-- The values of the second heads, tile by tile, channels first. -/
def flatDv (P : FVec Ideal S2x8192x2560 .f32) : FVec Ideal S2x16x256x512 .bf16 :=
  truncf .bf16 (transpose S2x16x256x512 [0, 1, 3, 2] (shapeCast _ (extractStridedSlice S2x8192x256 ![0, 0, 2048] P slices_S2x8192x2560_S2x8192x256_0_0_2048) shapeCasts_S2x8192x256_S2x16x512x256) transposes_S2x16x512x256_S2x16x256x512_0_1_3_2) bitsLt_bf16_f32
/-- The gate. -/
def flatFu (P : FVec Ideal S2x8192x2560 .f32) : FVec Ideal S2x8192x256 .f32 :=
  extractStridedSlice S2x8192x256 ![0, 0, 2304] P slices_S2x8192x2560_S2x8192x256_0_0_2304

theorem flatNq_at (q : FVec Ideal S2x8192x8x64 .f32) (b : Fin 2) (s : Fin 8192) (n : Fin 512) :
    flatNq q (ix3 b s n) = q (ix4 b s ⟨n.val / 64, by omega⟩ ⟨n.val % 64, by omega⟩) * Ideal.ofBits .f32 0x3E000000#32 := by
  pointwise [flatNq]
theorem flatNk_at (q : FVec Ideal S2x8192x8x64 .f32) (b : Fin 2) (s : Fin 8192) (n : Fin 512) :
    flatNk q (ix3 b s n) = q (ix4 b s ⟨n.val / 64, by omega⟩ ⟨n.val % 64, by omega⟩) := by
  pointwise [flatNk]
theorem flatNv_at (P : FVec Ideal S2x8192x2560 .f32) (b : Fin 2) (s : Fin 8192) (n : Fin 512) :
    flatNv P (ix3 b s n) = P (ix3 b s ⟨1024 + n.val, by omega⟩) := by
  pointwise [flatNv]
theorem flatFu_at (P : FVec Ideal S2x8192x2560 .f32) (b : Fin 2) (s : Fin 8192) (n : Fin 256) :
    flatFu P (ix3 b s n) = P (ix3 b s ⟨2304 + n.val, by omega⟩) := by
  pointwise [flatFu]
theorem flatDv_at (P : FVec Ideal S2x8192x2560 .f32) (b : Fin 2) (j : Fin 16) (n : Fin 256) (r : Fin 512) :
    flatDv P (ix4 b j n r) = P (ix3 b ⟨512 * j.val + r.val, by omega⟩ ⟨2048 + n.val, by omega⟩) := by
  pointwise [flatDv]
  all_goals exact congrArg (fun k => P (ix3 b k _)) (Fin.ext (by simp only; omega))

theorem div_scale (x : EReal) : Ideal.div x (Ideal.sqrt (Ideal.ofBits .f32 0x42000000#32) * Ideal.log (Ideal.ofBits .f32 0x40000000#32))
    = x * (((Real.sqrt 32 * Real.log 2)⁻¹ : ℝ) : EReal) := by
  have e32 : Ideal.ofBits .f32 0x42000000#32 = ((32 : ℝ) : EReal) := Cert.ProjIdeal.In.w32
  have e2 : Ideal.ofBits .f32 0x40000000#32 = ((2 : ℝ) : EReal) := by
    simp [Ideal.ofBits, Ideal.ieee]; rw [← EReal.coe_mul]; norm_num
  have p0 : 0 < Real.sqrt 32 := Real.sqrt_pos.mpr (by norm_num)
  have p1 : 0 < Real.log 2 := Real.log_pos (by norm_num)
  have s : Ideal.sqrt ((32 : ℝ) : EReal) = ((Real.sqrt 32 : ℝ) : EReal) := by
    show (if (32 : ℝ) < 0 then _ else _) = _
    rw [if_neg (by norm_num)]
  have l : Ideal.log ((2 : ℝ) : EReal) = ((Real.log 2 : ℝ) : EReal) := by
    show (if (2 : ℝ) ≤ 0 then _ else _) = _
    rw [if_neg (by norm_num)]
  rw [e32, e2, s, l, ← EReal.coe_mul]
  unfold Ideal.div
  rw [if_neg (fun h => (mul_pos p0 p1).ne' (EReal.coe_eq_zero.mp h)), EReal.coe_inv]

theorem flatDq_at (N : FVec Ideal S2x8192x8x32 .f32) (R K : FVec Ideal S8192x8 .f32) (b : Fin 2) (n : Fin 256) (s : Fin 8192) :
    flatDq N R K (ix3 b n s) = rot N R K (ix3 b s n) * (((Real.sqrt 32 * Real.log 2)⁻¹ : ℝ) : EReal) := by
  pointwise [flatDq]
  exact div_scale _

theorem headsNq (A0 : FVec Ideal S2x8192x1024 .f32) (A1 A2 : FVec Ideal S2x1x1024 .f32) (A3 : FVec Ideal S1024 .f32) (A4 : FVec Ideal S1024x2560 .f32) (g : FVec Ideal S64 .f32) (b : Fin 2) (s : Fin 8192) (n : Fin 512) :
    nr64 (cutNq (proj A0 A1 A2 A3 A4)) g (ix4 b s ⟨n.val / 64, by omega⟩ ⟨n.val % 64, by omega⟩) = nrm64 (pA A0 A1 A2 A3 A4 0 512 (by norm_num) b s) (fun i => g (ix1 i)) n := by
  have e : ∀ (j : Fin 64), cutNq (proj A0 A1 A2 A3 A4) (ix4 b s ⟨n.val / 64, by omega⟩ j) = pA A0 A1 A2 A3 A4 0 512 (by norm_num) b s ⟨n.val / 64 * 64 + j.val, by omega⟩ := fun j => by
    rw [cutNq_at, proj_at]
    rfl
  have en : (⟨n.val / 64 * 64 + n.val % 64, by omega⟩ : Fin 512) = n := Fin.ext (by simp only; omega)
  rw [nr64_at]
  simp only [e]
  unfold nrm64 mean64
  rw [en]

theorem headsNk (A0 : FVec Ideal S2x8192x1024 .f32) (A1 A2 : FVec Ideal S2x1x1024 .f32) (A3 : FVec Ideal S1024 .f32) (A4 : FVec Ideal S1024x2560 .f32) (g : FVec Ideal S64 .f32) (b : Fin 2) (s : Fin 8192) (n : Fin 512) :
    nr64 (cutNk (proj A0 A1 A2 A3 A4)) g (ix4 b s ⟨n.val / 64, by omega⟩ ⟨n.val % 64, by omega⟩) = nrm64 (pA A0 A1 A2 A3 A4 512 512 (by norm_num) b s) (fun i => g (ix1 i)) n := by
  have e : ∀ (j : Fin 64), cutNk (proj A0 A1 A2 A3 A4) (ix4 b s ⟨n.val / 64, by omega⟩ j) = pA A0 A1 A2 A3 A4 512 512 (by norm_num) b s ⟨n.val / 64 * 64 + j.val, by omega⟩ := fun j => by
    rw [cutNk_at, proj_at]
    rfl
  have en : (⟨n.val / 64 * 64 + n.val % 64, by omega⟩ : Fin 512) = n := Fin.ext (by simp only; omega)
  rw [nr64_at]
  simp only [e]
  unfold nrm64 mean64
  rw [en]

theorem headsDq (A0 : FVec Ideal S2x8192x1024 .f32) (A1 A2 : FVec Ideal S2x1x1024 .f32) (A3 : FVec Ideal S1024 .f32) (A4 : FVec Ideal S1024x2560 .f32) (g : FVec Ideal S32 .f32) (b : Fin 2) (s : Fin 8192) (n : Fin 256) :
    nr32 (cutDq (proj A0 A1 A2 A3 A4)) g (ix4 b s ⟨n.val / 32, by omega⟩ ⟨n.val % 32, by omega⟩) = nrm32 (pA A0 A1 A2 A3 A4 1536 256 (by norm_num) b s) (fun i => g (ix1 i)) n := by
  have e : ∀ (j : Fin 32), cutDq (proj A0 A1 A2 A3 A4) (ix4 b s ⟨n.val / 32, by omega⟩ j) = pA A0 A1 A2 A3 A4 1536 256 (by norm_num) b s ⟨n.val / 32 * 32 + j.val, by omega⟩ := fun j => by
    rw [cutDq_at, proj_at]
    rfl
  have en : (⟨n.val / 32 * 32 + n.val % 32, by omega⟩ : Fin 256) = n := Fin.ext (by simp only; omega)
  rw [nr32_at]
  simp only [e]
  unfold nrm32 mean32
  rw [en]

theorem headsDk (A0 : FVec Ideal S2x8192x1024 .f32) (A1 A2 : FVec Ideal S2x1x1024 .f32) (A3 : FVec Ideal S1024 .f32) (A4 : FVec Ideal S1024x2560 .f32) (g : FVec Ideal S32 .f32) (b : Fin 2) (s : Fin 8192) (n : Fin 256) :
    nr32 (cutDk (proj A0 A1 A2 A3 A4)) g (ix4 b s ⟨n.val / 32, by omega⟩ ⟨n.val % 32, by omega⟩) = nrm32 (pA A0 A1 A2 A3 A4 1792 256 (by norm_num) b s) (fun i => g (ix1 i)) n := by
  have e : ∀ (j : Fin 32), cutDk (proj A0 A1 A2 A3 A4) (ix4 b s ⟨n.val / 32, by omega⟩ j) = pA A0 A1 A2 A3 A4 1792 256 (by norm_num) b s ⟨n.val / 32 * 32 + j.val, by omega⟩ := fun j => by
    rw [cutDk_at, proj_at]
    rfl
  have en : (⟨n.val / 32 * 32 + n.val % 32, by omega⟩ : Fin 256) = n := Fin.ext (by simp only; omega)
  rw [nr32_at]
  simp only [e]
  unfold nrm32 mean32
  rw [en]

theorem refNq (A0 : FVec Ideal S2x8192x1024 .f32) (A1 A2 : FVec Ideal S2x1x1024 .f32) (A3 : FVec Ideal S1024 .f32) (A4 : FVec Ideal S1024x2560 .f32) (g : FVec Ideal S64 .f32) : flatNq (nr64 (cutNq (proj A0 A1 A2 A3 A4)) g) = Cert.ProjIdeal.In.resNq A0 A1 A2 A3 A4 g := by
  funext y
  refine (congrArg _ (eq_ix3 y)).trans ((flatNq_at _ (y 0) (y 1) (y 2)).trans ?_)
  exact congrArg (· * _) (headsNq A0 A1 A2 A3 A4 g (y 0) (y 1) (y 2))

theorem refNk (A0 : FVec Ideal S2x8192x1024 .f32) (A1 A2 : FVec Ideal S2x1x1024 .f32) (A3 : FVec Ideal S1024 .f32) (A4 : FVec Ideal S1024x2560 .f32) (g : FVec Ideal S64 .f32) : flatNk (nr64 (cutNk (proj A0 A1 A2 A3 A4)) g) = Cert.ProjIdeal.In.resNk A0 A1 A2 A3 A4 g := by
  funext y
  refine (congrArg _ (eq_ix3 y)).trans ((flatNk_at _ (y 0) (y 1) (y 2)).trans ?_)
  exact headsNk A0 A1 A2 A3 A4 g (y 0) (y 1) (y 2)

theorem refNv (A0 : FVec Ideal S2x8192x1024 .f32) (A1 A2 : FVec Ideal S2x1x1024 .f32) (A3 : FVec Ideal S1024 .f32) (A4 : FVec Ideal S1024x2560 .f32) : flatNv (proj A0 A1 A2 A3 A4) = Cert.ProjIdeal.In.resNv A0 A1 A2 A3 A4 := by
  funext y
  refine (congrArg _ (eq_ix3 y)).trans ((flatNv_at _ (y 0) (y 1) (y 2)).trans ?_)
  exact proj_at A0 A1 A2 A3 A4 _ _ _

theorem refFu (A0 : FVec Ideal S2x8192x1024 .f32) (A1 A2 : FVec Ideal S2x1x1024 .f32) (A3 : FVec Ideal S1024 .f32) (A4 : FVec Ideal S1024x2560 .f32) : flatFu (proj A0 A1 A2 A3 A4) = Cert.ProjIdeal.In.resFu A0 A1 A2 A3 A4 := by
  funext y
  refine (congrArg _ (eq_ix3 y)).trans ((flatFu_at _ (y 0) (y 1) (y 2)).trans ?_)
  exact proj_at A0 A1 A2 A3 A4 _ _ _

theorem refDv (A0 : FVec Ideal S2x8192x1024 .f32) (A1 A2 : FVec Ideal S2x1x1024 .f32) (A3 : FVec Ideal S1024 .f32) (A4 : FVec Ideal S1024x2560 .f32) : flatDv (proj A0 A1 A2 A3 A4) = Cert.ProjIdeal.In.resDv A0 A1 A2 A3 A4 := by
  funext y
  refine (congrArg _ (eq_ix4 y)).trans ((flatDv_at _ (y 0) (y 1) (y 2) (y 3)).trans ?_)
  exact proj_at A0 A1 A2 A3 A4 _ _ _

theorem ropeDq (A0 : FVec Ideal S2x8192x1024 .f32) (A1 A2 : FVec Ideal S2x1x1024 .f32) (A3 : FVec Ideal S1024 .f32) (A4 : FVec Ideal S1024x2560 .f32) (g : FVec Ideal S32 .f32) (b : Fin 2) (s : Fin 8192) (n : Fin 256) :
    rot (nr32 (cutDq (proj A0 A1 A2 A3 A4)) g) (angle rowW) (angle colW) (ix3 b s n)
      = rope (nrm32 (pA A0 A1 A2 A3 A4 1536 256 (by norm_num) b s) (fun i => g (ix1 i))) (angAt s) n := by
  refine (rot_at _ _ _ b s n).trans ?_
  simp only [headsDq]
  rfl

theorem ropeDk (A0 : FVec Ideal S2x8192x1024 .f32) (A1 A2 : FVec Ideal S2x1x1024 .f32) (A3 : FVec Ideal S1024 .f32) (A4 : FVec Ideal S1024x2560 .f32) (g : FVec Ideal S32 .f32) (b : Fin 2) (s : Fin 8192) (n : Fin 256) :
    rot (nr32 (cutDk (proj A0 A1 A2 A3 A4)) g) (angle rowW) (angle colW) (ix3 b s n)
      = rope (nrm32 (pA A0 A1 A2 A3 A4 1792 256 (by norm_num) b s) (fun i => g (ix1 i))) (angAt s) n := by
  refine (rot_at _ _ _ b s n).trans ?_
  simp only [headsDk]
  rfl

theorem refDq (A0 : FVec Ideal S2x8192x1024 .f32) (A1 A2 : FVec Ideal S2x1x1024 .f32) (A3 : FVec Ideal S1024 .f32) (A4 : FVec Ideal S1024x2560 .f32) (g : FVec Ideal S32 .f32) : flatDq (nr32 (cutDq (proj A0 A1 A2 A3 A4)) g) (angle rowW) (angle colW) = Cert.ProjIdeal.In.resDq A0 A1 A2 A3 A4 g := by
  funext y
  refine (congrArg _ (eq_ix3 y)).trans ((flatDq_at _ _ _ (y 0) (y 1) (y 2)).trans ?_)
  exact congrArg (· * _) (ropeDq A0 A1 A2 A3 A4 g (y 0) (y 2) (y 1))

theorem refDk (A0 : FVec Ideal S2x8192x1024 .f32) (A1 A2 : FVec Ideal S2x1x1024 .f32) (A3 : FVec Ideal S1024 .f32) (A4 : FVec Ideal S1024x2560 .f32) (g : FVec Ideal S32 .f32) :
    (truncf .bf16 (rot (nr32 (cutDk (proj A0 A1 A2 A3 A4)) g) (angle rowW) (angle colW)) bitsLt_bf16_f32 : FVec Ideal S2x8192x256 .bf16) = Cert.ProjIdeal.In.resDk A0 A1 A2 A3 A4 g := by
  funext y
  refine (congrArg _ (eq_ix3 y)).trans ?_
  exact ropeDk A0 A1 A2 A3 A4 g (y 0) (y 1) (y 2)

section Results

open Cert.ProjReferenceIdeal.Value Idealize.ShloMosaic.StableHlo

variable (m : (ℓ : Loc nD τ Cert.ProjReferenceIdeal.sig) → Buf (Elt Ideal) ℓ)

theorem p_is (c : Dev nD) : res_main_v22 (launchContents m c) = proj (m ((c : Thread nD τ).loc main_arg0)) (m ((c : Thread nD τ).loc main_arg1)) (m ((c : Thread nD τ).loc main_arg2)) (m ((c : Thread nD τ).loc main_arg3)) (m ((c : Thread nD τ).loc main_arg4)) := rfl
theorem row_is (c : Dev nD) : res_main_v87 (launchContents m c) = angle rowW := rfl
theorem col_is (c : Dev nD) : res_main_v121 (launchContents m c) = angle colW := rfl
theorem row_is' (c : Dev nD) : res_main_v171 (launchContents m c) = angle rowW := rfl
theorem col_is' (c : Dev nD) : res_main_v205 (launchContents m c) = angle colW := rfl
theorem nq_is (c : Dev nD) : res_main_v24 (launchContents m c) = cutNq (res_main_v22 (launchContents m c)) := rfl
theorem nk_is (c : Dev nD) : res_main_v41 (launchContents m c) = cutNk (res_main_v22 (launchContents m c)) := rfl
theorem dq_is (c : Dev nD) : res_main_v70 (launchContents m c) = nr32 (cutDq (res_main_v22 (launchContents m c))) (m ((c : Thread nD τ).loc main_arg7)) := rfl
theorem dk_is (c : Dev nD) : res_main_v154 (launchContents m c) = nr32 (cutDk (res_main_v22 (launchContents m c))) (m ((c : Thread nD τ).loc main_arg8)) := rfl

theorem outNq (c : Dev nD) : (truncf .bf16 (shapeCast _ (mulf (mulf (mulf (res_main_v24 (launchContents m c)) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (res_main_v24 (launchContents m c)) (res_main_v24 (launchContents m c))) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 ((launchContents m c) (Proc.devRef .tc main_arg5))))) (broadcastInDim S2x8192x8x64 ![] bcast_S_S2x8192x8x64 (constant S_ .f32 0x3E000000#32))) shapeCasts_S2x8192x8x64_S2x8192x512) bitsLt_bf16_f32) = Cert.ProjIdeal.In.resNq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans (b := flatNq (nr64 (res_main_v24 (launchContents m c)) (m ((c : Thread nD τ).loc main_arg5)))) rfl ?_
  rw [nq_is, p_is]
  exact refNq _ _ _ _ _ _

theorem outNk (c : Dev nD) : (truncf .bf16 (shapeCast _ (mulf (mulf (res_main_v41 (launchContents m c)) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (res_main_v41 (launchContents m c)) (res_main_v41 (launchContents m c))) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 ((launchContents m c) (Proc.devRef .tc main_arg6))))) shapeCasts_S2x8192x8x64_S2x8192x512) bitsLt_bf16_f32) = Cert.ProjIdeal.In.resNk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine Eq.trans (b := flatNk (nr64 (res_main_v41 (launchContents m c)) (m ((c : Thread nD τ).loc main_arg6)))) rfl ?_
  rw [nk_is, p_is]
  exact refNk _ _ _ _ _ _

theorem outNv (c : Dev nD) : (truncf .bf16 (extractStridedSlice S2x8192x512 ![0, 0, 1024] (res_main_v22 (launchContents m c)) slices_S2x8192x2560_S2x8192x512_0_0_1024) bitsLt_bf16_f32) = Cert.ProjIdeal.In.resNv (m ((c : Thread nD τ).loc main_arg0)) (m ((c : Thread nD τ).loc main_arg1)) (m ((c : Thread nD τ).loc main_arg2)) (m ((c : Thread nD τ).loc main_arg3)) (m ((c : Thread nD τ).loc main_arg4))  := by
  refine Eq.trans (b := flatNv (res_main_v22 (launchContents m c))) rfl ?_
  rw [p_is]
  exact refNv _ _ _ _ _

theorem outDq (c : Dev nD) : (truncf .bf16 (transpose S2x256x8192 [0, 2, 1] (Host.divf (shapeCast _ (concatenate S2x8192x8x32 3 [⟨S2x8192x8x16, (concatenate S2x8192x8x16 3 [⟨S2x8192x8x8, (subf (mulf (res_main_v92 (launchContents m c)) (broadcastInDim S2x8192x8x8 ![0, 1, 2, 3] bcast_S1x8192x1x8_S2x8192x8x8_0_1_2_3 (res_main_v89 (launchContents m c)))) (mulf (res_main_v93 (launchContents m c)) (broadcastInDim S2x8192x8x8 ![0, 1, 2, 3] bcast_S1x8192x1x8_S2x8192x8x8_0_1_2_3 (res_main_v91 (launchContents m c)))))⟩, ⟨S2x8192x8x8, (addf (mulf (res_main_v92 (launchContents m c)) (broadcastInDim S2x8192x8x8 ![0, 1, 2, 3] bcast_S1x8192x1x8_S2x8192x8x8_0_1_2_3 (res_main_v91 (launchContents m c)))) (mulf (res_main_v93 (launchContents m c)) (broadcastInDim S2x8192x8x8 ![0, 1, 2, 3] bcast_S1x8192x1x8_S2x8192x8x8_0_1_2_3 (res_main_v89 (launchContents m c)))))⟩] concatenates_S2x8192x8x8_S2x8192x8x8_S2x8192x8x16_d3)⟩, ⟨S2x8192x8x16, (concatenate S2x8192x8x16 3 [⟨S2x8192x8x8, (subf (mulf (res_main_v126 (launchContents m c)) (broadcastInDim S2x8192x8x8 ![0, 1, 2, 3] bcast_S1x8192x1x8_S2x8192x8x8_0_1_2_3 (res_main_v123 (launchContents m c)))) (mulf (res_main_v127 (launchContents m c)) (broadcastInDim S2x8192x8x8 ![0, 1, 2, 3] bcast_S1x8192x1x8_S2x8192x8x8_0_1_2_3 (res_main_v125 (launchContents m c)))))⟩, ⟨S2x8192x8x8, (addf (mulf (res_main_v126 (launchContents m c)) (broadcastInDim S2x8192x8x8 ![0, 1, 2, 3] bcast_S1x8192x1x8_S2x8192x8x8_0_1_2_3 (res_main_v125 (launchContents m c)))) (mulf (res_main_v127 (launchContents m c)) (broadcastInDim S2x8192x8x8 ![0, 1, 2, 3] bcast_S1x8192x1x8_S2x8192x8x8_0_1_2_3 (res_main_v123 (launchContents m c)))))⟩] concatenates_S2x8192x8x8_S2x8192x8x8_S2x8192x8x16_d3)⟩] concatenates_S2x8192x8x16_S2x8192x8x16_S2x8192x8x32_d3) shapeCasts_S2x8192x8x32_S2x8192x256) (broadcastInDim S2x8192x256 ![] bcast_S_S2x8192x256 (mulf (Host.sqrt (constant S_ .f32 0x42000000#32)) (Host.log (constant S_ .f32 0x40000000#32))))) transposes_S2x8192x256_S2x256x8192_0_2_1) bitsLt_bf16_f32) = Cert.ProjIdeal.In.resDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine Eq.trans (b := flatDq (res_main_v70 (launchContents m c)) (res_main_v87 (launchContents m c)) (res_main_v121 (launchContents m c))) rfl ?_
  rw [dq_is, p_is, row_is, col_is]
  exact refDq _ _ _ _ _ _

theorem outDk (c : Dev nD) : (truncf .bf16 (shapeCast _ (concatenate S2x8192x8x32 3 [⟨S2x8192x8x16, (concatenate S2x8192x8x16 3 [⟨S2x8192x8x8, (subf (mulf (res_main_v176 (launchContents m c)) (broadcastInDim S2x8192x8x8 ![0, 1, 2, 3] bcast_S1x8192x1x8_S2x8192x8x8_0_1_2_3 (res_main_v173 (launchContents m c)))) (mulf (res_main_v177 (launchContents m c)) (broadcastInDim S2x8192x8x8 ![0, 1, 2, 3] bcast_S1x8192x1x8_S2x8192x8x8_0_1_2_3 (res_main_v175 (launchContents m c)))))⟩, ⟨S2x8192x8x8, (addf (mulf (res_main_v176 (launchContents m c)) (broadcastInDim S2x8192x8x8 ![0, 1, 2, 3] bcast_S1x8192x1x8_S2x8192x8x8_0_1_2_3 (res_main_v175 (launchContents m c)))) (mulf (res_main_v177 (launchContents m c)) (broadcastInDim S2x8192x8x8 ![0, 1, 2, 3] bcast_S1x8192x1x8_S2x8192x8x8_0_1_2_3 (res_main_v173 (launchContents m c)))))⟩] concatenates_S2x8192x8x8_S2x8192x8x8_S2x8192x8x16_d3)⟩, ⟨S2x8192x8x16, (concatenate S2x8192x8x16 3 [⟨S2x8192x8x8, (subf (mulf (res_main_v210 (launchContents m c)) (broadcastInDim S2x8192x8x8 ![0, 1, 2, 3] bcast_S1x8192x1x8_S2x8192x8x8_0_1_2_3 (res_main_v207 (launchContents m c)))) (mulf (res_main_v211 (launchContents m c)) (broadcastInDim S2x8192x8x8 ![0, 1, 2, 3] bcast_S1x8192x1x8_S2x8192x8x8_0_1_2_3 (res_main_v209 (launchContents m c)))))⟩, ⟨S2x8192x8x8, (addf (mulf (res_main_v210 (launchContents m c)) (broadcastInDim S2x8192x8x8 ![0, 1, 2, 3] bcast_S1x8192x1x8_S2x8192x8x8_0_1_2_3 (res_main_v209 (launchContents m c)))) (mulf (res_main_v211 (launchContents m c)) (broadcastInDim S2x8192x8x8 ![0, 1, 2, 3] bcast_S1x8192x1x8_S2x8192x8x8_0_1_2_3 (res_main_v207 (launchContents m c)))))⟩] concatenates_S2x8192x8x8_S2x8192x8x8_S2x8192x8x16_d3)⟩] concatenates_S2x8192x8x16_S2x8192x8x16_S2x8192x8x32_d3) shapeCasts_S2x8192x8x32_S2x8192x256) bitsLt_bf16_f32) = Cert.ProjIdeal.In.resDk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine Eq.trans (b := (truncf .bf16 (rot (res_main_v154 (launchContents m c)) (res_main_v171 (launchContents m c)) (res_main_v205 (launchContents m c))) bitsLt_bf16_f32 : FVec Ideal S2x8192x256 .bf16)) rfl ?_
  rw [dk_is, p_is, row_is', col_is']
  exact refDk _ _ _ _ _ _

theorem outDv (c : Dev nD) : (truncf .bf16 (transpose S2x16x256x512 [0, 1, 3, 2] (shapeCast _ (extractStridedSlice S2x8192x256 ![0, 0, 2048] (res_main_v22 (launchContents m c)) slices_S2x8192x2560_S2x8192x256_0_0_2048) shapeCasts_S2x8192x256_S2x16x512x256) transposes_S2x16x512x256_S2x16x256x512_0_1_3_2) bitsLt_bf16_f32) = Cert.ProjIdeal.In.resDv (m ((c : Thread nD τ).loc main_arg0)) (m ((c : Thread nD τ).loc main_arg1)) (m ((c : Thread nD τ).loc main_arg2)) (m ((c : Thread nD τ).loc main_arg3)) (m ((c : Thread nD τ).loc main_arg4))  := by
  refine Eq.trans (b := flatDv (res_main_v22 (launchContents m c))) rfl ?_
  rw [p_is]
  exact refDv _ _ _ _ _

theorem outFu (c : Dev nD) : (extractStridedSlice S2x8192x256 ![0, 0, 2304] (res_main_v22 (launchContents m c)) slices_S2x8192x2560_S2x8192x256_0_0_2304) = Cert.ProjIdeal.In.resFu (m ((c : Thread nD τ).loc main_arg0)) (m ((c : Thread nD τ).loc main_arg1)) (m ((c : Thread nD τ).loc main_arg2)) (m ((c : Thread nD τ).loc main_arg3)) (m ((c : Thread nD τ).loc main_arg4))  := by
  refine Eq.trans (b := flatFu (res_main_v22 (launchContents m c))) rfl ?_
  rw [p_is]
  exact refFu _ _ _ _ _

end Results

end Cert.ProjReferenceIdeal.In

end
-- ==== Proof.ProjClaim.lean ====
/- The claims about the input projection. -/
module

public import proofs.«01_k».proof.Defs
public import proofs.«01_k».proof.Proof.ProjRef
public import proofs.«01_k».proof.Proof.Gen.Proj.Frame
public import Idealize.ShloMosaic.Lib.Claim

@[expose] public section

set_option maxRecDepth 16384

noncomputable section

open Idealize.ShloMosaic Idealize.ShloMosaic.TcCoe Idealize.SL.Sem
open scoped BigOperators

namespace Cert.ProjIn

theorem preserves : Cert.preserves_Proj_ProjIdeal :=
  IdealRules.named_const.statement Cert.ProjIdeal.κ "base_two_scale" .f32 0x3E8293EE#32 ((((Real.sqrt 32) * (Real.log 2))⁻¹ : ℝ) : EReal) rfl

theorem frame_reference : Cert.quiescent_ProjReferenceIdeal (hProjReferenceIdeal := Cert.ProjReferenceIdeal.Gen.facts) := by
  intro m g _
  exact (θ_run Cert.ProjReferenceIdeal.defs _ _).mono
    (fun r h => ⟨fun c => (h c).2.2.2.2.2.2.2, Idealize.ShloMosaic.sem_eq_zero_of_no_sems (by decide) r.2⟩)
    (Cert.ProjReferenceIdeal.Value.run m g)

theorem congrNq {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} {a5 b5 : FVec Ideal Cert.ProjIdeal.S64 .f32} (h0 : a0 = b0) (h1 : a1 = b1) (h2 : a2 = b2) (h3 : a3 = b3) (h4 : a4 = b4) (h5 : a5 = b5) :
    Cert.ProjIdeal.In.resNq a0 a1 a2 a3 a4 a5 = Cert.ProjIdeal.In.resNq b0 b1 b2 b3 b4 b5 := by
  subst h0 h1 h2 h3 h4 h5
  rfl

theorem congrNk {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} {a6 b6 : FVec Ideal Cert.ProjIdeal.S64 .f32} (h0 : a0 = b0) (h1 : a1 = b1) (h2 : a2 = b2) (h3 : a3 = b3) (h4 : a4 = b4) (h6 : a6 = b6) :
    Cert.ProjIdeal.In.resNk a0 a1 a2 a3 a4 a6 = Cert.ProjIdeal.In.resNk b0 b1 b2 b3 b4 b6 := by
  subst h0 h1 h2 h3 h4 h6
  rfl

theorem congrNv {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} (h0 : a0 = b0) (h1 : a1 = b1) (h2 : a2 = b2) (h3 : a3 = b3) (h4 : a4 = b4) :
    Cert.ProjIdeal.In.resNv a0 a1 a2 a3 a4 = Cert.ProjIdeal.In.resNv b0 b1 b2 b3 b4 := by
  subst h0 h1 h2 h3 h4
  rfl

theorem congrDq {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} {a7 b7 : FVec Ideal Cert.ProjIdeal.S32 .f32} (h0 : a0 = b0) (h1 : a1 = b1) (h2 : a2 = b2) (h3 : a3 = b3) (h4 : a4 = b4) (h7 : a7 = b7) :
    Cert.ProjIdeal.In.resDq a0 a1 a2 a3 a4 a7 = Cert.ProjIdeal.In.resDq b0 b1 b2 b3 b4 b7 := by
  subst h0 h1 h2 h3 h4 h7
  rfl

theorem congrDk {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} {a8 b8 : FVec Ideal Cert.ProjIdeal.S32 .f32} (h0 : a0 = b0) (h1 : a1 = b1) (h2 : a2 = b2) (h3 : a3 = b3) (h4 : a4 = b4) (h8 : a8 = b8) :
    Cert.ProjIdeal.In.resDk a0 a1 a2 a3 a4 a8 = Cert.ProjIdeal.In.resDk b0 b1 b2 b3 b4 b8 := by
  subst h0 h1 h2 h3 h4 h8
  rfl

theorem congrDv {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} (h0 : a0 = b0) (h1 : a1 = b1) (h2 : a2 = b2) (h3 : a3 = b3) (h4 : a4 = b4) :
    Cert.ProjIdeal.In.resDv a0 a1 a2 a3 a4 = Cert.ProjIdeal.In.resDv b0 b1 b2 b3 b4 := by
  subst h0 h1 h2 h3 h4
  rfl

theorem congrFu {a0 b0 : FVec Ideal Cert.ProjIdeal.S2x8192x1024 .f32} {a1 b1 : FVec Ideal Cert.ProjIdeal.S2x1x1024 .f32} {a2 b2 : FVec Ideal Cert.ProjIdeal.S2x1x1024 .f32} {a3 b3 : FVec Ideal Cert.ProjIdeal.S1024 .f32} {a4 b4 : FVec Ideal Cert.ProjIdeal.S1024x2560 .f32} (h0 : a0 = b0) (h1 : a1 = b1) (h2 : a2 = b2) (h3 : a3 = b3) (h4 : a4 = b4) :
    Cert.ProjIdeal.In.resFu a0 a1 a2 a3 a4 = Cert.ProjIdeal.In.resFu b0 b1 b2 b3 b4 := by
  subst h0 h1 h2 h3 h4
  rfl

/-- What the input projection's seven result arrays end holding, and its arguments unchanged. -/
theorem run_kernel (m : (ℓ : Loc Cert.ProjIdeal.nD Cert.ProjIdeal.τ Cert.ProjIdeal.sig) → Buf (Elt Ideal) ℓ) (g : Dev Cert.ProjIdeal.nD → PrngReg) :
    θ_run (Cert.ProjIdeal.defs (F := Ideal)) (onTc (τ := Cert.ProjIdeal.τ) (Cert.ProjIdeal.main (F := Ideal))) ⟨m, fun _ => 0, g⟩ (fun r => ∀ c : Dev Cert.ProjIdeal.nD,
      r.2.mem ((c.tc : Thread Cert.ProjIdeal.nD Cert.ProjIdeal.τ).loc Cert.ProjIdeal.main_v79_0) = Cert.ProjIdeal.In.resNq (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))
      ∧ r.2.mem ((c.tc : Thread Cert.ProjIdeal.nD Cert.ProjIdeal.τ).loc Cert.ProjIdeal.main_v79_1) = Cert.ProjIdeal.In.resNk (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg6))
      ∧ r.2.mem ((c.tc : Thread Cert.ProjIdeal.nD Cert.ProjIdeal.τ).loc Cert.ProjIdeal.main_v79_2) = Cert.ProjIdeal.In.resNv (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))
      ∧ r.2.mem ((c.tc : Thread Cert.ProjIdeal.nD Cert.ProjIdeal.τ).loc Cert.ProjIdeal.main_v79_3) = Cert.ProjIdeal.In.resDq (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg7))
      ∧ r.2.mem ((c.tc : Thread Cert.ProjIdeal.nD Cert.ProjIdeal.τ).loc Cert.ProjIdeal.main_v79_4) = Cert.ProjIdeal.In.resDk (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg8))
      ∧ r.2.mem ((c.tc : Thread Cert.ProjIdeal.nD Cert.ProjIdeal.τ).loc Cert.ProjIdeal.main_v79_5) = Cert.ProjIdeal.In.resDv (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))
      ∧ r.2.mem ((c.tc : Thread Cert.ProjIdeal.nD Cert.ProjIdeal.τ).loc Cert.ProjIdeal.main_v79_6) = Cert.ProjIdeal.In.resFu (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)) := by
  refine (θ_run Cert.ProjIdeal.defs _ _).mono (fun r h c => ?_) (θ_run_and (Cert.ProjIdeal.Gen.run_main m g) (Cert.ProjIdeal.Gen.frame m g))
  have h1 := (h.1 c).1
  exact ⟨(h1 13).trans (Cert.ProjIdeal.In.final13 m c), (h1 14).trans (Cert.ProjIdeal.In.final14 m c), (h1 15).trans (Cert.ProjIdeal.In.final15 m c), (h1 16).trans (Cert.ProjIdeal.In.final16 m c), (h1 17).trans (Cert.ProjIdeal.In.final17 m c), (h1 18).trans (Cert.ProjIdeal.In.final18 m c), (h1 19).trans (Cert.ProjIdeal.In.final19 m c), h.2.1 c⟩

theorem algebraic : Cert.algebraic_ProjIdeal_ProjReferenceIdeal (hProjIdeal := Cert.ProjIdeal.Gen.facts) (hProjReferenceIdeal := Cert.ProjReferenceIdeal.Gen.facts) := by
  intro m g m' g' hpre hagree
  refine ⟨fun c => Cert.ProjIdeal.In.resNq (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)), fun c => Cert.ProjIdeal.In.resNk (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg6)), fun c => Cert.ProjIdeal.In.resNv (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)), fun c => Cert.ProjIdeal.In.resDq (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)), fun c => Cert.ProjIdeal.In.resDk (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg8)), fun c => Cert.ProjIdeal.In.resDv (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)), fun c => Cert.ProjIdeal.In.resFu (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)), run_kernel m g, ?_⟩
  refine (θ_run Cert.ProjReferenceIdeal.defs _ _).mono (fun r h c => ?_) (Cert.ProjReferenceIdeal.Value.run m' g')
  obtain ⟨h0, h1, h2, h3, h4, h5, h6, h7, h8⟩ := hagree c
  obtain ⟨r0, r1, r2, r3, r4, r5, r6, hr⟩ := h c
  refine ⟨r0.trans ((Cert.ProjReferenceIdeal.In.outNq m' c).trans ?_), r1.trans ((Cert.ProjReferenceIdeal.In.outNk m' c).trans ?_), r2.trans ((Cert.ProjReferenceIdeal.In.outNv m' c).trans ?_), r3.trans ((Cert.ProjReferenceIdeal.In.outDq m' c).trans ?_), r4.trans ((Cert.ProjReferenceIdeal.In.outDk m' c).trans ?_), r5.trans ((Cert.ProjReferenceIdeal.In.outDv m' c).trans ?_), r6.trans ((Cert.ProjReferenceIdeal.In.outFu m' c).trans ?_), hr⟩
  · exact congrNq h0 h1 h2 h3 h4 h5
  · exact congrNk h0 h1 h2 h3 h4 h6
  · exact congrNv h0 h1 h2 h3 h4
  · exact congrDq h0 h1 h2 h3 h4 h7
  · exact congrDk h0 h1 h2 h3 h4 h8
  · exact congrDv h0 h1 h2 h3 h4
  · exact congrFu h0 h1 h2 h3 h4

end Cert.ProjIn

end
-- ==== Proof.lean ====
module

public import proofs.«01_k».proof.Defs
public import proofs.«01_k».proof.Proof.FfnClaim
public import proofs.«01_k».proof.Proof.Gen.Kernel.Frame
public import proofs.«01_k».proof.Proof.DiffClaim
public import proofs.«01_k».proof.Proof.ProjClaim

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Diff.Gen.facts, Cert.DiffIdeal.Gen.facts,
    Cert.DiffReferenceIdeal.Gen.facts, Cert.Proj.Gen.facts, Cert.ProjIdeal.Gen.facts, Cert.ProjReferenceIdeal.Gen.facts, Cert.Pre_finite2.facts,
    fun m g _ => Cert.Kernel.Gen.frame m g, fun m g _ => Cert.KernelIdeal.Gen.frame m g, Cert.Ffn.frame_reference,
    fun m g _ => Cert.Diff.Free.frame m g, fun m g _ => Cert.DiffIdeal.Free.frame m g, fun m g _ => Cert.DiffIdeal.Free.frame m g,
    Cert.DiffAtt.frame_reference, fun m g _ => Cert.DiffAtt.frame_reference m g trivial,
    fun m g _ => Cert.Proj.Gen.frame m g, fun m g _ => Cert.ProjIdeal.Gen.frame m g, Cert.ProjIn.frame_reference,
    trivial, Cert.Ffn.algebraic, Cert.DiffAtt.preserves, Cert.DiffAtt.algebraic, Cert.ProjIn.preserves, Cert.ProjIn.algebraic⟩

end Cert.Proof

end
